-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 64, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 64, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v54) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x4096 : Shape := ⟨2, ![768, 4096]⟩
abbrev S2x512x8x64 : Shape := ⟨4, ![2, 512, 8, 64]⟩
abbrev S4096x768 : Shape := ⟨2, ![4096, 768]⟩
abbrev S_ : Shape := ⟨0, ![]⟩
abbrev S768x512 : Shape := ⟨2, ![768, 512]⟩
abbrev S512x768 : Shape := ⟨2, ![512, 768]⟩
abbrev S2x8x512x64 : Shape := ⟨4, ![2, 8, 512, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x2x64x768 : Shape := ⟨4, ![8, 2, 64, 768]⟩
abbrev S7x2x64x768 : Shape := ⟨4, ![7, 2, 64, 768]⟩
abbrev S8 : Shape := ⟨1, ![8]⟩
abbrev S7 : Shape := ⟨1, ![7]⟩
abbrev S128x512 : Shape := ⟨2, ![128, 512]⟩
abbrev S1x128x768 : Shape := ⟨3, ![1, 128, 768]⟩
abbrev S128x768 : Shape := ⟨2, ![128, 768]⟩
abbrev S128x64 : Shape := ⟨2, ![128, 64]⟩
abbrev S1x1x512x64 : Shape := ⟨4, ![1, 1, 512, 64]⟩
abbrev S512x64 : Shape := ⟨2, ![512, 64]⟩
abbrev S128 : Shape := ⟨1, ![128]⟩
abbrev S128x1 : Shape := ⟨2, ![128, 1]⟩
abbrev S2x64x768 : Shape := ⟨3, ![2, 64, 768]⟩
abbrev S1x2x64x768 : Shape := ⟨4, ![1, 2, 64, 768]⟩
abbrev S1 : Shape := ⟨1, ![1]⟩

abbrev nBuf : Space → Nat
  | .hbm => 110
  | .vmem => 10
  | .smem => 0
  | _ => 0

abbrev bufTy : (tb : Table) → Fin (tcTables nBuf tb) → BufTy
  | .hbm, ⟨0, _⟩ => ⟨S2x512x768, .bf16⟩
  | .hbm, ⟨1, _⟩ => ⟨S768x4096, .bf16⟩
  | .hbm, ⟨2, _⟩ => ⟨S2x512x8x64, .bf16⟩
  | .hbm, ⟨3, _⟩ => ⟨S2x512x8x64, .bf16⟩
  | .hbm, ⟨4, _⟩ => ⟨S4096x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S768x512, .bf16⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S512x768, .bf16⟩
  | .hbm, ⟨29, _⟩ => ⟨S2x8x512x64, .bf16⟩
  | .hbm, ⟨30, _⟩ => ⟨S2x8x512x64, .bf16⟩
  | .hbm, ⟨31, _⟩ => ⟨S512, .i32⟩
  | .hbm, ⟨32, _⟩ => ⟨S_, .i32⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S_, .i32⟩
  | .hbm, ⟨38, _⟩ => ⟨S512, .i32⟩
  | .hbm, ⟨39, _⟩ => ⟨S512, .i1⟩
  | .hbm, ⟨40, _⟩ => ⟨S512, .i32⟩
  | .hbm, ⟨41, _⟩ => ⟨S512, .i32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S512, .i1⟩
  | .hbm, ⟨46, _⟩ => ⟨S_, .i32⟩
  | .hbm, ⟨47, _⟩ => ⟨S512, .i32⟩
  | .hbm, ⟨48, _⟩ => ⟨S512, .i32⟩
  | .hbm, ⟨49, _⟩ => ⟨S512, .i32⟩
  | .hbm, ⟨50, _⟩ => ⟨S512x1, .i32⟩
  | .hbm, ⟨51, _⟩ => ⟨S512, .i32⟩
  | .hbm, ⟨52, _⟩ => ⟨S_, .i32⟩
  | .hbm, ⟨53, _⟩ => ⟨S_, .i32⟩
  | .hbm, ⟨54, _⟩ => ⟨S512, .i32⟩
  | .hbm, ⟨55, _⟩ => ⟨S512, .i32⟩
  | .hbm, ⟨56, _⟩ => ⟨S512, .i32⟩
  | .hbm, ⟨57, _⟩ => ⟨S_, .i32⟩
  | .hbm, ⟨58, _⟩ => ⟨S512, .i32⟩
  | .hbm, ⟨59, _⟩ => ⟨S512, .i1⟩
  | .hbm, ⟨60, _⟩ => ⟨S512, .i32⟩
  | .hbm, ⟨61, _⟩ => ⟨S512, .i32⟩
  | .hbm, ⟨62, _⟩ => ⟨S_, .i32⟩
  | .hbm, ⟨63, _⟩ => ⟨S512, .i32⟩
  | .hbm, ⟨64, _⟩ => ⟨S512, .i1⟩
  | .hbm, ⟨65, _⟩ => ⟨S512, .i1⟩
  | .hbm, ⟨66, _⟩ => ⟨S_, .i32⟩
  | .hbm, ⟨67, _⟩ => ⟨S512, .i32⟩
  | .hbm, ⟨68, _⟩ => ⟨S512, .i32⟩
  | .hbm, ⟨69, _⟩ => ⟨S512, .i32⟩
  | .hbm, ⟨70, _⟩ => ⟨S1x512, .i32⟩
  | .hbm, ⟨71, _⟩ => ⟨S512x512, .i32⟩
  | .hbm, ⟨72, _⟩ => ⟨S512x512, .i32⟩
  | .hbm, ⟨73, _⟩ => ⟨S512x512, .i1⟩
  | .hbm, ⟨74, _⟩ => ⟨S_, .i32⟩
  | .hbm, ⟨75, _⟩ => ⟨S1x512, .i32⟩
  | .hbm, ⟨76, _⟩ => ⟨S1x512, .i1⟩
  | .hbm, ⟨77, _⟩ => ⟨S512x512, .i1⟩
  | .hbm, ⟨78, _⟩ => ⟨S512x512, .i1⟩
  | .hbm, ⟨79, _⟩ => ⟨S512x512, .i32⟩
  | .hbm, ⟨80, _⟩ => ⟨S512x512, .i32⟩
  | .hbm, ⟨81, _⟩ => ⟨S512x512, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S512x512, .i32⟩
  | .hbm, ⟨89, _⟩ => ⟨S512x512, .i32⟩
  | .hbm, ⟨90, _⟩ => ⟨S_, .i32⟩
  | .hbm, ⟨91, _⟩ => ⟨S512x512, .i32⟩
  | .hbm, ⟨92, _⟩ => ⟨S512x512, .i1⟩
  | .hbm, ⟨93, _⟩ => ⟨S_, .i32⟩
  | .hbm, ⟨94, _⟩ => ⟨S512x512, .i32⟩
  | .hbm, ⟨95, _⟩ => ⟨S512x512, .i1⟩
  | .hbm, ⟨96, _⟩ => ⟨S_, .i32⟩
  | .hbm, ⟨97, _⟩ => ⟨S_, .i1⟩
  | .hbm, ⟨98, _⟩ => ⟨S512x512, .i1⟩
  | .hbm, ⟨99, _⟩ => ⟨S512x512, .i1⟩
  | .hbm, ⟨100, _⟩ => ⟨S512x512, .i1⟩
  | .hbm, ⟨101, _⟩ => ⟨S512x512, .i32⟩
  | .hbm, ⟨102, _⟩ => ⟨S512x512, .i32⟩
  | .hbm, ⟨103, _⟩ => ⟨S512x512, .i32⟩
  | .hbm, ⟨104, _⟩ => ⟨S_, .i32⟩
  | .hbm, ⟨105, _⟩ => ⟨S512x512, .i32⟩
  | .hbm, ⟨106, _⟩ => ⟨S512x512, .i1⟩
  | .hbm, ⟨107, _⟩ => ⟨S512x512, .i1⟩
  | .hbm, ⟨108, _⟩ => ⟨S512x512, .f32⟩
  | .hbm, ⟨109, _⟩ => ⟨S2x512x768, .bf16⟩
  | .local _ .vmem, ⟨0, _⟩ => ⟨S2x512x768, .bf16⟩
  | .local _ .vmem, ⟨1, _⟩ => ⟨S768x512, .bf16⟩
  | .local _ .vmem, ⟨2, _⟩ => ⟨S2x8x512x64, .bf16⟩
  | .local _ .vmem, ⟨3, _⟩ => ⟨S2x8x512x64, .bf16⟩
  | .local _ .vmem, ⟨4, _⟩ => ⟨S512x768, .bf16⟩
  | .local _ .vmem, ⟨5, _⟩ => ⟨S512x512, .f32⟩
  | .local _ .vmem, ⟨6, _⟩ => ⟨S2x512x768, .bf16⟩
  | .local _ .vmem, ⟨7, _⟩ => ⟨S2x512x768, .f32⟩
  | .local _ .vmem, ⟨8, _⟩ => ⟨S8x2x64x768, .bf16⟩
  | .local _ .vmem, ⟨9, _⟩ => ⟨S7x2x64x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_9 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_c_10 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_c_11 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_c_12 : Ref sig .tc := ⟨.hbm, 82, rfl⟩
abbrev main_call2_v0 : Ref sig .tc := ⟨.hbm, 83, rfl⟩
abbrev main_call2_c : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_c_1 : Ref sig .tc := ⟨.hbm, 90, rfl⟩
abbrev main_call2_v5 : Ref sig .tc := ⟨.hbm, 91, rfl⟩
abbrev main_call2_v6 : Ref sig .tc := ⟨.hbm, 92, rfl⟩
abbrev main_call2_c_2 : Ref sig .tc := ⟨.hbm, 93, rfl⟩
abbrev main_call2_v7 : Ref sig .tc := ⟨.hbm, 94, rfl⟩
abbrev main_call2_v8 : Ref sig .tc := ⟨.hbm, 95, rfl⟩
abbrev main_call2_c_3 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_v33 : Ref sig .tc := ⟨.hbm, 103, rfl⟩
abbrev main_c_13 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_253 : BitVec 32 := 0#32
  let v395 : BitVec 1 := Scalar.cmpi .ne v2 c0_i32_253
  let v396 : BitVec 32 := Scalar.extui v395
  let c0_i32_254 : BitVec 32 := 0#32
  let v397 : BitVec 1 := Scalar.cmpi .ne v396 c0_i32_254
  v397

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1312 : BitVec 32 := 0#32
  let v1801 : BitVec 32 := Scalar.xori v2 c0_i32_1312
  let c1_i32_1313 : BitVec 32 := 1#32
  let v1802 : BitVec 32 := Scalar.subi v1801 c1_i32_1313
  ![v1802.toNat]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1312 : BitVec 32 := 0#32
  let v1801 : BitVec 32 := Scalar.xori v2 c0_i32_1312
  let c1_i32_1313 : BitVec 32 := 1#32
  let v1802 : BitVec 32 := Scalar.subi v1801 c1_i32_1313
  let c0_i32_1319 : BitVec 32 := 0#32
  let c0_i32_1320 : BitVec 32 := 0#32
  let c0_i32_1321 : BitVec 32 := 0#32
  ![v1802.toNat, 0, 0, 0]
def k0_dev8 : Nat :=
  let c0_i32_1318 : BitVec 32 := 0#32
  let c0_i32_1316 : BitVec 32 := 0#32
  let c1_i32_1317 : BitVec 32 := 1#32
  let v1803 : BitVec 32 := Scalar.muli c0_i32_1316 c1_i32_1317
  let v1804 : BitVec 32 := Scalar.addi c0_i32_1318 v1803
  v1804.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_261 : BitVec 32 := 4#32
  let v403 : BitVec 1 := Scalar.cmpi .ne v2 c4_i32_261
  let v404 : BitVec 32 := Scalar.extui v403
  let c0_i32_262 : BitVec 32 := 0#32
  let v405 : BitVec 1 := Scalar.cmpi .ne v404 c0_i32_262
  v405

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1312 : BitVec 32 := 4#32
  let v1801 : BitVec 32 := Scalar.xori v2 c4_i32_1312
  let c1_i32_1313 : BitVec 32 := 1#32
  let v1802 : BitVec 32 := Scalar.subi v1801 c1_i32_1313
  ![v1802.toNat]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1312 : BitVec 32 := 4#32
  let v1801 : BitVec 32 := Scalar.xori v2 c4_i32_1312
  let c1_i32_1313 : BitVec 32 := 1#32
  let v1802 : BitVec 32 := Scalar.subi v1801 c1_i32_1313
  let c0_i32_1319 : BitVec 32 := 0#32
  let c0_i32_1320 : BitVec 32 := 0#32
  let c0_i32_1321 : BitVec 32 := 0#32
  ![v1802.toNat, 0, 0, 0]
def k0_dev9 : Nat :=
  let c0_i32_1318 : BitVec 32 := 0#32
  let c4_i32_1316 : BitVec 32 := 4#32
  let c1_i32_1317 : BitVec 32 := 1#32
  let v1803 : BitVec 32 := Scalar.muli c4_i32_1316 c1_i32_1317
  let v1804 : BitVec 32 := Scalar.addi c0_i32_1318 v1803
  v1804.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_498 : BitVec 32 := 2#32
  let v772 : BitVec 1 := Scalar.cmpi .ne v2 c2_i32_498
  let v773 : BitVec 32 := Scalar.extui v772
  let c0_i32_499 : BitVec 32 := 0#32
  let v774 : BitVec 1 := Scalar.cmpi .ne v773 c0_i32_499
  v774

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1312 : BitVec 32 := 2#32
  let v1801 : BitVec 32 := Scalar.xori v2 c2_i32_1312
  let c1_i32_1313 : BitVec 32 := 1#32
  let v1802 : BitVec 32 := Scalar.subi v1801 c1_i32_1313
  ![v1802.toNat]
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1312 : BitVec 32 := 2#32
  let v1801 : BitVec 32 := Scalar.xori v2 c2_i32_1312
  let c1_i32_1313 : BitVec 32 := 1#32
  let v1802 : BitVec 32 := Scalar.subi v1801 c1_i32_1313
  let c0_i32_1319 : BitVec 32 := 0#32
  let c0_i32_1320 : BitVec 32 := 0#32
  let c0_i32_1321 : BitVec 32 := 0#32
  ![v1802.toNat, 0, 0, 0]
def k0_dev10 : Nat :=
  let c0_i32_1318 : BitVec 32 := 0#32
  let c2_i32_1316 : BitVec 32 := 2#32
  let c1_i32_1317 : BitVec 32 := 1#32
  let v1803 : BitVec 32 := Scalar.muli c2_i32_1316 c1_i32_1317
  let v1804 : BitVec 32 := Scalar.addi c0_i32_1318 v1803
  v1804.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_506 : BitVec 32 := 6#32
  let v780 : BitVec 1 := Scalar.cmpi .ne v2 c6_i32_506
  let v781 : BitVec 32 := Scalar.extui v780
  let c0_i32_507 : BitVec 32 := 0#32
  let v782 : BitVec 1 := Scalar.cmpi .ne v781 c0_i32_507
  v782

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1312 : BitVec 32 := 6#32
  let v1801 : BitVec 32 := Scalar.xori v2 c6_i32_1312
  let c1_i32_1313 : BitVec 32 := 1#32
  let v1802 : BitVec 32 := Scalar.subi v1801 c1_i32_1313
  ![v1802.toNat]
def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1312 : BitVec 32 := 6#32
  let v1801 : BitVec 32 := Scalar.xori v2 c6_i32_1312
  let c1_i32_1313 : BitVec 32 := 1#32
  let v1802 : BitVec 32 := Scalar.subi v1801 c1_i32_1313
  let c0_i32_1319 : BitVec 32 := 0#32
  let c0_i32_1320 : BitVec 32 := 0#32
  let c0_i32_1321 : BitVec 32 := 0#32
  ![v1802.toNat, 0, 0, 0]
def k0_dev11 : Nat :=
  let c0_i32_1318 : BitVec 32 := 0#32
  let c6_i32_1316 : BitVec 32 := 6#32
  let c1_i32_1317 : BitVec 32 := 1#32
  let v1803 : BitVec 32 := Scalar.muli c6_i32_1316 c1_i32_1317
  let v1804 : BitVec 32 := Scalar.addi c0_i32_1318 v1803
  v1804.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_743 : BitVec 32 := 1#32
  let v1149 : BitVec 1 := Scalar.cmpi .ne v2 c1_i32_743
  let v1150 : BitVec 32 := Scalar.extui v1149
  let c0_i32_744 : BitVec 32 := 0#32
  let v1151 : BitVec 1 := Scalar.cmpi .ne v1150 c0_i32_744
  v1151

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1312 : BitVec 32 := 1#32
  let v1801 : BitVec 32 := Scalar.xori v2 c1_i32_1312
  let c1_i32_1313 : BitVec 32 := 1#32
  let v1802 : BitVec 32 := Scalar.subi v1801 c1_i32_1313
  ![v1802.toNat]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1312 : BitVec 32 := 1#32
  let v1801 : BitVec 32 := Scalar.xori v2 c1_i32_1312
  let c1_i32_1313 : BitVec 32 := 1#32
  let v1802 : BitVec 32 := Scalar.subi v1801 c1_i32_1313
  let c0_i32_1319 : BitVec 32 := 0#32
  let c0_i32_1320 : BitVec 32 := 0#32
  let c0_i32_1321 : BitVec 32 := 0#32
  ![v1802.toNat, 0, 0, 0]
def k0_dev12 : Nat :=
  let c0_i32_1318 : BitVec 32 := 0#32
  let c1_i32_1316 : BitVec 32 := 1#32
  let c1_i32_1317 : BitVec 32 := 1#32
  let v1803 : BitVec 32 := Scalar.muli c1_i32_1316 c1_i32_1317
  let v1804 : BitVec 32 := Scalar.addi c0_i32_1318 v1803
  v1804.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_751 : BitVec 32 := 5#32
  let v1157 : BitVec 1 := Scalar.cmpi .ne v2 c5_i32_751
  let v1158 : BitVec 32 := Scalar.extui v1157
  let c0_i32_752 : BitVec 32 := 0#32
  let v1159 : BitVec 1 := Scalar.cmpi .ne v1158 c0_i32_752
  v1159

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1312 : BitVec 32 := 5#32
  let v1801 : BitVec 32 := Scalar.xori v2 c5_i32_1312
  let c1_i32_1313 : BitVec 32 := 1#32
  let v1802 : BitVec 32 := Scalar.subi v1801 c1_i32_1313
  ![v1802.toNat]
def k0_off12 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1312 : BitVec 32 := 5#32
  let v1801 : BitVec 32 := Scalar.xori v2 c5_i32_1312
  let c1_i32_1313 : BitVec 32 := 1#32
  let v1802 : BitVec 32 := Scalar.subi v1801 c1_i32_1313
  let c0_i32_1319 : BitVec 32 := 0#32
  let c0_i32_1320 : BitVec 32 := 0#32
  let c0_i32_1321 : BitVec 32 := 0#32
  ![v1802.toNat, 0, 0, 0]
def k0_dev13 : Nat :=
  let c0_i32_1318 : BitVec 32 := 0#32
  let c5_i32_1316 : BitVec 32 := 5#32
  let c1_i32_1317 : BitVec 32 := 1#32
  let v1803 : BitVec 32 := Scalar.muli c5_i32_1316 c1_i32_1317
  let v1804 : BitVec 32 := Scalar.addi c0_i32_1318 v1803
  v1804.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_988 : BitVec 32 := 3#32
  let v1526 : BitVec 1 := Scalar.cmpi .ne v2 c3_i32_988
  let v1527 : BitVec 32 := Scalar.extui v1526
  let c0_i32_989 : BitVec 32 := 0#32
  let v1528 : BitVec 1 := Scalar.cmpi .ne v1527 c0_i32_989
  v1528

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1312 : BitVec 32 := 3#32
  let v1801 : BitVec 32 := Scalar.xori v2 c3_i32_1312
  let c1_i32_1313 : BitVec 32 := 1#32
  let v1802 : BitVec 32 := Scalar.subi v1801 c1_i32_1313
  ![v1802.toNat]
def k0_off14 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1312 : BitVec 32 := 3#32
  let v1801 : BitVec 32 := Scalar.xori v2 c3_i32_1312
  let c1_i32_1313 : BitVec 32 := 1#32
  let v1802 : BitVec 32 := Scalar.subi v1801 c1_i32_1313
  let c0_i32_1319 : BitVec 32 := 0#32
  let c0_i32_1320 : BitVec 32 := 0#32
  let c0_i32_1321 : BitVec 32 := 0#32
  ![v1802.toNat, 0, 0, 0]
def k0_dev14 : Nat :=
  let c0_i32_1318 : BitVec 32 := 0#32
  let c3_i32_1316 : BitVec 32 := 3#32
  let c1_i32_1317 : BitVec 32 := 1#32
  let v1803 : BitVec 32 := Scalar.muli c3_i32_1316 c1_i32_1317
  let v1804 : BitVec 32 := Scalar.addi c0_i32_1318 v1803
  v1804.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_996 : BitVec 32 := 7#32
  let v1534 : BitVec 1 := Scalar.cmpi .ne v2 c7_i32_996
  let v1535 : BitVec 32 := Scalar.extui v1534
  let c0_i32_997 : BitVec 32 := 0#32
  let v1536 : BitVec 1 := Scalar.cmpi .ne v1535 c0_i32_997
  v1536

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1312 : BitVec 32 := 7#32
  let v1801 : BitVec 32 := Scalar.xori v2 c7_i32_1312
  let c1_i32_1313 : BitVec 32 := 1#32
  let v1802 : BitVec 32 := Scalar.subi v1801 c1_i32_1313
  ![v1802.toNat]
def k0_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1312 : BitVec 32 := 7#32
  let v1801 : BitVec 32 := Scalar.xori v2 c7_i32_1312
  let c1_i32_1313 : BitVec 32 := 1#32
  let v1802 : BitVec 32 := Scalar.subi v1801 c1_i32_1313
  let c0_i32_1319 : BitVec 32 := 0#32
  let c0_i32_1320 : BitVec 32 := 0#32
  let c0_i32_1321 : BitVec 32 := 0#32
  ![v1802.toNat, 0, 0, 0]
def k0_dev15 : Nat :=
  let c0_i32_1318 : BitVec 32 := 0#32
  let c7_i32_1316 : BitVec 32 := 7#32
  let c1_i32_1317 : BitVec 32 := 1#32
  let v1803 : BitVec 32 := Scalar.muli c7_i32_1316 c1_i32_1317
  let v1804 : BitVec 32 := Scalar.addi c0_i32_1318 v1803
  v1804.toNat
def k0_mult1 (d0 : Dev nD) : BitVec 32 :=
  let c64_i32 : BitVec 32 := 64#32
  let c4_i32_1090 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1089 : BitVec 32 := 1#32
  let v1600 : BitVec 32 := Scalar.andi v2 c1_i32_1089
  let v1601 : BitVec 32 := Scalar.muli c4_i32_1090 v1600
  let c2_i32_1093 : BitVec 32 := 2#32
  let c1_i32_1091 : BitVec 32 := 1#32
  let v1602 : BitVec 32 := Scalar.shrsi v2 c1_i32_1091
  let c1_i32_1092 : BitVec 32 := 1#32
  let v1603 : BitVec 32 := Scalar.andi v1602 c1_i32_1092
  let v1604 : BitVec 32 := Scalar.muli c2_i32_1093 v1603
  let v1605 : BitVec 32 := Scalar.addi v1601 v1604
  let c2_i32_1094 : BitVec 32 := 2#32
  let v1606 : BitVec 32 := Scalar.shrsi v2 c2_i32_1094
  let c1_i32_1095 : BitVec 32 := 1#32
  let v1607 : BitVec 32 := Scalar.andi v1606 c1_i32_1095
  let v1608 : BitVec 32 := Scalar.addi v1605 v1607
  let v1609 : BitVec 32 := Scalar.muli c64_i32 v1608
  v1609
def k0_off17 (d0 : Dev nD) : Fin 3 → Nat :=
  let c0_1096 : Index := 0#32
  let c64_i32 : BitVec 32 := 64#32
  let c4_i32_1090 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1089 : BitVec 32 := 1#32
  let v1600 : BitVec 32 := Scalar.andi v2 c1_i32_1089
  let v1601 : BitVec 32 := Scalar.muli c4_i32_1090 v1600
  let c2_i32_1093 : BitVec 32 := 2#32
  let c1_i32_1091 : BitVec 32 := 1#32
  let v1602 : BitVec 32 := Scalar.shrsi v2 c1_i32_1091
  let c1_i32_1092 : BitVec 32 := 1#32
  let v1603 : BitVec 32 := Scalar.andi v1602 c1_i32_1092
  let v1604 : BitVec 32 := Scalar.muli c2_i32_1093 v1603
  let v1605 : BitVec 32 := Scalar.addi v1601 v1604
  let c2_i32_1094 : BitVec 32 := 2#32
  let v1606 : BitVec 32 := Scalar.shrsi v2 c2_i32_1094
  let c1_i32_1095 : BitVec 32 := 1#32
  let v1607 : BitVec 32 := Scalar.andi v1606 c1_i32_1095
  let v1608 : BitVec 32 := Scalar.addi v1605 v1607
  let v1609 : BitVec 32 := Scalar.muli c64_i32 v1608
  let v1610 : BitVec 32 := v1609
  let v1611 : Index := Scalar.indexCast v1610
  let c0_1097 : Index := 0#32
  ![0, v1611.toNat, 0]
def k0_off18 (d0 : Dev nD) : Fin 3 → Nat :=
  let c0_i32_1133 : BitVec 32 := 0#32
  let c64_i32 : BitVec 32 := 64#32
  let c4_i32_1090 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1089 : BitVec 32 := 1#32
  let v1600 : BitVec 32 := Scalar.andi v2 c1_i32_1089
  let v1601 : BitVec 32 := Scalar.muli c4_i32_1090 v1600
  let c2_i32_1093 : BitVec 32 := 2#32
  let c1_i32_1091 : BitVec 32 := 1#32
  let v1602 : BitVec 32 := Scalar.shrsi v2 c1_i32_1091
  let c1_i32_1092 : BitVec 32 := 1#32
  let v1603 : BitVec 32 := Scalar.andi v1602 c1_i32_1092
  let v1604 : BitVec 32 := Scalar.muli c2_i32_1093 v1603
  let v1605 : BitVec 32 := Scalar.addi v1601 v1604
  let c2_i32_1094 : BitVec 32 := 2#32
  let v1606 : BitVec 32 := Scalar.shrsi v2 c2_i32_1094
  let c1_i32_1095 : BitVec 32 := 1#32
  let v1607 : BitVec 32 := Scalar.andi v1606 c1_i32_1095
  let v1608 : BitVec 32 := Scalar.addi v1605 v1607
  let v1609 : BitVec 32 := Scalar.muli c64_i32 v1608
  let v1610 : BitVec 32 := v1609
  let c0_i32_1134 : BitVec 32 := 0#32
  ![0, v1610.toNat, 0]
def k0_dev16 (d0 : Dev nD) : Nat :=
  let c0_i32_1132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1128 : BitVec 32 := 1#32
  let v1644 : BitVec 32 := Scalar.xori v2 c1_i32_1128
  let c1_i32_1131 : BitVec 32 := 1#32
  let v1645 : BitVec 32 := Scalar.muli v1644 c1_i32_1131
  let v1646 : BitVec 32 := Scalar.addi c0_i32_1132 v1645
  v1646.toNat
def k0_dev17 (d0 : Dev nD) : Nat :=
  let c0_i32_1141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1137 : BitVec 32 := 2#32
  let v1653 : BitVec 32 := Scalar.xori v2 c2_i32_1137
  let c1_i32_1140 : BitVec 32 := 1#32
  let v1654 : BitVec 32 := Scalar.muli v1653 c1_i32_1140
  let v1655 : BitVec 32 := Scalar.addi c0_i32_1141 v1654
  v1655.toNat
def k0_dev18 (d0 : Dev nD) : Nat :=
  let c0_i32_1150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1146 : BitVec 32 := 3#32
  let v1662 : BitVec 32 := Scalar.xori v2 c3_i32_1146
  let c1_i32_1149 : BitVec 32 := 1#32
  let v1663 : BitVec 32 := Scalar.muli v1662 c1_i32_1149
  let v1664 : BitVec 32 := Scalar.addi c0_i32_1150 v1663
  v1664.toNat
def k0_dev19 (d0 : Dev nD) : Nat :=
  let c0_i32_1159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1155 : BitVec 32 := 4#32
  let v1671 : BitVec 32 := Scalar.xori v2 c4_i32_1155
  let c1_i32_1158 : BitVec 32 := 1#32
  let v1672 : BitVec 32 := Scalar.muli v1671 c1_i32_1158
  let v1673 : BitVec 32 := Scalar.addi c0_i32_1159 v1672
  v1673.toNat
def k0_dev20 (d0 : Dev nD) : Nat :=
  let c0_i32_1168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1164 : BitVec 32 := 5#32
  let v1680 : BitVec 32 := Scalar.xori v2 c5_i32_1164
  let c1_i32_1167 : BitVec 32 := 1#32
  let v1681 : BitVec 32 := Scalar.muli v1680 c1_i32_1167
  let v1682 : BitVec 32 := Scalar.addi c0_i32_1168 v1681
  v1682.toNat
def k0_dev21 (d0 : Dev nD) : Nat :=
  let c0_i32_1177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1173 : BitVec 32 := 6#32
  let v1689 : BitVec 32 := Scalar.xori v2 c6_i32_1173
  let c1_i32_1176 : BitVec 32 := 1#32
  let v1690 : BitVec 32 := Scalar.muli v1689 c1_i32_1176
  let v1691 : BitVec 32 := Scalar.addi c0_i32_1177 v1690
  v1691.toNat
def k0_dev22 (d0 : Dev nD) : Nat :=
  let c0_i32_1186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1182 : BitVec 32 := 7#32
  let v1698 : BitVec 32 := Scalar.xori v2 c7_i32_1182
  let c1_i32_1185 : BitVec 32 := 1#32
  let v1699 : BitVec 32 := Scalar.muli v1698 c1_i32_1185
  let v1700 : BitVec 32 := Scalar.addi c0_i32_1186 v1699
  v1700.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x512x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S2x512x4096 : Shape := ⟨3, ![2, 512, 4096]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x64x512x512 : Shape := ⟨4, ![2, 64, 512, 512]⟩
abbrev S1x1x512x512 : Shape := ⟨4, ![1, 1, 512, 512]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 133
  | .vmem => 0
  | .smem => 0
  | _ => 0

abbrev hbmTy0_0 (i : Nat) : BufTy := match i % 128 with
  | 0 => ⟨S2x512x768, .bf16⟩
  | 1 => ⟨S768x4096, .bf16⟩
  | 2 => ⟨S2x512x64x64, .bf16⟩
  | 3 => ⟨S2x512x64x64, .bf16⟩
  | 4 => ⟨S4096x768, .bf16⟩
  | 5 => ⟨S2x512x768, .f32⟩
  | 6 => ⟨S768x4096, .f32⟩
  | 7 => ⟨S2x512x64x64, .f32⟩
  | 8 => ⟨S2x512x64x64, .f32⟩
  | 9 => ⟨S4096x768, .f32⟩
  | 10 => ⟨S2x512x4096, .f32⟩
  | 11 => ⟨S2x512x4096, .bf16⟩
  | 12 => ⟨S2x512x4096, .f32⟩
  | 13 => ⟨S2x512x64x64, .f32⟩
  | 14 => ⟨S512, .i32⟩
  | 15 => ⟨S_, .i32⟩
  | 16 => ⟨S_, .i32⟩
  | 17 => ⟨S512, .i32⟩
  | 18 => ⟨S512, .i32⟩
  | 19 => ⟨S512, .i32⟩
  | 20 => ⟨S_, .i32⟩
  | 21 => ⟨S512, .i32⟩
  | 22 => ⟨S512, .i1⟩
  | 23 => ⟨S512, .i32⟩
  | 24 => ⟨S512, .i32⟩
  | 25 => ⟨S_, .i32⟩
  | 26 => ⟨S512, .i32⟩
  | 27 => ⟨S512, .i1⟩
  | 28 => ⟨S512, .i1⟩
  | 29 => ⟨S_, .i32⟩
  | 30 => ⟨S512, .i32⟩
  | 31 => ⟨S512, .i32⟩
  | 32 => ⟨S512, .i32⟩
  | 33 => ⟨S512x1, .i32⟩
  | 34 => ⟨S512, .i32⟩
  | 35 => ⟨S_, .i32⟩
  | 36 => ⟨S_, .i32⟩
  | 37 => ⟨S512, .i32⟩
  | 38 => ⟨S512, .i32⟩
  | 39 => ⟨S512, .i32⟩
  | 40 => ⟨S_, .i32⟩
  | 41 => ⟨S512, .i32⟩
  | 42 => ⟨S512, .i1⟩
  | 43 => ⟨S512, .i32⟩
  | 44 => ⟨S512, .i32⟩
  | 45 => ⟨S_, .i32⟩
  | 46 => ⟨S512, .i32⟩
  | 47 => ⟨S512, .i1⟩
  | 48 => ⟨S512, .i1⟩
  | 49 => ⟨S_, .i32⟩
  | 50 => ⟨S512, .i32⟩
  | 51 => ⟨S512, .i32⟩
  | 52 => ⟨S512, .i32⟩
  | 53 => ⟨S1x512, .i32⟩
  | 54 => ⟨S512x512, .i32⟩
  | 55 => ⟨S512x512, .i32⟩
  | 56 => ⟨S512x512, .i1⟩
  | 57 => ⟨S_, .i32⟩
  | 58 => ⟨S1x512, .i32⟩
  | 59 => ⟨S1x512, .i1⟩
  | 60 => ⟨S512x512, .i1⟩
  | 61 => ⟨S512x512, .i1⟩
  | 62 => ⟨S512x512, .i32⟩
  | 63 => ⟨S512x512, .i32⟩
  | 64 => ⟨S512x512, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S512x512, .i32⟩
  | 72 => ⟨S512x512, .i32⟩
  | 73 => ⟨S_, .i32⟩
  | 74 => ⟨S512x512, .i32⟩
  | 75 => ⟨S512x512, .i1⟩
  | 76 => ⟨S_, .i32⟩
  | 77 => ⟨S512x512, .i32⟩
  | 78 => ⟨S512x512, .i1⟩
  | 79 => ⟨S_, .i32⟩
  | 80 => ⟨S_, .i1⟩
  | 81 => ⟨S512x512, .i1⟩
  | 82 => ⟨S512x512, .i1⟩
  | 83 => ⟨S512x512, .i1⟩
  | 84 => ⟨S512x512, .i32⟩
  | 85 => ⟨S512x512, .i32⟩
  | 86 => ⟨S512x512, .i32⟩
  | 87 => ⟨S_, .i32⟩
  | 88 => ⟨S512x512, .i32⟩
  | 89 => ⟨S512x512, .i1⟩
  | 90 => ⟨S512x512, .i1⟩
  | 91 => ⟨S2x64x512x512, .f32⟩
  | 92 => ⟨S2x64x512x512, .bf16⟩
  | 93 => ⟨S2x64x512x512, .f32⟩
  | 94 => ⟨S_, .f32⟩
  | 95 => ⟨S2x64x512x512, .f32⟩
  | 96 => ⟨S2x64x512x512, .f32⟩
  | 97 => ⟨S1x1x512x512, .i1⟩
  | 98 => ⟨S_, .f32⟩
  | 99 => ⟨S_, .f32⟩
  | 100 => ⟨S2x64x512x512, .i1⟩
  | 101 => ⟨S2x64x512x512, .f32⟩
  | 102 => ⟨S2x64x512x512, .f32⟩
  | 103 => ⟨S_, .f32⟩
  | 104 => ⟨S2x64x512, .f32⟩
  | 105 => ⟨S2x64x512x1, .f32⟩
  | 106 => ⟨S2x64x512x512, .f32⟩
  | 107 => ⟨S2x64x512x512, .f32⟩
  | 108 => ⟨S2x64x512x512, .f32⟩
  | 109 => ⟨S_, .i1⟩
  | 110 => ⟨S512, .i1⟩
  | 111 => ⟨S1x1x512x1, .i1⟩
  | 112 => ⟨S_, .f32⟩
  | 113 => ⟨S2x64x512, .f32⟩
  | 114 => ⟨S2x64x512x1, .f32⟩
  | 115 => ⟨S_, .f32⟩
  | 116 => ⟨S_, .f32⟩
  | 117 => ⟨S2x64x512x1, .i1⟩
  | 118 => ⟨S2x64x512x1, .f32⟩
  | 119 => ⟨S2x64x512x1, .f32⟩
  | 120 => ⟨S2x64x512x512, .f32⟩
  | 121 => ⟨S2x64x512x512, .f32⟩
  | 122 => ⟨S1x1x512x1, .i1⟩
  | 123 => ⟨S_, .f32⟩
  | 124 => ⟨S_, .f32⟩
  | 125 => ⟨S2x64x512x512, .i1⟩
  | 126 => ⟨S2x64x512x512, .f32⟩
  | 127 => ⟨S2x64x512x512, .f32⟩
  | _ => ⟨S2x512x768, .bf16⟩

abbrev hbmTy0_1 (i : Nat) : BufTy := match i % 128 with
  | 0 => ⟨S2x64x64x512, .f32⟩
  | 1 => ⟨S2x512x64x64, .f32⟩
  | 2 => ⟨S2x512x4096, .f32⟩
  | 3 => ⟨S2x512x768, .f32⟩
  | 4 => ⟨S2x512x768, .bf16⟩
  | _ => ⟨S2x512x768, .bf16⟩

abbrev hbmTy (i : Nat) : BufTy := match i / 128 with
  | 0 => hbmTy0_0 i
  | 1 => hbmTy0_1 i
  | _ => ⟨S2x512x768, .bf16⟩

abbrev bufTy : (tb : Table) → Fin (tcTables nBuf tb) → BufTy
  | .hbm, ⟨i, _⟩ => hbmTy i
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_c_1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_c_2 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_1 : Ref sig .tc := ⟨.hbm, 73, rfl⟩
abbrev main_call2_v5 : Ref sig .tc := ⟨.hbm, 74, rfl⟩
abbrev main_call2_v6 : Ref sig .tc := ⟨.hbm, 75, rfl⟩
abbrev main_call2_c_2 : Ref sig .tc := ⟨.hbm, 76, rfl⟩
abbrev main_call2_v7 : Ref sig .tc := ⟨.hbm, 77, rfl⟩
abbrev main_call2_v8 : Ref sig .tc := ⟨.hbm, 78, rfl⟩
abbrev main_call2_c_3 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_v25 : Ref sig .tc := ⟨.hbm, 86, rfl⟩
abbrev main_c_3 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_cst : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_cst_4 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v35 : Ref sig .tc := ⟨.hbm, 102, rfl⟩
abbrev main_cst_5 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_c_6 : Ref sig .tc := ⟨.hbm, 109, rfl⟩
abbrev main_v41 : Ref sig .tc := ⟨.hbm, 110, rfl⟩
abbrev main_v42 : Ref sig .tc := ⟨.hbm, 111, rfl⟩
abbrev main_cst_7 : Ref sig .tc := ⟨.hbm, 112, rfl⟩
abbrev main_v43 : Ref sig .tc := ⟨.hbm, 113, rfl⟩
abbrev main_v44 : Ref sig .tc := ⟨.hbm, 114, rfl⟩
abbrev main_cst_8 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_cst_9 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩

abbrev nD : Nat := 1
abbrev τ : Topo := Topo.v7x

variable {F : FTy → Type} [FloatOps F]
-- ==== Proof.Sched.lean ====
/-
  The talk of the eight devices, as a schedule of rounds.

  Every cell of the talk is used once. A device's barrier cell takes one unit from each of the other
  seven; with its unit a device lends the receiver two places to write into: the slot of its receive
  buffer the receiver's partial sum goes to, and the rows of its result the receiver gathers into.
  A receive cell of the scatter takes one partial sum; a receive cell of the gather takes one block
  of rows; a send cell takes the source back.
-/
module

public import Idealize.ShloMosaic.Lib.StableHlo
public import Idealize.ShloMosaic.Lib.Tactic
public import Idealize.ShloMosaic.PureOps
public import Idealize.ShloMosaic.Lib.Pipeline.RegionTalk
public import proofs.«01_k».proof.Proof.Gen.KernelIdeal

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## Who is whose partner -/

/-- The `k`-th partner of a device: its number xor `k + 1`. -/
def pr (c : Dev nD) (k : Fin 7) : Dev nD := ⟨(c.val ^^^ (k.val + 1)) % 8, Nat.mod_lt _ (by decide)⟩

theorem pr_pr (c : Dev nD) (k : Fin 7) : pr (pr c k) k = c := by revert c k; decide
theorem pr_ne (c : Dev nD) (k : Fin 7) : pr c k ≠ c := by revert c k; decide
theorem pr_inj (c : Dev nD) (k k' : Fin 7) (h : pr c k = pr c k') : k = k' := by revert c k k'; decide

/-- The partner number of `o` at `c` (when they differ). -/
def kk (c o : Dev nD) : Fin 7 := ⟨((c.val ^^^ o.val) - 1) % 7, Nat.mod_lt _ (by decide)⟩

theorem pr_kk (c o : Dev nD) (h : o ≠ c) : pr c (kk c o) = o := by revert c o; decide
theorem kk_pr (c : Dev nD) (k : Fin 7) : kk c (pr c k) = k := by revert c k; decide

/-- Three bits read backwards: the row block a device owns, and the owner of a row block. -/
def rev (c : Fin 8) : Fin 8 := ![0, 4, 2, 6, 1, 5, 3, 7] c

theorem rev_rev (c : Fin 8) : rev (rev c) = c := by revert c; decide

/-- Partner `k` as a permutation of the devices. -/
def prE (k : Fin 7) : Dev nD ≃ Dev nD := ⟨fun c => pr c k, fun c => pr c k, fun c => pr_pr c k, fun c => pr_pr c k⟩

/-! ## The memory the talk is about -/

/-- One block of rows: both batches, 64 rows. -/
abbrev Blk (F : FTy → Type) : Type := S2x64x768.Idx → Elt F .bf16

theorem rss_inb (ch : Fin 8) : ∀ a, (![ch.val, 0, 0, 0] : Fin 4 → ℕ) a + S1x2x64x768.size a ≤ S8x2x64x768.size a := by
  revert ch; decide
theorem rsr_inb (k : Fin 7) : ∀ a, (![k.val, 0, 0, 0] : Fin 4 → ℕ) a + S1x2x64x768.size a ≤ S7x2x64x768.size a := by
  revert k; decide
theorem row_inb (o : Fin 8) : ∀ a, (![0, 64 * o.val, 0] : Fin 3 → ℕ) a + S2x64x768.size a ≤ S2x512x768.size a := by
  revert o; decide

abbrev outM : Memref sig .tc .vmem S2x512x768 .bf16 := win0_6.stage 0
abbrev accM : Memref sig .tc .vmem S2x512x768 .f32 := Memref.whole cc0_scratch0
abbrev rssM : Memref sig .tc .vmem S8x2x64x768 .bf16 := Memref.whole cc0_scratch1
abbrev rsrM : Memref sig .tc .vmem S7x2x64x768 .bf16 := Memref.whole cc0_scratch2

/-- The rectangle of send slot `ch`, of receive slot `k`, of row block `o`. -/
abbrev rssR (ch : Fin 8) : Rect S8x2x64x768 := Rect.unit (s := S8x2x64x768) ![ch.val, 0, 0, 0] S1x2x64x768.size (rss_inb ch)
abbrev rsrR (k : Fin 7) : Rect S7x2x64x768 := Rect.unit (s := S7x2x64x768) ![k.val, 0, 0, 0] S1x2x64x768.size (rsr_inb k)
abbrev rowR (o : Fin 8) : Rect S2x512x768 := Rect.unit (s := S2x512x768) ![0, 64 * o.val, 0] S2x64x768.size (row_inb o)

/-- Send slot `ch`, receive slot `k`, and row block `o` of the result, as the copies address them. -/
abbrev rssSlot (ch : Fin 8) : Memref sig .tc .vmem S2x64x768 .bf16 :=
  (rssM.slice (rssR ch) (fun _ => rfl)).squeeze S2x64x768 squeezes_S1x2x64x768_S2x64x768
abbrev rsrSlot (k : Fin 7) : Memref sig .tc .vmem S2x64x768 .bf16 :=
  (rsrM.slice (rsrR k) (fun _ => rfl)).squeeze S2x64x768 squeezes_S1x2x64x768_S2x64x768
abbrev rowsM (o : Fin 8) : Memref sig .tc .vmem S2x64x768 .bf16 := outM.slice (rowR o) (fun _ => rfl)

/-! ## Cells -/

abbrev barS : Sem sig := ⟨0, by decide⟩
abbrev sRsS (ch : Fin 8) : DmaSem sig := ⟨7 + ch.val, by have := ch.isLt; show _ < 36; omega⟩
abbrev sRsR (k : Fin 7) : DmaSem sig := ⟨15 + k.val, by have := k.isLt; show _ < 36; omega⟩
abbrev sAgS (k : Fin 7) : DmaSem sig := ⟨22 + k.val, by have := k.isLt; show _ < 36; omega⟩
abbrev sAgR (k : Fin 7) : DmaSem sig := ⟨29 + k.val, by have := k.isLt; show _ < 36; omega⟩

abbrev barCell (c : Dev nD) : GSem nD τ sig := ((c : Thread nD τ), .reg barS)
abbrev rsS (c : Dev nD) (ch : Fin 8) : GSem nD τ sig := ((c : Thread nD τ), .dma (sRsS ch))
abbrev rsR (c : Dev nD) (k : Fin 7) : GSem nD τ sig := ((c : Thread nD τ), .dma (sRsR k))
abbrev agS (c : Dev nD) (k : Fin 7) : GSem nD τ sig := ((c : Thread nD τ), .dma (sAgS k))
abbrev agR (c : Dev nD) (k : Fin 7) : GSem nD τ sig := ((c : Thread nD τ), .dma (sAgR k))

/-- What a semaphore is for. -/
inductive Kind where
  | bar | rsS (ch : Fin 8) | rsR (k : Fin 7) | agS (k : Fin 7) | agR (k : Fin 7) | other
  deriving DecidableEq

def dmaKind (n : ℕ) : Kind :=
  if h : n < 7 then .other
  else if h : n < 15 then .rsS ⟨n - 7, by omega⟩
  else if h : n < 22 then .rsR ⟨n - 15, by omega⟩
  else if h : n < 29 then .agS ⟨n - 22, by omega⟩
  else if h : n < 36 then .agR ⟨n - 29, by omega⟩
  else .other

def kindOf : SemLoc sig → Kind
  | .reg _ => .bar
  | .dma n => dmaKind n.val

theorem kind_bar : kindOf (.reg barS) = .bar := rfl
theorem kind_rsS (ch : Fin 8) : kindOf (.dma (sRsS ch)) = .rsS ch := by revert ch; decide
theorem kind_rsR (k : Fin 7) : kindOf (.dma (sRsR k)) = .rsR k := by revert k; decide
theorem kind_agS (k : Fin 7) : kindOf (.dma (sAgS k)) = .agS k := by revert k; decide
theorem kind_agR (k : Fin 7) : kindOf (.dma (sAgR k)) = .agR k := by revert k; decide

/-- What one copy of a block credits. -/
abbrev N : ℕ := (rowsM 0).view.dmaCredit
theorem N_pos : 0 < N := View.dmaCredit_pos _ (by decide)

/-! ## The algebra -/

abbrev UU : Type := UR sig nD τ × URounds (GSem nD τ sig) (Fin 7)

local notation "𝕄" => MT nD τ sig Unit (Elt F) ℕ UU ℕ

abbrev EP : Emb (UR sig nD τ) (MT nD τ sig Unit (Elt F) ℕ UU ℕ) := embL
abbrev ER : Emb (URounds (GSem nD τ sig) (Fin 7)) (MT nD τ sig Unit (Elt F) ℕ UU ℕ) := embR

/-! ## Blocks held -/

/-- A block of memory held at share `q`, reading `v`. -/
def full (M : Memref sig .tc .vmem S2x64x768 .bf16) (c : Dev nD) (q : PosShare TreeShare) (v : Blk F) : sProp 𝕄 :=
  iprop(∃ f, ⌜M.view.read (Elt F) f = v⌝ ∗ (M.view.loc (c : Thread nD τ) ↦[M.view.set]{q} f))

/-- A block of memory held whole, reading anything. -/
def any (M : Memref sig .tc .vmem S2x64x768 .bf16) (c : Dev nD) : sProp 𝕄 :=
  iprop(∃ f, (M.view.loc (c : Thread nD τ) ↦[M.view.set]{fullShare} f))

instance full_storable (M : Memref sig .tc .vmem S2x64x768 .bf16) (c : Dev nD) (q : PosShare TreeShare) (v : Blk F) :
    BI.Storable (upEmb : UEmb _ 𝕄) (full M c q v) := by unfold full; infer_instance
instance any_storable (M : Memref sig .tc .vmem S2x64x768 .bf16) (c : Dev nD) :
    BI.Storable (upEmb : UEmb _ 𝕄) (any (F := F) M c) := by unfold any; infer_instance

theorem full_any (M : Memref sig .tc .vmem S2x64x768 .bf16) (c : Dev nD) (v : Blk F) : full M c fullShare v ⊢ any (F := F) M c := by
  unfold full any
  iintro ⟨%f, -, H⟩; iexists f; iexact H

/-- A held block's share can be cut. -/
theorem full_cut (M : Memref sig .tc .vmem S2x64x768 .bf16) (c : Dev nD) (q : PosShare TreeShare) (v : Blk F) :
    full M c q v ⊢ iprop(full M c q.left v ∗ full M c q.right v) := by
  unfold full
  iintro ⟨%f, %hf, H⟩
  ihave H := (pointsTo_share (PosShare.mem_left_op_right q)).1 $$ H
  icases H with ⟨H1, H2⟩
  isplitl [H1]
  · iexists f
    isplitr [H1]; · ipureintro; exact hf
    iexact H1
  · iexists f
    isplitr [H2]; · ipureintro; exact hf
    iexact H2

/-- … and the two shares put back together: they read the same, so they hold the same. -/
theorem full_paste (M : Memref sig .tc .vmem S2x64x768 .bf16) (c : Dev nD) (q : PosShare TreeShare) (v v' : Blk F) :
    iprop(full M c q.left v ∗ full M c q.right v') ⊢ full M c q v := by
  unfold full
  iintro ⟨⟨%f, %hf, H1⟩, ⟨%g, -, H2⟩⟩
  ihave H := (persistent_entails_right (pointsTo_agree (ℓ := M.view.loc (c : Thread nD τ)))) $$ [H1 H2]
  · isplitl [H1] <;> iassumption
  icases H with ⟨%hfg, H1, H2⟩
  iexists f
  isplitr [H1 H2]; · ipureintro; exact hf
  iapply (pointsTo_share (PosShare.mem_left_op_right q)).2
  isplitl [H1]; · iexact H1
  iapply (Entails.of_eq (pointsTo_congr (f := g) (g := f) fun i hi => (hfg i (Finset.mem_inter.mpr ⟨hi, hi⟩)).1.symm))
  iexact H2

/-- The share of a device's own rows its `k`-th gather copy reads through, and what is left. -/
def restSh : ℕ → PosShare TreeShare
  | 0 => fullShare
  | n + 1 => (restSh n).right
def agSh (n : ℕ) : PosShare TreeShare := (restSh n).left

/-! ## The schedule

Parametric in the partial sums `P c ch` (device `c`, row block `ch`) and in the totals `T c`. -/

section Schedule

variable (P : Dev nD → Fin 8 → Blk F) (T : Dev nD → Blk F)

/-- Lent to device `c` by its partner `k`. -/
def barPay (c : Dev nD) (k : Fin 7) : sProp 𝕄 :=
  iprop(any (rsrSlot k) (pr c k) ∗ any (rowsM (rev c)) (pr c k) ∗ reached ER (rsR (pr c k) k) 0 ∗ reached ER (agR (pr c k) k) 0)
def rsRPay (c : Dev nD) (k : Fin 7) : sProp 𝕄 := full (rsrSlot k) c fullShare (P (pr c k) (rev c))
def agRPay (c : Dev nD) (k : Fin 7) : sProp 𝕄 := full (rowsM (rev (pr c k))) c fullShare (T (pr c k))
def rsSPay (c : Dev nD) (ch : Fin 8) : sProp 𝕄 := any (rssSlot ch) c
def agSPay (c : Dev nD) (k : Fin 7) : sProp 𝕄 := full (rowsM (rev c)) c (agSh k.val) (T c)

def dutiesK (c : Dev nD) : Kind → Finset (Fin 7)
  | .bar => Finset.univ
  | .rsS ch => if rev ch = c then ∅ else {0}
  | .rsR _ => {0} | .agS _ => {0} | .agR _ => {0}
  | .other => ∅

def amountK : Kind → ℕ
  | .bar => 1
  | _ => N

def payK (c : Dev nD) : Kind → Fin 7 → sProp 𝕄
  | .bar, k => barPay c k
  | .rsS ch, _ => rsSPay c ch
  | .rsR k, _ => rsRPay P c k
  | .agS k, _ => agSPay T c k
  | .agR k, _ => agRPay T c k
  | .other, _ => iprop(emp)

def rd : Rounds.Schedule (GSem nD τ sig) (Fin 7) 𝕄 where
  duties g r := if r = 0 then dutiesK g.1.1 (kindOf g.2) else ∅
  unitless _ := False
  amount g _ _ := amountK (kindOf g.2)
  payload g _ d := payK P T g.1.1 (kindOf g.2) d
  amount_pos g _ _ _ := by
    show 0 < amountK (kindOf g.2)
    cases kindOf g.2 <;> first | exact Nat.one_pos | exact N_pos

instance rd_payload_storable (g : GSem nD τ sig) (r : ℕ) (d : Fin 7) :
    BI.Storable (upEmb : UEmb _ 𝕄) ((rd P T).payload g r d) := by
  show BI.Storable upEmb (payK P T g.1.1 (kindOf g.2) d)
  cases kindOf g.2 <;> unfold payK
  · unfold barPay; infer_instance
  · unfold rsSPay; infer_instance
  · unfold rsRPay; infer_instance
  · unfold agSPay; infer_instance
  · unfold agRPay; infer_instance
  · infer_instance

theorem duties_later (g : GSem nD τ sig) : ∀ r, 1 ≤ r → (rd P T).duties g r = ∅ :=
  fun r hr => by dsimp only [rd]; exact if_neg (by omega)

variable (c : Dev nD)

theorem duties_bar : (rd P T).duties (barCell c) 0 = Finset.univ := rfl
theorem duties_rsS (ch : Fin 8) (h : rev ch ≠ c) : (rd P T).duties (rsS c ch) 0 = {0} := by
  dsimp only [rd]; rw [if_pos rfl, kind_rsS]; exact if_neg h
/-- The row block a device owns is sent nowhere: the cell stays as it is. -/
theorem duties_rsS_own (ch : Fin 8) (h : rev ch = c) (r : ℕ) : (rd P T).duties (rsS c ch) r = ∅ := by
  dsimp only [rd]; rw [kind_rsS]; split
  · exact if_pos h
  · rfl
theorem duties_rsR (k : Fin 7) : (rd P T).duties (rsR c k) 0 = {0} := by dsimp only [rd]; rw [if_pos rfl, kind_rsR]; rfl
theorem duties_agS (k : Fin 7) : (rd P T).duties (agS c k) 0 = {0} := by dsimp only [rd]; rw [if_pos rfl, kind_agS]; rfl
theorem duties_agR (k : Fin 7) : (rd P T).duties (agR c k) 0 = {0} := by dsimp only [rd]; rw [if_pos rfl, kind_agR]; rfl

theorem amount_bar (d : Fin 7) : (rd P T).amount (barCell c) 0 d = 1 := rfl
theorem amount_rsS (ch : Fin 8) (d : Fin 7) : (rd P T).amount (rsS c ch) 0 d = N := by dsimp only [rd]; rw [kind_rsS]; rfl
theorem amount_rsR (k : Fin 7) (d : Fin 7) : (rd P T).amount (rsR c k) 0 d = N := by dsimp only [rd]; rw [kind_rsR]; rfl
theorem amount_agS (k : Fin 7) (d : Fin 7) : (rd P T).amount (agS c k) 0 d = N := by dsimp only [rd]; rw [kind_agS]; rfl
theorem amount_agR (k : Fin 7) (d : Fin 7) : (rd P T).amount (agR c k) 0 d = N := by dsimp only [rd]; rw [kind_agR]; rfl

theorem payload_bar (k : Fin 7) : (rd P T).payload (barCell c) 0 k = barPay c k := rfl
theorem payload_rsS (ch : Fin 8) (d : Fin 7) : (rd P T).payload (rsS c ch) 0 d = rsSPay c ch := by dsimp only [rd]; rw [kind_rsS]; rfl
theorem payload_rsR (k : Fin 7) (d : Fin 7) : (rd P T).payload (rsR c k) 0 d = rsRPay P c k := by dsimp only [rd]; rw [kind_rsR]; rfl
theorem payload_agS (k : Fin 7) (d : Fin 7) : (rd P T).payload (agS c k) 0 d = agSPay T c k := by dsimp only [rd]; rw [kind_agS]; rfl
theorem payload_agR (k : Fin 7) (d : Fin 7) : (rd P T).payload (agR c k) 0 d = agRPay T c k := by dsimp only [rd]; rw [kind_agR]; rfl

theorem expect_bar : (rd P T).expect (barCell c) 0 = 7 := by
  unfold Schedule.expect Schedule.amountOf
  rw [duties_bar, Finset.sum_congr rfl fun d _ => amount_bar P T c d]; decide
theorem expect_rsS (ch : Fin 8) (h : rev ch ≠ c) : (rd P T).expect (rsS c ch) 0 = N := by
  unfold Schedule.expect Schedule.amountOf; rw [duties_rsS P T c ch h, Finset.sum_singleton, amount_rsS]
theorem expect_rsR (k : Fin 7) : (rd P T).expect (rsR c k) 0 = N := by
  unfold Schedule.expect Schedule.amountOf; rw [duties_rsR, Finset.sum_singleton, amount_rsR]
theorem expect_agS (k : Fin 7) : (rd P T).expect (agS c k) 0 = N := by
  unfold Schedule.expect Schedule.amountOf; rw [duties_agS, Finset.sum_singleton, amount_agS]
theorem expect_agR (k : Fin 7) : (rd P T).expect (agR c k) 0 = N := by
  unfold Schedule.expect Schedule.amountOf; rw [duties_agR, Finset.sum_singleton, amount_agR]

theorem rest_bar : bigSep ((rd P T).duties (barCell c) 0 \ ∅) (fun d => (rd P T).payload (barCell c) 0 d)
    = bigSep Finset.univ (barPay (F := F) c) := by
  rw [Finset.sdiff_empty, duties_bar]; exact bigSep_congr fun d _ => payload_bar P T c d
theorem rest_rsS (ch : Fin 8) (h : rev ch ≠ c) :
    bigSep ((rd P T).duties (rsS c ch) 0 \ ∅) (fun d => (rd P T).payload (rsS c ch) 0 d) = rsSPay c ch := by
  rw [Finset.sdiff_empty, duties_rsS P T c ch h, bigSep_singleton, payload_rsS]
theorem rest_rsR (k : Fin 7) : bigSep ((rd P T).duties (rsR c k) 0 \ ∅) (fun d => (rd P T).payload (rsR c k) 0 d) = rsRPay P c k := by
  rw [Finset.sdiff_empty, duties_rsR, bigSep_singleton, payload_rsR]
theorem rest_agS (k : Fin 7) : bigSep ((rd P T).duties (agS c k) 0 \ ∅) (fun d => (rd P T).payload (agS c k) 0 d) = agSPay T c k := by
  rw [Finset.sdiff_empty, duties_agS, bigSep_singleton, payload_agS]
theorem rest_agR (k : Fin 7) : bigSep ((rd P T).duties (agR c k) 0 \ ∅) (fun d => (rd P T).payload (agR c k) 0 d) = agRPay T c k := by
  rw [Finset.sdiff_empty, duties_agR, bigSep_singleton, payload_agR]

end Schedule

/-! ## Levels -/

def L (g : GSem nD τ sig) : Finset Unit := if g.1.2 = .tc then {()} else ∅
def lvK : Kind → ℕ
  | .bar => 1 | .rsR _ => 2 | .agR _ => 3 | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.Talk

end
-- ==== Proof.Steps.lean ====
/-
  One step of the talk each: a signal to a partner's barrier cell, the wait on a device's own, a block
  of partial sums sent to its owner, a block of rows sent to a partner, and the waits on the copies'
  cells. What a device still owes is a sum over the steps still to come.
-/
module

public import proofs.«01_k».proof.Proof.Sched

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## What is owed -/

abbrev Tally : Type := CellTallies nD τ sig Unit

/-- The sum of the terms numbered `n` and on. -/
def oweFrom {m : ℕ} (f : Fin m → Tally) (n : ℕ) : Tally := ∑ k ∈ Finset.univ.filter (fun k : Fin m => n ≤ k.val), f k

theorem oweFrom_step {m : ℕ} (f : Fin m → Tally) (k : Fin m) : oweFrom f k.val = oweFrom f (k.val + 1) + f k := by
  unfold oweFrom
  rw [show (Finset.univ.filter fun j : Fin m => k.val ≤ j.val) = insert k (Finset.univ.filter fun j : Fin m => k.val + 1 ≤ j.val) from by
    ext j; simp only [Finset.mem_filter, Finset.mem_univ, true_and, Finset.mem_insert, Fin.ext_iff]; omega]
  rw [Finset.sum_insert (by simp), add_comm]

theorem oweFrom_end {m : ℕ} (f : Fin m → Tally) : oweFrom f m = 0 := by
  unfold oweFrom
  rw [show (Finset.univ.filter fun j : Fin m => m ≤ j.val) = ∅ from by
    ext j; have := j.isLt; simp only [Finset.mem_filter, Finset.mem_univ, true_and, Finset.notMem_empty, iff_false]; omega]
  exact Finset.sum_empty

def owBar (c : Dev nD) (k : Fin 7) : Tally := tallyAt (barCell (pr c k)) () 1
def owRs (c : Dev nD) (ch : Fin 8) : Tally := if rev ch = c then 0 else tallyAt (rsR (rev ch) (kk c (rev ch))) () N
def owAg (c : Dev nD) (k : Fin 7) : Tally := tallyAt (agR (pr c k) k) () N

/-- What device `c` owes at the start. -/
def O₀ (c : Dev nD) : Tally := oweFrom (owBar c) 0 + (oweFrom (owRs c) 0 + oweFrom (owAg c) 0)

/-- Everything owed in `O` is owed to a cell of a core above level `n`. -/
def Above (n : ℕ) (O : Tally) : Prop := ∀ g u, 0 < O g u → u ∈ L g ∧ n < lv g u

theorem above_zero (n : ℕ) : Above n 0 := fun _ _ h => absurd h (Nat.lt_irrefl 0)

theorem above_add {n : ℕ} {O O' : Tally} (h : Above n O) (h' : Above n O') : Above n (O + O') := fun g u hg => by
  have e : (O + O') g u = O g u + O' g u := by simp
  rcases Nat.eq_zero_or_pos (O g u) with h0 | h0
  · exact h' g u (by omega)
  · exact h g u h0

theorem above_sum {n : ℕ} {ι : Type} (s : Finset ι) (f : ι → Tally) (h : ∀ i ∈ s, Above n (f i)) : Above n (∑ i ∈ s, f i) := by
  classical
  induction s using Finset.induction_on with
  | empty => rw [Finset.sum_empty]; exact above_zero n
  | insert a s ha ih =>
    rw [Finset.sum_insert ha]
    exact above_add (h a (Finset.mem_insert_self _ _)) (ih fun i hi => h i (Finset.mem_insert_of_mem hi))

theorem above_from {n m : ℕ} (f : Fin m → Tally) (j : ℕ) (h : ∀ k, Above n (f k)) : Above n (oweFrom f j) :=
  above_sum _ _ fun k _ => h k

theorem above_tally {n a : ℕ} (c : Dev nD) (sm : SemLoc sig) (h : n < lvK (kindOf sm)) : Above n (tallyAt ((c : Thread nD τ), sm) () a) :=
  fun g u hg => by
    rw [tallyAt_apply] at hg
    by_cases e : g = ((c : Thread nD τ), sm) ∧ u = ()
    · obtain ⟨rfl, rfl⟩ := e
      exact ⟨by rw [L_tc]; exact Finset.mem_singleton_self _, h⟩
    · rw [if_neg e] at hg; exact absurd hg (Nat.lt_irrefl 0)

theorem above_rs {n : ℕ} (hn : n < 2) (c : Dev nD) (ch : Fin 8) : Above n (owRs c ch) := by
  unfold owRs; split
  · exact above_zero n
  · exact above_tally _ _ (by rw [kind_rsR]; exact hn)
theorem above_ag {n : ℕ} (hn : n < 3) (c : Dev nD) (k : Fin 7) : Above n (owAg c k) :=
  above_tally _ _ (by rw [kind_agR]; exact hn)
theorem above_bar {n : ℕ} (hn : n < 1) (c : Dev nD) (k : Fin 7) : Above n (owBar c k) :=
  above_tally _ _ hn

theorem above_O₀ (c : Dev nD) : Above 0 (O₀ c) :=
  above_add (above_from _ _ fun k => above_bar (by decide) c k)
    (above_add (above_from _ _ fun k => above_rs (by decide) c k) (above_from _ _ fun k => above_ag (by decide) c k))

/-! ## The cells all together -/

def barEmb : Dev nD ↪ GSem nD τ sig := ⟨fun c => barCell c, fun a b h => by simpa [barCell] using h⟩

/-- The call's own semaphores. -/
abbrev osem : Fin 29 → SemLoc sig := fun i => .dma ⟨7 + i.val, by have := i.isLt; show _ < 36; omega⟩

def scEmb : Dev nD × Fin 29 ↪ GSem nD τ sig :=
  ⟨fun p => ((p.1 : Thread nD τ), osem p.2), fun a b h => by
    have h1 : a.1 = b.1 := by have := congrArg (fun g : GSem nD τ sig => g.1.1) h; exact this
    have h2 : osem a.2 = osem b.2 := congrArg (fun g : GSem nD τ sig => g.2) h
    have h3 : 7 + a.2.val = 7 + b.2.val := by
      have := SemLoc.dma.inj h2
      exact congrArg Fin.val this
    exact Prod.ext h1 (Fin.ext (by omega))⟩

def barCells : Finset (GSem nD τ sig) := Finset.univ.map barEmb
def scCells : Finset (GSem nD τ sig) := Finset.univ.map scEmb

def cells : Finset (GSem nD τ sig) := barCells ∪ scCells

theorem mem_sc (c : Dev nD) (i : Fin 29) : ((c : Thread nD τ), osem i) ∈ cells :=
  Finset.mem_union_right _ (Finset.mem_map.mpr ⟨(c, i), Finset.mem_univ _, rfl⟩)
theorem mem_bar (c : Dev nD) : barCell c ∈ cells :=
  Finset.mem_union_left _ (Finset.mem_map.mpr ⟨c, Finset.mem_univ _, rfl⟩)

theorem rsS_at (c : Dev nD) (ch : Fin 8) : rsS c ch = ((c : Thread nD τ), osem ⟨ch.val, by omega⟩) := rfl
theorem rsR_at (c : Dev nD) (k : Fin 7) : rsR c k = ((c : Thread nD τ), osem ⟨8 + k.val, by omega⟩) := by
  have : sRsR k = ⟨7 + (8 + k.val), by have := k.isLt; show _ < 36; omega⟩ := Fin.ext (by show 15 + k.val = 7 + (8 + k.val); omega)
  unfold rsR; rw [this]
theorem agS_at (c : Dev nD) (k : Fin 7) : agS c k = ((c : Thread nD τ), osem ⟨15 + k.val, by omega⟩) := by
  have : sAgS k = ⟨7 + (15 + k.val), by have := k.isLt; show _ < 36; omega⟩ := Fin.ext (by show 22 + k.val = 7 + (15 + k.val); omega)
  unfold agS; rw [this]
theorem agR_at (c : Dev nD) (k : Fin 7) : agR c k = ((c : Thread nD τ), osem ⟨22 + k.val, by omega⟩) := by
  have : sAgR k = ⟨7 + (22 + k.val), by have := k.isLt; show _ < 36; omega⟩ := Fin.ext (by show 29 + k.val = 7 + (22 + k.val); omega)
  unfold agR; rw [this]

theorem mem_rsS (c : Dev nD) (ch : Fin 8) : rsS c ch ∈ cells := by rw [rsS_at]; exact mem_sc c _
theorem mem_rsR (c : Dev nD) (k : Fin 7) : rsR c k ∈ cells := by rw [rsR_at]; exact mem_sc c _
theorem mem_agS (c : Dev nD) (k : Fin 7) : agS c k ∈ cells := by rw [agS_at]; exact mem_sc c _
theorem mem_agR (c : Dev nD) (k : Fin 7) : agR c k ∈ cells := by rw [agR_at]; exact mem_sc c _

variable {F : FTy → Type} [FloatOps F] [Named F]

local notation "𝕄" => MT nD τ sig Unit (Elt F) ℕ UU ℕ

variable (P : Dev nD → Fin 8 → Blk F) (T : Dev nD → Blk F) (K : GSem nD τ sig → ℕ)

/-- The cells' invariants, and the levels. -/
def recs : sProp 𝕄 := iprop((bigSep cells fun g => cellInv ER (rd P T) (K g) g) ∗ levAts L lv)

instance recs_persistent : BI.Persistent (recs P T K) := by unfold recs; infer_instance

theorem inv_at {g : GSem nD τ sig} (hg : g ∈ cells) : recs P T K ⊢ cellInv ER (rd P T) (K g) g := by
  unfold recs
  have h : (bigSep cells fun g => (cellInv ER (rd P T) (K g) g : sProp 𝕄)) ⊢ cellInv ER (rd P T) (K g) g := bigSep_elim hg
  iintro ⟨H, -⟩
  iapply h; iexact H

theorem mayWait_at (c : Dev nD) (sm : SemLoc sig) (O : Tally) (h : Above (lvK (kindOf sm)) O) :
    recs P T K ⊢ MayWait (c : Thread nD τ) sm () O := by
  unfold recs
  iintro ⟨-, H⟩
  iapply (MayOwe.of_cut (L := L) (lev := lv) (lvK (kindOf sm))
    (fun p hp => by rw [Finset.mem_singleton.mp hp, L_tc]; exact Finset.mem_singleton_self _)
    (fun g u hg => (h g u hg).1)
    (fun p hp => by rw [Finset.mem_singleton.mp hp]; exact le_refl _)
    (fun g u hg => (h g u hg).2))
  iexact H

/-- Device `c` owes `O`. -/
def ow (c : Dev nD) (O : Tally) : sProp 𝕄 := iprop(∃ W, owes (c : Thread nD τ) O W)

variable (defs : Defs nD τ sig (Elt F) Λ₀) (𝒱₀ : Variants) {α : Type}

/-! ## The barrier -/

/-- What a device lends to its partner `k` with its unit. -/
def lend (c : Dev nD) (k : Fin 7) : sProp 𝕄 :=
  iprop(any (rsrSlot k) c ∗ any (rowsM (rev (pr c k))) c ∗ reached ER (rsR c k) 0 ∗ reached ER (agR c k) 0
    ∗ dutyTok ER (barCell (pr c k)) 0 k ∗ reached ER (barCell (pr c k)) 0)

theorem signal_step (c : Dev nD) (k : Fin 7) (D : Dev nD) (hD : D = pr c k) (sm : Sem sig) (hsm : sm = barS) (R : Tally)
    (κ : PUnit → Prog (TpuEff nD τ sig (Elt F) Λ₀ .tc) α) (Q : α → sProp 𝕄) :
    iprop(recs P T K ∗ ow c (oweFrom (owBar c) k.val + R) ∗ lend c k)
      ⊢ iprop((ow c (oweFrom (owBar c) (k.val + 1) + R) -∗ wp frame (wpE defs 𝒱₀ (c : Thread nD τ) none) Set.univ (κ ⟨⟩) Q)
        -∗ wp frame (wpE defs 𝒱₀ (c : Thread nD τ) none) Set.univ (.op (.semSignal ((D : Thread nD τ)) sm ((1 : ℕ) : ℤ)) κ) Q) := by
  subst hD hsm
  have hO : oweFrom (owBar c) k.val + R = oweFrom (owBar c) (k.val + 1) + R + tallyAt (barCell (pr c k)) () 1 := by
    rw [oweFrom_step]; unfold owBar; abel
  unfold ow lend
  iintro ⟨#HR, ⟨%W, HO⟩, Hs, Hr, #H1, #H2, Ht, #H3⟩ Hk
  iapply (Rounds.wp_signal 𝒱₀ ER (rd P T) (c : Thread nD τ) none (dst := (pr c k : Thread nD τ)) (sem := barS) (r := 0) (d := k)
      (κ := K (barCell (pr c k))) (by rw [duties_bar]; exact Finset.mem_univ _) (amount_bar P T (pr c k) k) ()
      (oweFrom (owBar c) (k.val + 1) + R) (hO := hO)) $$ [HO Ht Hs Hr]
  · isplitr; · iapply (inv_at P T K (mem_bar _)); iexact HR
    isplitl [HO]; · iexact HO
    isplitl [Ht]; · iexact Ht
    isplitl [Hs Hr]
    · rw [payload_bar]; unfold barPay; rw [pr_pr]
      isplitl [Hs]; · iexact Hs
      isplitl [Hr]; · iexact Hr
      isplitr; · iexact H1
      iexact H2
    · iexact H3
  iintro HO
  iapply Hk
  iexists _; iexact HO

theorem barrier_step (c : Dev nD) (sm : Sem sig) (hsm : sm = barS) (O : Tally) (hO : Above 1 O)
    (κ : PUnit → Prog (TpuEff nD τ sig (Elt F) Λ₀ .tc) α) (Q : α → sProp 𝕄) :
    iprop(recs P T K ∗ ow c O ∗ atPos ER (barCell c) 0 ∅ 0 ∗ cred (tallyAt (barCell c) () 7))
      ⊢ iprop(((ow c O ∗ atPos ER (barCell c) 1 ∅ 0 ∗ bigSep Finset.univ (barPay (F := F) c))
          -∗ wp frame (wpE defs 𝒱₀ (c : Thread nD τ) none) Set.univ (κ ⟨⟩) Q)
        -∗ wp frame (wpE defs 𝒱₀ (c : Thread nD τ) none) Set.univ (.op (.semWait sm 7) κ) Q) := by
  subst hsm
  unfold ow
  iintro ⟨#HR, ⟨%W, HO⟩, Hat, Hc⟩ Hk
  iapply (Rounds.wp_wait_rest_token 𝒱₀ ER (rd P T) (c : Thread nD τ) none (κ := K (barCell c))
      (wpE_semWait_eq 𝒱₀ (c : Thread nD τ) none Set.univ) (Set.mem_univ _) () (O := O) (W := W) (R := 0) (m := 0) (T := ∅)
      ((Nat.zero_add 7).trans (expect_bar P T c).symm)) $$ [Hc HO Hat]
  · isplitr; · iapply (inv_at P T K (mem_bar _)); iexact HR
    isplitl [Hc]; · iexact Hc
    isplitl [HO]; · iexact HO
    isplitr; · iapply (mayWait_at P T K c (.reg barS) O hO); iexact HR
    iexact Hat
  iintro ⟨HO, Hat, -, Hpay⟩
  ihave Hp := (Entails.of_eq (rest_bar P T c)) $$ Hpay
  iapply Hk
  isplitl [HO]; · iexists _; iexact HO
  isplitl [Hat]; · iexact Hat
  iexact Hp

/-! ## The waits on copies -/

/-- A wait for the one copy of a cell's round. -/
theorem wait_step (c : Dev nD) (s : DmaSem sig) (g : GSem nD τ sig) (hg : g = ((c : Thread nD τ), .dma s)) (hm : g ∈ cells) (X : sProp 𝕄)
    (hE : (rd P T).expect g 0 = N)
    (hX : bigSep ((rd P T).duties g 0 \ ∅) (fun d => (rd P T).payload g 0 d) = X)
    (O : Tally) (hO : Above (lvK (kindOf g.2)) O)
    {sp sp' : Space} {sh sh' : Shape} {e e' : EltTy} (M : Memref sig .tc sp sh e) (M' : Memref sig .tc sp' sh' e')
    (hN : M'.view.dmaCredit = N) (h1 : M.view.WordExact) (h2 : M'.view.WordExact)
    (κ : PUnit → Prog (TpuEff nD τ sig (Elt F) Λ₀ .tc) α) (Q : α → sProp 𝕄) :
    iprop(recs P T K ∗ ow c O ∗ atPos ER g 0 ∅ 0 ∗ cred (tallyAt g () N))
      ⊢ iprop(((ow c O ∗ atPos ER g 1 ∅ 0 ∗ X) -∗ wp frame (wpE defs 𝒱₀ (c : Thread nD τ) none) Set.univ (κ ⟨⟩) Q)
        -∗ wp frame (wpE defs 𝒱₀ (c : Thread nD τ) none) Set.univ (.op (.waitDma2 s M M' h1 h2) κ) Q) := by
  subst hg
  unfold ow
  rw [← hN]
  iintro ⟨#HR, ⟨%W, HO⟩, Hat, Hc⟩ Hk
  iapply (Rounds.wp_wait_rest_token 𝒱₀ ER (rd P T) (c : Thread nD τ) none (κ := K ((c : Thread nD τ), .dma s))
      (wpE_waitDma2_eq 𝒱₀ (c : Thread nD τ) none Set.univ) (Set.mem_univ _) () (O := O) (W := W) (R := 0) (m := 0) (T := ∅)
      ((Nat.zero_add _).trans (hN.trans hE.symm))) $$ [Hc HO Hat]
  · isplitr; · iapply (inv_at P T K hm); iexact HR
    isplitl [Hc]; · iexact Hc
    isplitl [HO]; · iexact HO
    isplitr; · iapply (mayWait_at P T K c (.dma s) O hO); iexact HR
    iexact Hat
  iintro ⟨HO, Hat, -, Hpay⟩
  ihave Hp := (Entails.of_eq hX) $$ Hpay
  iapply Hk
  isplitl [HO]; · iexists _; iexact HO
  isplitl [Hat]; · iexact Hat
  iexact Hp

/-! ## A block of partial sums to its owner -/

/-- What the sending of block `ch` needs besides the block, if it is sent at all. -/
def rsNeed (c : Dev nD) (ch : Fin 8) : sProp 𝕄 :=
  if rev ch = c then iprop(emp) else
    iprop(any (rsrSlot (kk c (rev ch))) (rev ch) ∗ reached ER (rsR (rev ch) (kk c (rev ch))) 0
      ∗ dutyTok ER (rsR (rev ch) (kk c (rev ch))) 0 0 ∗ reached ER (rsS c ch) 0 ∗ dutyTok ER (rsS c ch) 0 0)

/-- What is left of block `ch` after: the block, or the right to wait for it. -/
def rsLeft (c : Dev nD) (ch : Fin 8) : sProp 𝕄 :=
  if rev ch = c then any (rssSlot ch) c else cred (tallyAt (rsS c ch) () N)

theorem copied (M M' : Memref sig .tc .vmem S2x64x768 .bf16) (c d : Dev nD) (v : Blk F)
    (fs : Buf (Elt F) (M.view.loc (c : Thread nD τ))) (fd : Buf (Elt F) (M'.view.loc (d : Thread nD τ))) (h : M.view.read (Elt F) fs = v) :
    (M'.view.loc (d : Thread nD τ) ↦[M'.view.set]{fullShare} (M'.view.write (Elt F) fd (M.view.read (Elt F) fs) Finset.univ)) ⊢ full (F := F) M' d fullShare v := by
  unfold full
  iintro H
  iexists (M'.view.write (Elt F) fd (M.view.read (Elt F) fs) Finset.univ)
  isplitr [H]
  · ipureintro
    exact (View.read_write_univ _ _).trans h
  · iexact H

theorem as_full (M : Memref sig .tc .vmem S2x64x768 .bf16) (c : Dev nD) (q : PosShare TreeShare) (v : Blk F)
    (f : Buf (Elt F) (M.view.loc (c : Thread nD τ))) (h : M.view.read (Elt F) f = v) :
    (M.view.loc (c : Thread nD τ) ↦[M.view.set]{q} f) ⊢ full (F := F) M c q v := by
  unfold full
  iintro H
  iexists f
  isplitr [H]
  · ipureintro; exact h
  · iexact H

/-- A copy of a block between two memories, paying one cell on each side. -/
theorem send_gen (c d : Dev nD) (M M' : Memref sig .tc .vmem S2x64x768 .bf16) (sS sR : DmaSem sig) (q : PosShare TreeShare) (v : Blk F)
    (hS : (rd P T).duties ((c : Thread nD τ), .dma sS) 0 = {0}) (hR : (rd P T).duties ((d : Thread nD τ), .dma sR) 0 = {0})
    (aS : (rd P T).amount ((c : Thread nD τ), .dma sS) 0 0 = N) (aR : (rd P T).amount ((d : Thread nD τ), .dma sR) 0 0 = N)
    (pS : full M c q v ⊢ (rd P T).payload ((c : Thread nD τ), .dma sS) 0 0)
    (pR : full M' d fullShare v ⊢ (rd P T).payload ((d : Thread nD τ), .dma sR) 0 0)
    (mS : ((c : Thread nD τ), SemLoc.dma sS) ∈ cells) (mR : ((d : Thread nD τ), SemLoc.dma sR) ∈ cells)
    (hN : M'.view.amount (.dma sR) = N) (O : Tally)
    (w1 : M.view.WordExact) (w2 : M'.view.WordExact) (hsc : M'.view.ref.isScScratch = false)
    (ty : DmaTarget.Typed .vmem (.dma sR) (.remote (Dev.tc d) M' (.dma sS) hsc))
    (κ : PUnit → Prog (TpuEff nD τ sig (Elt F) Λ₀ .tc) α) (Q : α → sProp 𝕄) :
    iprop(recs P T K ∗ ow c (O + tallyAt ((d : Thread nD τ), .dma sR) () N) ∗ full M c q v ∗ any M' d
        ∗ dutyTok ER ((c : Thread nD τ), .dma sS) 0 0 ∗ reached ER ((c : Thread nD τ), .dma sS) 0
        ∗ dutyTok ER ((d : Thread nD τ), .dma sR) 0 0 ∗ reached ER ((d : Thread nD τ), .dma sR) 0)
      ⊢ iprop(((ow c O ∗ cred (tallyAt ((c : Thread nD τ), .dma sS) () N)) -∗ wp frame (wpE defs 𝒱₀ (c : Thread nD τ) none) Set.univ (κ ⟨⟩) Q)
        -∗ wp frame (wpE defs 𝒱₀ (c : Thread nD τ) none) Set.univ
          (.op (.enqueueDma M (.remote (Dev.tc d) M' (.dma sS) hsc) (.dma sR) w1 w2 ty) κ) Q) := by
  unfold ow any
  rw [show (full M c q v : sProp 𝕄) = iprop(∃ f, ⌜M.view.read (Elt F) f = v⌝ ∗ (M.view.loc (c : Thread nD τ) ↦[M.view.set]{q} f)) from rfl]
  iintro ⟨#HR, ⟨%W, HO⟩, ⟨%fs, %hfs, Hs⟩, ⟨%fd, Hd⟩, HtS, #HrS, HtR, #HrR⟩ Hk
  iapply (Rounds.wp_send_pointsTo 𝒱₀ ER (rd P T) (c : Thread nD τ) none (c' := (d : Thread nD τ)) (src := M) (dst := M')
      (sS := .dma sS) (sem := .dma sR) (q := q) (fs := fs) (κ₁ := K ((c : Thread nD τ), .dma sS)) (κ₂ := K ((d : Thread nD τ), .dma sR))
      (r₁ := 0) (r₂ := 0) (d₁ := 0) (d₂ := 0) (fd := fd)
      (by rw [hS]; exact Finset.mem_singleton_self _) (by rw [hR]; exact Finset.mem_singleton_self _)
      () () N hN aS aR O rfl (W := W)
      ((as_full M c q v fs hfs).trans pS)
      ((copied M M' c d v fs fd hfs).trans pR)) $$ [Hs Hd HO HtS HtR]
  · isplitr; · iapply (inv_at P T K mS); iexact HR
    isplitr; · iapply (inv_at P T K mR); iexact HR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [HO]; · iexists _; iexact HO
  iexact Hc

theorem rs_send (c : Dev nD) (ch : Fin 8) (hne : rev ch ≠ c) (R : Tally) (D : Dev nD) (hD : D = rev ch)
    (src : Memref sig .tc .vmem S2x64x768 .bf16) (hsrc : src = rssSlot ch)
    (dst : Memref sig .tc .vmem S2x64x768 .bf16) (hdst : dst = rsrSlot (kk c (rev ch)))
    (sS : DmaSem sig) (hsS : sS = sRsS ch) (sR : DmaSem sig) (hsR : sR = sRsR (kk c (rev ch)))
    (w1 : src.view.WordExact) (w2 : dst.view.WordExact) (hsc : dst.view.ref.isScScratch = false)
    (ty : DmaTarget.Typed .vmem (.dma sR) (.remote (Dev.tc D) dst (.dma sS) hsc))
    (κ : PUnit → Prog (TpuEff nD τ sig (Elt F) Λ₀ .tc) α) (Q : α → sProp 𝕄) :
    iprop(recs P T K ∗ ow c (oweFrom (owRs c) ch.val + R) ∗ full (rssSlot ch) c fullShare (P c ch) ∗ rsNeed c ch)
      ⊢ iprop(((ow c (oweFrom (owRs c) (ch.val + 1) + R) ∗ rsLeft c ch) -∗ wp frame (wpE defs 𝒱₀ (c : Thread nD τ) none) Set.univ (κ ⟨⟩) Q)
        -∗ wp frame (wpE defs 𝒱₀ (c : Thread nD τ) none) Set.univ
          (.op (.enqueueDma src (.remote (Dev.tc D) dst (.dma sS) hsc) (.dma sR) w1 w2 ty) κ) Q) := by
  subst hD hsrc hdst hsS hsR
  have hO : oweFrom (owRs c) ch.val + R = (oweFrom (owRs c) (ch.val + 1) + R) + tallyAt (rsR (rev ch) (kk c (rev ch))) () N := by
    rw [oweFrom_step]
    rw [show owRs c ch = tallyAt (rsR (rev ch) (kk c (rev ch))) () N from if_neg hne]
    abel
  have hk : pr (rev ch) (kk c (rev ch)) = c := by
    have := pr_pr c (kk c (rev ch)); rwa [pr_kk c _ hne] at this
  unfold rsNeed rsLeft
  rw [if_neg hne, if_neg hne, hO]
  iintro ⟨#HR, HO, Hb, Hd, #HrR, HtR, #HrS, HtS⟩ Hk
  iapply (send_gen P T K defs 𝒱₀ c (rev ch) (rssSlot ch) (rsrSlot (kk c (rev ch))) (sRsS ch) (sRsR (kk c (rev ch))) fullShare (P c ch)
    (duties_rsS P T c ch hne) (duties_rsR P T _ _) (amount_rsS P T _ _ _) (amount_rsR P T _ _ _)
    (by rw [payload_rsS]; exact full_any _ _ _)
    (by rw [payload_rsR]; unfold rsRPay; rw [hk, rev_rev]) (mem_rsS _ _) (mem_rsR _ _) rfl
    (oweFrom (owRs c) (ch.val + 1) + R) w1 w2 hsc ty κ Q) $$ [HO Hb Hd HtS HtR]
  · isplitr; · iexact HR
    isplitl [HO]; · iexact HO
    isplitl [Hb]; · iexact Hb
    isplitl [Hd]; · iexact Hd
    isplitl [HtS]; · iexact HtS
    isplitr; · iexact HrS
    isplitl [HtR]; · iexact HtR
    iexact HrR
  iexact Hk

theorem send_step (c : Dev nD) (ch : Fin 8) (R : Tally) (C : Prop) [Decidable C] (hC : C ↔ rev ch ≠ c)
    (D : C → Dev nD) (hD : ∀ h, D h = rev ch)
    (src : C → Memref sig .tc .vmem S2x64x768 .bf16) (hsrc : ∀ h, src h = rssSlot ch)
    (dst : C → Memref sig .tc .vmem S2x64x768 .bf16) (hdst : ∀ h, dst h = rsrSlot (kk c (rev ch)))
    (sS : C → DmaSem sig) (hsS : ∀ h, sS h = sRsS ch) (sR : C → DmaSem sig) (hsR : ∀ h, sR h = sRsR (kk c (rev ch)))
    (w1 : ∀ h, (src h).view.WordExact) (w2 : ∀ h, (dst h).view.WordExact)
    (hsc : ∀ h, (dst h).view.ref.isScScratch = false)
    (ty : ∀ h, DmaTarget.Typed .vmem (.dma (sR h)) (.remote (Dev.tc (D h)) (dst h) (.dma (sS h)) (hsc h)))
    (κ : PUnit → Prog (TpuEff nD τ sig (Elt F) Λ₀ .tc) α) (Q : α → sProp 𝕄) :
    iprop(recs P T K ∗ ow c (oweFrom (owRs c) ch.val + R) ∗ full (rssSlot ch) c fullShare (P c ch) ∗ rsNeed c ch)
      ⊢ iprop(((ow c (oweFrom (owRs c) (ch.val + 1) + R) ∗ rsLeft c ch) -∗ wp frame (wpE defs 𝒱₀ (c : Thread nD τ) none) Set.univ (κ ⟨⟩) Q)
        -∗ wp frame (wpE defs 𝒱₀ (c : Thread nD τ) none) Set.univ
          ((if h : C then (.op (.enqueueDma (src h) (.remote (Dev.tc (D h)) (dst h) (.dma (sS h)) (hsc h)) (.dma (sR h)) (w1 h) (w2 h) (ty h)) fun _ => .ret ⟨⟩)
            else .ret ⟨⟩) >>= κ) Q) := by
  by_cases h : C
  · rw [dif_pos h]
    exact rs_send P T K defs 𝒱₀ c ch (hC.mp h) R (D h) (hD h) (src h) (hsrc h) (dst h) (hdst h) (sS h) (hsS h) (sR h) (hsR h) (w1 h) (w2 h)
      (hsc h) (ty h) κ Q
  · have he : rev ch = c := by by_contra e; exact h (hC.mpr e)
    have hO : oweFrom (owRs c) ch.val + R = oweFrom (owRs c) (ch.val + 1) + R := by
      rw [oweFrom_step, show owRs c ch = 0 from if_pos he, add_zero]
    rw [dif_neg h, hO]
    unfold rsLeft
    rw [if_pos he]
    iintro ⟨-, HO, Hb, -⟩ Hk
    iapply Hk
    isplitl [HO]; · iexact HO
    iapply (full_any (rssSlot ch) c (P c ch)); iexact Hb

/-! ## A block of rows to a partner -/

/-- What the `k`-th gather copy needs besides a share of the rows. -/
def agNeed (c : Dev nD) (k : Fin 7) : sProp 𝕄 :=
  iprop(any (rowsM (rev c)) (pr c k) ∗ reached ER (agR (pr c k) k) 0 ∗ dutyTok ER (agR (pr c k) k) 0 0
    ∗ reached ER (agS c k) 0 ∗ dutyTok ER (agS c k) 0 0)

theorem ag_send (c : Dev nD) (k : Fin 7) (R : Tally) (D : Dev nD) (hD : D = pr c k)
    (src : Memref sig .tc .vmem S2x64x768 .bf16) (hsrc : src = rowsM (rev c))
    (dst : Memref sig .tc .vmem S2x64x768 .bf16) (hdst : dst = rowsM (rev c))
    (sS : DmaSem sig) (hsS : sS = sAgS k) (sR : DmaSem sig) (hsR : sR = sAgR k)
    (w1 : src.view.WordExact) (w2 : dst.view.WordExact) (hsc : dst.view.ref.isScScratch = false)
    (ty : DmaTarget.Typed .vmem (.dma sR) (.remote (Dev.tc D) dst (.dma sS) hsc))
    (κ : PUnit → Prog (TpuEff nD τ sig (Elt F) Λ₀ .tc) α) (Q : α → sProp 𝕄) :
    iprop(recs P T K ∗ ow c (oweFrom (owAg c) k.val) ∗ full (rowsM (rev c)) c (restSh k.val) (T c) ∗ agNeed c k)
      ⊢ iprop(((ow c (oweFrom (owAg c) (k.val + 1)) ∗ full (rowsM (rev c)) c (restSh (k.val + 1)) (T c) ∗ cred (tallyAt (agS c k) () N))
          -∗ wp frame (wpE defs 𝒱₀ (c : Thread nD τ) none) Set.univ (κ ⟨⟩) Q)
        -∗ wp frame (wpE defs 𝒱₀ (c : Thread nD τ) none) Set.univ
          (.op (.enqueueDma src (.remote (Dev.tc D) dst (.dma sS) hsc) (.dma sR) w1 w2 ty) κ) Q) := by
  subst hD hsrc hdst hsS hsR
  unfold agNeed
  rw [oweFrom_step]
  iintro ⟨#HR, HO, Hb, Hd, #HrR, HtR, #HrS, HtS⟩ Hk
  ihave Hb' := (full_cut (rowsM (rev c)) c (restSh k.val) (T c)) $$ Hb
  icases Hb' with ⟨Hb, Hrest⟩
  iapply (send_gen P T K defs 𝒱₀ c (pr c k) (rowsM (rev c)) (rowsM (rev c)) (sAgS k) (sAgR k) (restSh k.val).left (T c)
    (duties_agS P T c k) (duties_agR P T _ _) (amount_agS P T _ _ _) (amount_agR P T _ _ _)
    (by rw [payload_agS]; exact .rfl)
    (by rw [payload_agR]; unfold agRPay; rw [pr_pr]) (mem_agS _ _) (mem_agR _ _) rfl
    (oweFrom (owAg c) (k.val + 1)) w1 w2 hsc ty κ Q) $$ [HO Hb Hd HtS HtR]
  · isplitr; · iexact HR
    isplitl [HO]; · iexact HO
    isplitl [Hb]; · iexact Hb
    isplitl [Hd]; · iexact Hd
    isplitl [HtS]; · iexact HtS
    isplitr; · iexact HrS
    isplitl [HtR]; · iexact HtR
    iexact HrR
  iintro ⟨HO, Hc⟩
  iapply Hk
  isplitl [HO]; · iexact HO
  isplitl [Hrest]; · iexact Hrest
  iexact Hc

/-! ## The waits, one kind at a time -/

theorem rsR_wait (c : Dev nD) (k : Fin 7) (s : DmaSem sig) (hs : s = sRsR k) (O : Tally) (hO : Above 2 O)
    {sp sp' : Space} {sh sh' : Shape} {e e' : EltTy} (M : Memref sig .tc sp sh e) (M' : Memref sig .tc sp' sh' e')
    (hN : M'.view.dmaCredit = N) (h1 : M.view.WordExact) (h2 : M'.view.WordExact)
    (κ : PUnit → Prog (TpuEff nD τ sig (Elt F) Λ₀ .tc) α) (Q : α → sProp 𝕄) :
    iprop(recs P T K ∗ ow c O ∗ atPos ER (rsR c k) 0 ∅ 0 ∗ cred (tallyAt (rsR c k) () N))
      ⊢ iprop(((ow c O ∗ atPos ER (rsR c k) 1 ∅ 0 ∗ full (rsrSlot k) c fullShare (P (pr c k) (rev c)))
          -∗ wp frame (wpE defs 𝒱₀ (c : Thread nD τ) none) Set.univ (κ ⟨⟩) Q)
        -∗ wp frame (wpE defs 𝒱₀ (c : Thread nD τ) none) Set.univ (.op (.waitDma2 s M M' h1 h2) κ) Q) := by
  subst hs
  exact wait_step P T K defs 𝒱₀ c _ (rsR c k) rfl (mem_rsR c k) _ (expect_rsR P T c k) (rest_rsR P T c k) O
    (by rw [kind_rsR]; exact hO) M M' hN h1 h2 κ Q

theorem agS_wait (c : Dev nD) (k : Fin 7) (s : DmaSem sig) (hs : s = sAgS k)
    {sp sp' : Space} {sh sh' : Shape} {e e' : EltTy} (M : Memref sig .tc sp sh e) (M' : Memref sig .tc sp' sh' e')
    (hN : M'.view.dmaCredit = N) (h1 : M.view.WordExact) (h2 : M'.view.WordExact)
    (κ : PUnit → Prog (TpuEff nD τ sig (Elt F) Λ₀ .tc) α) (Q : α → sProp 𝕄) :
    iprop(recs P T K ∗ ow c 0 ∗ atPos ER (agS c k) 0 ∅ 0 ∗ cred (tallyAt (agS c k) () N))
      ⊢ iprop(((ow c 0 ∗ atPos ER (agS c k) 1 ∅ 0 ∗ full (rowsM (rev c)) c (agSh k.val) (T c))
          -∗ wp frame (wpE defs 𝒱₀ (c : Thread nD τ) none) Set.univ (κ ⟨⟩) Q)
        -∗ wp frame (wpE defs 𝒱₀ (c : Thread nD τ) none) Set.univ (.op (.waitDma2 s M M' h1 h2) κ) Q) := by
  subst hs
  exact wait_step P T K defs 𝒱₀ c _ (agS c k) rfl (mem_agS c k) _ (expect_agS P T c k) (rest_agS P T c k) 0
    (above_zero _) M M' hN h1 h2 κ Q

theorem agR_wait (c : Dev nD) (k : Fin 7) (s : DmaSem sig) (hs : s = sAgR k)
    {sp sp' : Space} {sh sh' : Shape} {e e' : EltTy} (M : Memref sig .tc sp sh e) (M' : Memref sig .tc sp' sh' e')
    (hN : M'.view.dmaCredit = N) (h1 : M.view.WordExact) (h2 : M'.view.WordExact)
    (κ : PUnit → Prog (TpuEff nD τ sig (Elt F) Λ₀ .tc) α) (Q : α → sProp 𝕄) :
    iprop(recs P T K ∗ ow c 0 ∗ atPos ER (agR c k) 0 ∅ 0 ∗ cred (tallyAt (agR c k) () N))
      ⊢ iprop(((ow c 0 ∗ atPos ER (agR c k) 1 ∅ 0 ∗ full (rowsM (rev (pr c k))) c fullShare (T (pr c k)))
          -∗ wp frame (wpE defs 𝒱₀ (c : Thread nD τ) none) Set.univ (κ ⟨⟩) Q)
        -∗ wp frame (wpE defs 𝒱₀ (c : Thread nD τ) none) Set.univ (.op (.waitDma2 s M M' h1 h2) κ) Q) := by
  subst hs
  exact wait_step P T K defs 𝒱₀ c _ (agR c k) rfl (mem_agR c k) _ (expect_agR P T c k) (rest_agR P T c k) 0
    (above_zero _) M M' hN h1 h2 κ Q

/-- Where a device's position on its send cell `ch` ends: at the one round taken, or where it began. -/
def rsEnd (c : Dev nD) (ch : Fin 8) : sProp 𝕄 := atPos ER (rsS c ch) (if rev ch = c then 0 else 1) ∅ 0

theorem rsS_wait (c : Dev nD) (ch : Fin 8) (C : Prop) [Decidable C] (hC : C ↔ rev ch ≠ c) (s : DmaSem sig) (hs : s = sRsS ch)
    {sp sp' : Space} {sh sh' : Shape} {e e' : EltTy} (M : Memref sig .tc sp sh e) (M' : Memref sig .tc sp' sh' e')
    (hN : M'.view.dmaCredit = N) (h1 : M.view.WordExact) (h2 : M'.view.WordExact)
    (κ : PUnit → Prog (TpuEff nD τ sig (Elt F) Λ₀ .tc) α) (Q : α → sProp 𝕄) :
    iprop(recs P T K ∗ ow c 0 ∗ atPos ER (rsS c ch) 0 ∅ 0 ∗ rsLeft c ch)
      ⊢ iprop(((ow c 0 ∗ rsEnd c ch ∗ any (rssSlot ch) c)
          -∗ wp frame (wpE defs 𝒱₀ (c : Thread nD τ) none) Set.univ (κ ⟨⟩) Q)
        -∗ wp frame (wpE defs 𝒱₀ (c : Thread nD τ) none) Set.univ
          ((if C then (.op (.waitDma2 s M M' h1 h2) fun _ => .ret ⟨⟩) else .ret ⟨⟩) >>= κ) Q) := by
  subst hs
  by_cases h : C
  · have hne := hC.mp h
    rw [if_pos h]
    unfold rsLeft rsEnd
    rw [if_neg hne, if_neg hne]
    exact wait_step P T K defs 𝒱₀ c _ (rsS c ch) rfl (mem_rsS c ch) _ (expect_rsS P T c ch hne) (rest_rsS P T c ch hne) 0
      (above_zero _) M M' hN h1 h2 κ Q
  · have he : rev ch = c := by by_contra e; exact h (hC.mpr e)
    rw [if_neg h]
    unfold rsLeft rsEnd
    rw [if_pos he, if_pos he]
    iintro ⟨-, HO, Hat, Hb⟩ Hk
    iapply Hk
    isplitl [HO]; · iexact HO
    isplitl [Hat]; · iexact Hat
    iexact Hb

end Cert.KernelIdeal.Talk

end
-- ==== Proof.Forms.lean ====
module

public import proofs.«01_k».proof.Proof.Steps

/-!
The devices, offsets and conditions that the program computes from its device number, in closed form.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Semaphores and blocks at an offset -/

theorem sS_of (k : Fin 8) (off : Fin 1 → ℕ) (ho : off = ![k.val]) (inb : ∀ a, off a + S1.size a ≤ S8.size a) :
    ((cc0_scratch3.slice (Rect.unit (s := S8) off S1.size inb)).squeeze S_ squeezes_S1_S_).sem = sRsS k := by
  subst ho; revert k; decide +kernel

theorem sR_of (k : Fin 7) (off : Fin 1 → ℕ) (ho : off = ![k.val]) (inb : ∀ a, off a + S1.size a ≤ S7.size a) :
    ((cc0_scratch4.slice (Rect.unit (s := S7) off S1.size inb)).squeeze S_ squeezes_S1_S_).sem = sRsR k := by
  subst ho; revert k; decide +kernel

theorem aS_of (k : Fin 7) (off : Fin 1 → ℕ) (ho : off = ![k.val]) (inb : ∀ a, off a + S1.size a ≤ S7.size a) :
    ((cc0_scratch5.slice (Rect.unit (s := S7) off S1.size inb)).squeeze S_ squeezes_S1_S_).sem = sAgS k := by
  subst ho; revert k; decide +kernel

theorem aR_of (k : Fin 7) (off : Fin 1 → ℕ) (ho : off = ![k.val]) (inb : ∀ a, off a + S1.size a ≤ S7.size a) :
    ((cc0_scratch6.slice (Rect.unit (s := S7) off S1.size inb)).squeeze S_ squeezes_S1_S_).sem = sAgR k := by
  subst ho; revert k; decide +kernel

theorem rss_of (k : Fin 8) (off : Fin 4 → ℕ) (ho : off = ![k.val, 0, 0, 0]) (inb : ∀ a, off a + S1x2x64x768.size a ≤ S8x2x64x768.size a) :
    (rssM.slice (Rect.unit (s := S8x2x64x768) off S1x2x64x768.size inb) (fun _ => rfl)).squeeze S2x64x768 squeezes_S1x2x64x768_S2x64x768 = rssSlot k := by
  subst ho; rfl

theorem rsr_of (k : Fin 7) (off : Fin 4 → ℕ) (ho : off = ![k.val, 0, 0, 0]) (inb : ∀ a, off a + S1x2x64x768.size a ≤ S7x2x64x768.size a) :
    (rsrM.slice (Rect.unit (s := S7x2x64x768) off S1x2x64x768.size inb) (fun _ => rfl)).squeeze S2x64x768 squeezes_S1x2x64x768_S2x64x768 = rsrSlot k := by
  subst ho; rfl

theorem rows_of (o : Fin 8) (off : Fin 3 → ℕ) (ho : off = ![0, 64 * o.val, 0]) (inb : ∀ a, off a + S2x64x768.size a ≤ S2x512x768.size a) :
    outM.slice (Rect.unit (s := S2x512x768) off S2x64x768.size inb) (fun _ => rfl) = rowsM o := by
  subst ho; rfl

/-! ## The partners signalled, and the partners sent to -/

theorem dev1 (c : Dev nD) : (⟨k0_dev1 c, k0_dev1_lt c⟩ : Dev nD) = pr c 0 := by revert c; decide +kernel
theorem dev2 (c : Dev nD) : (⟨k0_dev2 c, k0_dev2_lt c⟩ : Dev nD) = pr c 1 := by revert c; decide +kernel
theorem dev3 (c : Dev nD) : (⟨k0_dev3 c, k0_dev3_lt c⟩ : Dev nD) = pr c 2 := by revert c; decide +kernel
theorem dev4 (c : Dev nD) : (⟨k0_dev4 c, k0_dev4_lt c⟩ : Dev nD) = pr c 3 := by revert c; decide +kernel
theorem dev5 (c : Dev nD) : (⟨k0_dev5 c, k0_dev5_lt c⟩ : Dev nD) = pr c 4 := by revert c; decide +kernel
theorem dev6 (c : Dev nD) : (⟨k0_dev6 c, k0_dev6_lt c⟩ : Dev nD) = pr c 5 := by revert c; decide +kernel
theorem dev7 (c : Dev nD) : (⟨k0_dev7 c, k0_dev7_lt c⟩ : Dev nD) = pr c 6 := by revert c; decide +kernel
theorem dev16 (c : Dev nD) : (⟨k0_dev16 c, k0_dev16_lt c⟩ : Dev nD) = pr c 0 := by revert c; decide +kernel
theorem dev17 (c : Dev nD) : (⟨k0_dev17 c, k0_dev17_lt c⟩ : Dev nD) = pr c 1 := by revert c; decide +kernel
theorem dev18 (c : Dev nD) : (⟨k0_dev18 c, k0_dev18_lt c⟩ : Dev nD) = pr c 2 := by revert c; decide +kernel
theorem dev19 (c : Dev nD) : (⟨k0_dev19 c, k0_dev19_lt c⟩ : Dev nD) = pr c 3 := by revert c; decide +kernel
theorem dev20 (c : Dev nD) : (⟨k0_dev20 c, k0_dev20_lt c⟩ : Dev nD) = pr c 4 := by revert c; decide +kernel
theorem dev21 (c : Dev nD) : (⟨k0_dev21 c, k0_dev21_lt c⟩ : Dev nD) = pr c 5 := by revert c; decide +kernel
theorem dev22 (c : Dev nD) : (⟨k0_dev22 c, k0_dev22_lt c⟩ : Dev nD) = pr c 6 := by revert c; decide +kernel

/-! ## Row block by row block -/

theorem cond1 (c : Dev nD) : k0_cond1 c = 1#1 ↔ rev 0 ≠ c := by revert c; decide +kernel
theorem dev8 (c : Dev nD) (h : k0_cond1 c = 1#1) : (⟨k0_dev8, k0_dev8_lt c h⟩ : Dev nD) = rev 0 := Fin.ext k0_dev8_eq
theorem off1 (c : Dev nD) (h : k0_cond1 c = 1#1) : k0_off1 c = ![(kk c (rev 0)).val] := by revert c; decide +kernel
theorem off2 (c : Dev nD) (h : k0_cond1 c = 1#1) : k0_off2 c = ![(kk c (rev 0)).val, 0, 0, 0] := by revert c; decide +kernel
theorem cond2 (c : Dev nD) : k0_cond2 c = 1#1 ↔ rev 1 ≠ c := by revert c; decide +kernel
theorem dev9 (c : Dev nD) (h : k0_cond2 c = 1#1) : (⟨k0_dev9, k0_dev9_lt c h⟩ : Dev nD) = rev 1 := Fin.ext k0_dev9_eq
theorem off3 (c : Dev nD) (h : k0_cond2 c = 1#1) : k0_off3 c = ![(kk c (rev 1)).val] := by revert c; decide +kernel
theorem off4 (c : Dev nD) (h : k0_cond2 c = 1#1) : k0_off4 c = ![(kk c (rev 1)).val, 0, 0, 0] := by revert c; decide +kernel
theorem cond3 (c : Dev nD) : k0_cond3 c = 1#1 ↔ rev 2 ≠ c := by revert c; decide +kernel
theorem dev10 (c : Dev nD) (h : k0_cond3 c = 1#1) : (⟨k0_dev10, k0_dev10_lt c h⟩ : Dev nD) = rev 2 := Fin.ext k0_dev10_eq
theorem off5 (c : Dev nD) (h : k0_cond3 c = 1#1) : k0_off5 c = ![(kk c (rev 2)).val] := by revert c; decide +kernel
theorem off6 (c : Dev nD) (h : k0_cond3 c = 1#1) : k0_off6 c = ![(kk c (rev 2)).val, 0, 0, 0] := by revert c; decide +kernel
theorem cond4 (c : Dev nD) : k0_cond4 c = 1#1 ↔ rev 3 ≠ c := by revert c; decide +kernel
theorem dev11 (c : Dev nD) (h : k0_cond4 c = 1#1) : (⟨k0_dev11, k0_dev11_lt c h⟩ : Dev nD) = rev 3 := Fin.ext k0_dev11_eq
theorem off7 (c : Dev nD) (h : k0_cond4 c = 1#1) : k0_off7 c = ![(kk c (rev 3)).val] := by revert c; decide +kernel
theorem off8 (c : Dev nD) (h : k0_cond4 c = 1#1) : k0_off8 c = ![(kk c (rev 3)).val, 0, 0, 0] := by revert c; decide +kernel
theorem cond5 (c : Dev nD) : k0_cond5 c = 1#1 ↔ rev 4 ≠ c := by revert c; decide +kernel
theorem dev12 (c : Dev nD) (h : k0_cond5 c = 1#1) : (⟨k0_dev12, k0_dev12_lt c h⟩ : Dev nD) = rev 4 := Fin.ext k0_dev12_eq
theorem off9 (c : Dev nD) (h : k0_cond5 c = 1#1) : k0_off9 c = ![(kk c (rev 4)).val] := by revert c; decide +kernel
theorem off10 (c : Dev nD) (h : k0_cond5 c = 1#1) : k0_off10 c = ![(kk c (rev 4)).val, 0, 0, 0] := by revert c; decide +kernel
theorem cond6 (c : Dev nD) : k0_cond6 c = 1#1 ↔ rev 5 ≠ c := by revert c; decide +kernel
theorem dev13 (c : Dev nD) (h : k0_cond6 c = 1#1) : (⟨k0_dev13, k0_dev13_lt c h⟩ : Dev nD) = rev 5 := Fin.ext k0_dev13_eq
theorem off11 (c : Dev nD) (h : k0_cond6 c = 1#1) : k0_off11 c = ![(kk c (rev 5)).val] := by revert c; decide +kernel
theorem off12 (c : Dev nD) (h : k0_cond6 c = 1#1) : k0_off12 c = ![(kk c (rev 5)).val, 0, 0, 0] := by revert c; decide +kernel
theorem cond7 (c : Dev nD) : k0_cond7 c = 1#1 ↔ rev 6 ≠ c := by revert c; decide +kernel
theorem dev14 (c : Dev nD) (h : k0_cond7 c = 1#1) : (⟨k0_dev14, k0_dev14_lt c h⟩ : Dev nD) = rev 6 := Fin.ext k0_dev14_eq
theorem off13 (c : Dev nD) (h : k0_cond7 c = 1#1) : k0_off13 c = ![(kk c (rev 6)).val] := by revert c; decide +kernel
theorem off14 (c : Dev nD) (h : k0_cond7 c = 1#1) : k0_off14 c = ![(kk c (rev 6)).val, 0, 0, 0] := by revert c; decide +kernel
theorem cond8 (c : Dev nD) : k0_cond8 c = 1#1 ↔ rev 7 ≠ c := by revert c; decide +kernel
theorem dev15 (c : Dev nD) (h : k0_cond8 c = 1#1) : (⟨k0_dev15, k0_dev15_lt c h⟩ : Dev nD) = rev 7 := Fin.ext k0_dev15_eq
theorem off15 (c : Dev nD) (h : k0_cond8 c = 1#1) : k0_off15 c = ![(kk c (rev 7)).val] := by revert c; decide +kernel
theorem off16 (c : Dev nD) (h : k0_cond8 c = 1#1) : k0_off16 c = ![(kk c (rev 7)).val, 0, 0, 0] := by revert c; decide +kernel

theorem off17 (c : Dev nD) : k0_off17 c = ![0, 64 * (rev c).val, 0] := by revert c; decide +kernel
theorem off18 (c : Dev nD) : k0_off18 c = ![0, 64 * (rev c).val, 0] := by revert c; decide +kernel

/-- The condition under which the copy of row block `ch` is waited for, as the program says it of the owner's number. -/
theorem owner_cond (c : Dev nD) (ch : Fin 8) (o : BitVec 32) (ho : o = BitVec.ofNat 32 (rev ch).val) :
    Scalar.cmpi .ne (Scalar.extui (Scalar.cmpi .ne (Scalar.remsi (Scalar.divsi (Dev.word c) 1#32) 8#32) o) : BitVec 32) 0#32 = 1#1 ↔ rev ch ≠ c := by
  subst ho; revert c ch; decide +kernel

/-! ## The two steps that depend on the device, as the program writes them -/

section
variable (P : Dev nD → Fin 8 → Blk F) (T : Dev nD → Blk F) (K : GSem nD τ sig → ℕ) (defs : Defs nD τ sig (Elt F) Λ₀) (𝒱₀ : Variants) {α β : Type}

theorem send_if (c : Dev nD) (ch : Fin 8) (R : Tally) (C : Prop) [Decidable C] (hC : C ↔ rev ch ≠ c)
    (D : C → Dev nD) (hD : ∀ h, D h = rev ch)
    (src : Memref sig .tc .vmem S2x64x768 .bf16) (hsrc : src = rssSlot ch)
    (dst : C → Memref sig .tc .vmem S2x64x768 .bf16) (hdst : ∀ h, dst h = rsrSlot (kk c (rev ch)))
    (sS : DmaSem sig) (hsS : sS = sRsS ch) (sR : C → DmaSem sig) (hsR : ∀ h, sR h = sRsR (kk c (rev ch)))
    (w1 : src.view.WordExact) (w2 : ∀ h, (dst h).view.WordExact)
    (hsc : ∀ h, (dst h).view.ref.isScScratch = false)
    (ty : ∀ h, DmaTarget.Typed .vmem (.dma (sR h)) (.remote (Dev.tc (D h)) (dst h) (.dma sS) (hsc h)))
    (k : Prog (TpuEff nD τ sig (Elt F) Λ₀ .tc) β) (κ : β → Prog (TpuEff nD τ sig (Elt F) Λ₀ .tc) α) (Q : α → sProp 𝕄) :
    iprop(recs P T K ∗ ow c (oweFrom (owRs c) ch.val + R) ∗ full (rssSlot ch) c fullShare (P c ch) ∗ rsNeed c ch)
      ⊢ iprop(((ow c (oweFrom (owRs c) (ch.val + 1) + R) ∗ rsLeft c ch) -∗ wp frame (wpE defs 𝒱₀ (c : Thread nD τ) none) Set.univ (k >>= κ) Q)
        -∗ wp frame (wpE defs 𝒱₀ (c : Thread nD τ) none) Set.univ
          ((if h : C then .op (.enqueueDma src (.remote (Dev.tc (D h)) (dst h) (.dma sS) (hsc h)) (.dma (sR h)) w1 (w2 h) (ty h)) fun _ => k
            else k) >>= κ) Q) := by
  have key := send_step P T K defs 𝒱₀ c ch R C hC D hD (fun _ => src) (fun _ => hsrc) dst hdst (fun _ => sS) (fun _ => hsS) sR hsR (fun _ => w1) w2 hsc ty
    (fun _ => k >>= κ) Q
  by_cases h : C
  · rw [dif_pos h] at key ⊢; exact key
  · rw [dif_neg h] at key ⊢; exact key

theorem wait_if (c : Dev nD) (ch : Fin 8) (C : Prop) [Decidable C] (hC : C ↔ rev ch ≠ c) (s : DmaSem sig) (hs : s = sRsS ch)
    {sp sp' : Space} {sh sh' : Shape} {e e' : EltTy} (M : Memref sig .tc sp sh e) (M' : Memref sig .tc sp' sh' e')
    (hN : M'.view.dmaCredit = N) (h1 : M.view.WordExact) (h2 : M'.view.WordExact)
    (k : Prog (TpuEff nD τ sig (Elt F) Λ₀ .tc) β) (κ : β → Prog (TpuEff nD τ sig (Elt F) Λ₀ .tc) α) (Q : α → sProp 𝕄) :
    iprop(recs P T K ∗ ow c 0 ∗ atPos ER (rsS c ch) 0 ∅ 0 ∗ rsLeft c ch)
      ⊢ iprop(((ow c 0 ∗ rsEnd c ch ∗ any (rssSlot ch) c)
          -∗ wp frame (wpE defs 𝒱₀ (c : Thread nD τ) none) Set.univ (k >>= κ) Q)
        -∗ wp frame (wpE defs 𝒱₀ (c : Thread nD τ) none) Set.univ
          ((if _h : C then .op (.waitDma2 s M M' h1 h2) fun _ => k else k) >>= κ) Q) := by
  have key := rsS_wait P T K defs 𝒱₀ c ch C hC s hs M M' hN h1 h2 (fun _ => k >>= κ) Q
  by_cases h : C
  · rw [if_pos h] at key; rw [dif_pos h]; exact key
  · rw [if_neg h] at key; rw [dif_neg h]; exact key

end

end Cert.KernelIdeal.Talk

end
-- ==== Proof.Slots.lean ====
module

public import proofs.«01_k».proof.Proof.Steps

/-!
Loads and stores of the blocks that the copies move: of a send slot, a receive slot, and the device's own rows of the result.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (defs : Defs nD τ sig (Elt F) Λ₀) (𝒱₀ : Variants) {α : Type}

/-- A slot as it is loaded or stored, read as the block that is copied. -/
def sq (w : S1x2x64x768.Idx → Elt F .bf16) : Blk F := fun j => w (Shape.reshapeEquiv squeezes_S1x2x64x768_S2x64x768.numel_eq j)

/-- … and the block as it is loaded. -/
def unsq (v : Blk F) : S1x2x64x768.Idx → Elt F .bf16 := fun i => v ((Shape.reshapeEquiv squeezes_S1x2x64x768_S2x64x768.numel_eq).symm i)

theorem unsq_sq (w : S1x2x64x768.Idx → Elt F .bf16) : unsq (sq w) = w := by
  funext i; unfold unsq sq; rw [Equiv.apply_symm_apply]

theorem rss_set (ch : Fin 8) : (rssM.access (rssR ch)).set = (rssSlot ch).view.set := (View.set_reshape _ _).symm
theorem rsr_set (k : Fin 7) : (rsrM.access (rsrR k)).set = (rsrSlot k).view.set := (View.set_reshape _ _).symm

theorem rss_read (ch : Fin 8) (c : Dev nD) (f : Buf (Elt F) ((rssSlot ch).view.loc (c : Thread nD τ))) :
    (rssSlot ch).view.read (Elt F) f = sq ((rssM.access (rssR ch)).read (Elt F) f) := rfl
theorem rsr_read (k : Fin 7) (c : Dev nD) (f : Buf (Elt F) ((rsrSlot k).view.loc (c : Thread nD τ))) :
    (rsrSlot k).view.read (Elt F) f = sq ((rsrM.access (rsrR k)).read (Elt F) f) := rfl

/-- Send slot `ch` is loaded (the value is not used) and then stored. -/
theorem slot_put (c : Dev nD) (ch : Fin 8) (v : Blk F) (off : Fin 4 → ℕ) (ho : off = ![ch.val, 0, 0, 0])
    (inb : ∀ a, off a + S1x2x64x768.size a ≤ S8x2x64x768.size a) (w : S1x2x64x768.Idx → Elt F .bf16) (hv : sq w = v)
    (hl : rssM.view.LoadsAt (Rect.unit (s := S8x2x64x768) off S1x2x64x768.size inb).toLoadRect)
    (hx : (rssM.access (Rect.unit (s := S8x2x64x768) off S1x2x64x768.size inb)).Stores Finset.univ)
    (hm : (Finset.univ : Finset (Rect.unit (s := S8x2x64x768) off S1x2x64x768.size inb).shape.Idx) = Finset.univ
      ∨ ∀ a, (Rect.unit (s := S8x2x64x768) off S1x2x64x768.size inb).stride a = 1)
    (κ : PUnit → Prog (TpuEff nD τ sig (Elt F) Λ₀ .tc) α) (Q : α → sProp 𝕄) :
    any (F := F) (rssSlot ch) c
      ⊢ iprop((full (rssSlot ch) c fullShare v -∗ wp frame (wpE defs 𝒱₀ (c : Thread nD τ) none) Set.univ (κ ⟨⟩) Q)
        -∗ wp frame (wpE defs 𝒱₀ (c : Thread nD τ) none) Set.univ
          (.op (.load rssM (Rect.unit (s := S8x2x64x768) off S1x2x64x768.size inb).toLoadRect hl) fun _ =>
            .op (.store rssM (Rect.unit (s := S8x2x64x768) off S1x2x64x768.size inb) w Finset.univ hx hm) κ) Q) := by
  subst ho
  unfold any full
  iintro ⟨%f, H⟩ Hk
  iapply (wp_load_rect 𝒱₀ (c : Thread nD τ) none Set.univ (m := rssM) (r := rssR ch) (f := f) (q := fullShare) (S := (rssSlot ch).view.set)
    (rss_set ch).le) $$ H
  iintro H
  iapply (wp_store 𝒱₀ (c : Thread nD τ) none Set.univ (m := rssM) (r := rssR ch) (f := f) (w := w) (Mk := Finset.univ) (S := (rssSlot ch).view.set)
    (by rw [View.setOn_univ]; exact (rss_set ch).le)) $$ H
  iintro H
  iapply Hk
  iexists _
  isplitr [H]
  rotate_left
  · iexact H
  · ipureintro
    rw [rss_read, View.read_write_univ]; exact hv

/-- Receive slot `k`, loaded. -/
theorem slot_get (c : Dev nD) (k : Fin 7) (v : Blk F) (off : Fin 4 → ℕ) (ho : off = ![k.val, 0, 0, 0])
    (inb : ∀ a, off a + S1x2x64x768.size a ≤ S7x2x64x768.size a)
    (hl : rsrM.view.LoadsAt (Rect.unit (s := S7x2x64x768) off S1x2x64x768.size inb).toLoadRect)
    (κ : (S1x2x64x768.Idx → Elt F .bf16) → Prog (TpuEff nD τ sig (Elt F) Λ₀ .tc) α) (Q : α → sProp 𝕄) :
    full (rsrSlot k) c fullShare v
      ⊢ iprop((full (rsrSlot k) c fullShare v -∗ wp frame (wpE defs 𝒱₀ (c : Thread nD τ) none) Set.univ (κ (unsq v)) Q)
        -∗ wp frame (wpE defs 𝒱₀ (c : Thread nD τ) none) Set.univ
          (.op (.load rsrM (Rect.unit (s := S7x2x64x768) off S1x2x64x768.size inb).toLoadRect hl) κ) Q) := by
  subst ho
  unfold full
  iintro ⟨%f, %hf, H⟩ Hk
  iapply (wp_load_rect 𝒱₀ (c : Thread nD τ) none Set.univ (m := rsrM) (r := rsrR k) (f := f) (q := fullShare) (S := (rsrSlot k).view.set)
    (rsr_set k).le) $$ H
  iintro H
  rw [show (rsrM.access (rsrR k)).read (Elt F) f = unsq v by rw [← hf, rsr_read k c f, unsq_sq]]
  iapply Hk
  iexists f
  isplitr [H]; · ipureintro; exact hf
  iexact H

/-- The device's own rows of the result: loaded (the value is not used) and then stored. -/
theorem rows_put (c : Dev nD) (o : Fin 8) (off : Fin 3 → ℕ) (ho : off = ![0, 64 * o.val, 0])
    (inb : ∀ a, off a + S2x64x768.size a ≤ S2x512x768.size a) (w : S2x64x768.Idx → Elt F .bf16)
    (hl : outM.view.LoadsAt (Rect.unit (s := S2x512x768) off S2x64x768.size inb).toLoadRect)
    (hx : (outM.access (Rect.unit (s := S2x512x768) off S2x64x768.size inb)).Stores Finset.univ)
    (hm : (Finset.univ : Finset (Rect.unit (s := S2x512x768) off S2x64x768.size inb).shape.Idx) = Finset.univ
      ∨ ∀ a, (Rect.unit (s := S2x512x768) off S2x64x768.size inb).stride a = 1)
    (κ : PUnit → Prog (TpuEff nD τ sig (Elt F) Λ₀ .tc) α) (Q : α → sProp 𝕄) :
    any (F := F) (rowsM o) c
      ⊢ iprop((full (rowsM o) c fullShare w -∗ wp frame (wpE defs 𝒱₀ (c : Thread nD τ) none) Set.univ (κ ⟨⟩) Q)
        -∗ wp frame (wpE defs 𝒱₀ (c : Thread nD τ) none) Set.univ
          (.op (.load outM (Rect.unit (s := S2x512x768) off S2x64x768.size inb).toLoadRect hl) fun _ =>
            .op (.store outM (Rect.unit (s := S2x512x768) off S2x64x768.size inb) w Finset.univ hx hm) κ) Q) := by
  subst ho
  unfold any full
  iintro ⟨%f, H⟩ Hk
  iapply (wp_load_rect 𝒱₀ (c : Thread nD τ) none Set.univ (m := outM) (r := rowR o) (f := f) (q := fullShare) (S := (rowsM o).view.set)
    (le_refl _)) $$ H
  iintro H
  iapply (wp_store 𝒱₀ (c : Thread nD τ) none Set.univ (m := outM) (r := rowR o) (f := f) (w := w) (Mk := Finset.univ) (S := (rowsM o).view.set)
    (by rw [View.setOn_univ])) $$ H
  iintro H
  iapply Hk
  iexists _
  isplitr [H]
  rotate_left
  · iexact H
  · ipureintro
    exact View.read_write_univ _ _

end Cert.KernelIdeal.Talk

end
-- ==== Proof.Blk.lean ====
module

public import proofs.«01_k».proof.Proof.Gen.KernelIdeal.Skeleton

/-!
What one device computes before any exchange: for a quarter of the rows of one batch, the attention of the device's eight heads and its
product with the device's rows of the output weights; and the array of all such blocks.
-/

@[expose] public section

set_option maxRecDepth 65536

noncomputable section

namespace Cert.KernelIdeal.Talk

open Cert.KernelIdeal Cert.KernelIdeal.Gen
open Idealize.ShloMosaic Idealize.ShloMosaic.TcCoe

variable {F : FTy → Type} [FloatOps F] [Named F]

/-- The six operands of a device, as arrays. -/
structure Ins (F : FTy → Type) [FloatOps F] where
  x : S2x512x768.Idx → Elt F .bf16
  wq : S768x512.Idx → Elt F .bf16
  kt : S2x8x512x64.Idx → Elt F .bf16
  vt : S2x8x512x64.Idx → Elt F .bf16
  wo : S512x768.Idx → Elt F .bf16
  mask : S512x512.Idx → Elt F .f32

/-- The entries of an array in a rectangle. -/
def cutR {S : Shape} {α : Type} (X : S.Idx → α) (r : Rect S) : r.shape.Idx → α := fun j => X (r.emb j)

/-- The chances of head `h` over the keys, for 128 rows. -/
def probOf (h : Fin 8) (bias qa : FVec F S128x512 .f32) (k : Vec F S1x1x512x64 .bf16) (hs : S128x512.Slices ![0, 64 * h.val] S128x64) : FVec F S128x512 .f32 :=
  let s : FVec F S128x512 .f32 := addf (mulf (matmul dot_S128x64_S512x64_S128x512_1_1_0_0_n_n none
    (truncf .bf16 (extractStridedSlice S128x64 ![0, 64 * h.val] qa hs) bitsLt_bf16_f32) (shapeCast S512x64 k shapeCasts_S1x1x512x64_S512x64)
    (constant S128x512 .f32 0x00000000#32)) (broadcast S128x512 (Scalar.ofBits .f32 0x3E000000#32))) bias
  let e : FVec F S128x512 .f32 := exp (subf s (broadcastTo S128x512 (shapeCast S128x1
    (multiReduction .maximumf [1] S128 s 0xFF800000#32 reduces_S128x512_S128 (.inl rfl) rfl) shapeCasts_S128_S128x1) broadcasts_S128x1_S128x512))
  divf e (broadcastTo S128x512 (shapeCast S128x1
    (multiReduction .add [1] S128 e 0x00000000#32 reduces_S128x512_S128 (.inl rfl) rfl) shapeCasts_S128_S128x1) broadcasts_S128x1_S128x512)

theorem head_inb : ∀ h : Fin 8, S128x512.Slices ![0, 64 * h.val] S128x64 := by decide

/-- The mix of the values of head `h`, for 128 rows. -/
def ctxOf (bias qa : FVec F S128x512 .f32) (k v : Vec F S1x1x512x64 .bf16) (h : Fin 8) : FVec F S128x64 .f32 :=
  matmul dot_S128x512_S512x64_S128x64_1_0_0_1_n_n none (truncf .bf16 (probOf h bias qa k (head_inb h)) bitsLt_bf16_f32)
    (shapeCast S512x64 v shapeCasts_S1x1x512x64_S512x64) (constant S128x64 .f32 0x00000000#32)

/-- The eight mixes side by side, times the output weights. -/
def mergeOf (wo : FVec F S512x768 .bf16) (c : Fin 8 → FVec F S128x64 .f32) : FVec F S128x768 .f32 :=
  matmul dot_S128x512_S512x768_S128x768_1_0_0_1_n_n none
    (truncf .bf16 (concatenate S128x512 1 [⟨S128x64, c 0⟩, ⟨S128x64, c 1⟩, ⟨S128x64, c 2⟩, ⟨S128x64, c 3⟩, ⟨S128x64, c 4⟩, ⟨S128x64, c 5⟩,
      ⟨S128x64, c 6⟩, ⟨S128x64, c 7⟩] concatenates_S128x64_S128x64_S128x64_S128x64_S128x64_S128x64_S128x64_S128x64_S128x512_d1) bitsLt_bf16_f32)
    wo (constant S128x768 .f32 0x00000000#32)

theorem mask_inb : ∀ qt : Fin 4, ∀ a, ![128 * qt.val, 0] a + S128x512.size a ≤ S512x512.size a := by decide
theorem x_inb : ∀ (b : Fin 2) (qt : Fin 4), ∀ a, ![b.val, 128 * qt.val, 0] a + S1x128x768.size a ≤ S2x512x768.size a := by decide
theorem kv_inb : ∀ (b : Fin 2) (h : Fin 8), ∀ a, ![b.val, h.val, 0, 0] a + S1x1x512x64.size a ≤ S2x8x512x64.size a := by decide
theorem wq_inb : ∀ a, ![0, 0] a + S768x512.size a ≤ S768x512.size a := by decide
theorem wo_inb : ∀ a, ![0, 0] a + S512x768.size a ≤ S512x768.size a := by decide

namespace Ins

variable (I : Ins F)

def bias (qt : Fin 4) : FVec F S128x512 .f32 := k0_pay3 (cutR I.mask (Rect.unit ![128 * qt.val, 0] S128x512.size (mask_inb qt)))
def wqL : FVec F S768x512 .bf16 := k0_pay1 (cutR I.wq (Rect.unit ![0, 0] S768x512.size wq_inb))
def woL : FVec F S512x768 .bf16 := k0_pay2 (cutR I.wo (Rect.unit ![0, 0] S512x768.size wo_inb))
def xL (b : Fin 2) (qt : Fin 4) : Vec F S1x128x768 .bf16 := cutR I.x (Rect.unit ![b.val, 128 * qt.val, 0] S1x128x768.size (x_inb b qt))
def kL (b : Fin 2) (h : Fin 8) : Vec F S1x1x512x64 .bf16 := cutR I.kt (Rect.unit ![b.val, h.val, 0, 0] S1x1x512x64.size (kv_inb b h))
def vL (b : Fin 2) (h : Fin 8) : Vec F S1x1x512x64 .bf16 := cutR I.vt (Rect.unit ![b.val, h.val, 0, 0] S1x1x512x64.size (kv_inb b h))

/-- The partial sums of one quarter of the rows of batch `b`. -/
def blk (b : Fin 2) (qt : Fin 4) : FVec F S128x768 .f32 :=
  mergeOf I.woL fun h => ctxOf (I.bias qt) (k0_pay18 I.wqL (I.xL b qt)) (I.kL b h) (I.vL b h) h

/-- The same with a leading axis of one, as it is stored. -/
def blk3 (b : Fin 2) (qt : Fin 4) : FVec F S1x128x768 .f32 := k0_pay30 (I.blk b qt)

theorem blk3_of (b : Fin 2) (qt : Fin 4) (c0 c1 c2 c3 c4 c5 c6 c7 : FVec F S128x64 .f32) (wo : FVec F S512x768 .bf16) (hwo : wo = I.woL)
    (h0 : c0 = ctxOf (I.bias qt) (k0_pay18 I.wqL (I.xL b qt)) (I.kL b 0) (I.vL b 0) 0)
    (h1 : c1 = ctxOf (I.bias qt) (k0_pay18 I.wqL (I.xL b qt)) (I.kL b 1) (I.vL b 1) 1)
    (h2 : c2 = ctxOf (I.bias qt) (k0_pay18 I.wqL (I.xL b qt)) (I.kL b 2) (I.vL b 2) 2)
    (h3 : c3 = ctxOf (I.bias qt) (k0_pay18 I.wqL (I.xL b qt)) (I.kL b 3) (I.vL b 3) 3)
    (h4 : c4 = ctxOf (I.bias qt) (k0_pay18 I.wqL (I.xL b qt)) (I.kL b 4) (I.vL b 4) 4)
    (h5 : c5 = ctxOf (I.bias qt) (k0_pay18 I.wqL (I.xL b qt)) (I.kL b 5) (I.vL b 5) 5)
    (h6 : c6 = ctxOf (I.bias qt) (k0_pay18 I.wqL (I.xL b qt)) (I.kL b 6) (I.vL b 6) 6)
    (h7 : c7 = ctxOf (I.bias qt) (k0_pay18 I.wqL (I.xL b qt)) (I.kL b 7) (I.vL b 7) 7) :
    shapeCast S1x128x768 (matmul dot_S128x512_S512x768_S128x768_1_0_0_1_n_n none
      (truncf .bf16 (concatenate S128x512 1 [⟨S128x64, c0⟩, ⟨S128x64, c1⟩, ⟨S128x64, c2⟩, ⟨S128x64, c3⟩, ⟨S128x64, c4⟩, ⟨S128x64, c5⟩, ⟨S128x64, c6⟩, ⟨S128x64, c7⟩]
        concatenates_S128x64_S128x64_S128x64_S128x64_S128x64_S128x64_S128x64_S128x64_S128x512_d1) bitsLt_bf16_f32)
      wo (constant S128x768 .f32 0x00000000#32)) shapeCasts_S128x768_S1x128x768 = I.blk3 b qt := by
  subst hwo h0 h1 h2 h3 h4 h5 h6 h7
  rfl

/-- The partial sums of all rows. -/
def acc : S2x512x768.Idx → Elt F .f32 := fun i =>
  I.blk3 (i 0) ⟨(i 1).val / 128, by have : (i 1).val < 512 := (i 1).isLt; omega⟩
    (fun a => match a with
      | 0 => ⟨0, by show 0 < 1; omega⟩
      | 1 => ⟨(i 1).val % 128, by show _ < 128; omega⟩
      | 2 => i 2)

theorem acc_at (b : Fin 2) (qt : Fin 4) (h : ∀ a, (![b.val, 128 * qt.val, 0] : Fin 3 → ℕ) a + S1x128x768.size a ≤ S2x512x768.size a) (j : S1x128x768.Idx) :
    I.acc ((Rect.unit (s := S2x512x768) ![b.val, 128 * qt.val, 0] S1x128x768.size h).emb j) = I.blk3 b qt j := by
  have hj0 : (j 0).val < 1 := (j 0).isLt
  have hj1 : (j 1).val < 128 := (j 1).isLt
  set e : S2x512x768.Idx := (Rect.unit (s := S2x512x768) ![b.val, 128 * qt.val, 0] S1x128x768.size h).emb j with he
  have e0 : (e 0).val = b.val + 1 * (j 0).val := rfl
  have e1 : (e 1).val = 128 * qt.val + 1 * (j 1).val := rfl
  have e2 : (e 2).val = 0 + 1 * (j 2).val := rfl
  have hb : e 0 = b := Fin.ext (by omega)
  have hq : (⟨(e 1).val / 128, by have : (e 1).val < 512 := (e 1).isLt; omega⟩ : Fin 4) = qt := Fin.ext (by show (e 1).val / 128 = _; omega)
  unfold acc
  rw [hb, hq]
  congr 1
  funext a
  match a with
  | 0 => exact Fin.ext (by show 0 = (j 0).val; omega)
  | 1 => exact Fin.ext (by show (e 1).val % 128 = (j 1).val; omega)
  | 2 => exact Fin.ext (by show (e 2).val = (j 2).val; omega)

end Ins

end Cert.KernelIdeal.Talk

end
-- ==== Proof.State.lean ====
module

public import proofs.«01_k».proof.Proof.Slots
public import proofs.«01_k».proof.Proof.Blk

/-!
The running sums between the quarters of the rows.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev hld {S : Shape} {e : EltTy} (M : Memref sig .tc .vmem S e) (c : Dev nD) (q : PosShare TreeShare) (f : Buf (Elt F) (M.view.loc (c : Thread nD τ))) : sProp 𝕄 :=
  iprop(M.view.loc (c : Thread nD τ) ↦[M.view.set]{q} f)

theorem chunk_inb : ∀ ch : Fin 8, ∀ a, (![0, 64 * ch.val, 0] : Fin 3 → ℕ) a + S2x64x768.size a ≤ S2x512x768.size a := by decide

/-- Row block `ch` of the partial sums. -/
def Ins.chunk (I : Ins F) (ch : Fin 8) : S2x64x768.Idx → Elt F .f32 := cutR I.acc (Rect.unit (s := S2x512x768) ![0, 64 * ch.val, 0] S2x64x768.size (chunk_inb ch))

/-- … and the block that is sent for it. -/
def Ins.part (I : Ins F) (ch : Fin 8) : Blk F := sq (k0_pay31 (I.chunk ch))

/-- The rows below `n` of the running sums are what they end as. -/
def Upto (I : Ins F) (n : ℕ) (f : accM.view.ty.Contents (Elt F)) : Prop := ∀ i : S2x512x768.Idx, (i 1).val < n → accM.view.read (Elt F) f i = I.acc i

/-- A quarter's two stores leave its rows at their final sums. -/
theorem quarter_read (I : Ins F) (qt : Fin 4) (g : accM.view.ty.Contents (Elt F))
    (inb0 : ∀ a, ![0, 128 * qt.val, 0] a + S1x128x768.size a ≤ S2x512x768.size a) (inb1 : ∀ a, ![1, 128 * qt.val, 0] a + S1x128x768.size a ≤ S2x512x768.size a)
    (i : S2x512x768.Idx) (hlo : 128 * qt.val ≤ (i 1).val) (hhi : (i 1).val < 128 * (qt.val + 1)) :
    accM.view.read (Elt F) (accM.view.writes (Elt F) g
      [⟨Rect.unit (s := S2x512x768) ![1, 128 * qt.val, 0] S1x128x768.size inb1, I.blk3 1 qt⟩, ⟨Rect.unit (s := S2x512x768) ![0, 128 * qt.val, 0] S1x128x768.size inb0, I.blk3 0 qt⟩]) i
      = I.acc i := by
  have hi0 : (i 0).val < 2 := (i 0).isLt
  have hi2 : (i 2).val < 768 := (i 2).isLt
  refine View.read_writes_apply_of_pieces _ _ I.acc _ ?_ i ?_
  · intro p hp
    rcases List.mem_cons.mp hp with rfl | hp
    · exact fun x => (I.acc_at 1 qt inb1 x).symm
    · rcases List.mem_singleton.mp hp with rfl
      exact fun x => (I.acc_at 0 qt inb0 x).symm
  · by_cases h0 : (i 0).val = 0
    · refine ⟨_, List.mem_cons_of_mem _ (List.mem_singleton.mpr rfl), (LoadRect.mem_set _).mpr fun a => ?_⟩
      match a with
      | 0 => exact ⟨0, by show 0 < 1; omega, by show (i 0).val = 0 + 1 * 0; omega⟩
      | 1 => exact ⟨(i 1).val - 128 * qt.val, by show _ < 128; omega, by show (i 1).val = 128 * qt.val + 1 * _; omega⟩
      | 2 => exact ⟨(i 2).val, hi2, by show (i 2).val = 0 + 1 * _; omega⟩
    · refine ⟨_, List.mem_cons_self, (LoadRect.mem_set _).mpr fun a => ?_⟩
      match a with
      | 0 => exact ⟨0, by show 0 < 1; omega, by show (i 0).val = 1 + 1 * 0; omega⟩
      | 1 => exact ⟨(i 1).val - 128 * qt.val, by show _ < 128; omega, by show (i 1).val = 128 * qt.val + 1 * _; omega⟩
      | 2 => exact ⟨(i 2).val, hi2, by show (i 2).val = 0 + 1 * _; omega⟩

theorem upto_grow (I : Ins F) (qt : Fin 4) (f : accM.view.ty.Contents (Elt F)) (hf : Upto I (128 * qt.val) f)
    (off0 off1 : Fin 3 → ℕ) (ho0 : off0 = ![0, 128 * qt.val, 0]) (ho1 : off1 = ![1, 128 * qt.val, 0])
    (inb0 : ∀ a, off0 a + S1x128x768.size a ≤ S2x512x768.size a) (inb1 : ∀ a, off1 a + S1x128x768.size a ≤ S2x512x768.size a)
    (w0 w1 : S1x128x768.Idx → Elt F .f32) (L : List (View.Piece (Elt F) S2x512x768 .f32))
    (hL : L = [⟨Rect.unit (s := S2x512x768) off1 S1x128x768.size inb1, w1⟩, ⟨Rect.unit (s := S2x512x768) off0 S1x128x768.size inb0, w0⟩])
    (h0 : w0 = I.blk3 0 qt) (h1 : w1 = I.blk3 1 qt) (n : ℕ) (hn : n = 128 * (qt.val + 1)) :
    Upto I n (accM.view.writes (Elt F) f L) := by
  subst ho0 ho1 h0 h1 hL hn
  intro i hi
  by_cases hlt : (i 1).val < 128 * qt.val
  · rw [View.read_writes_cons_miss_of_axis (a := 1) (o := 128 * qt.val) (n := 128) (ho := rfl) (hst := rfl) (hn := rfl) (h := .inl hlt),
      View.read_writes_cons_miss_of_axis (a := 1) (o := 128 * qt.val) (n := 128) (ho := rfl) (hst := rfl) (hn := rfl) (h := .inl hlt)]
    exact hf i hlt
  · exact quarter_read I qt f inb0 inb1 i (by omega) hi

/-- A block read back after its quarter's two stores, whatever was there before. -/
theorem chunk_read (I : Ins F) (qt : Fin 4) (ch : Fin 8) (hlo : 128 * qt.val ≤ 64 * ch.val) (hhi : 64 * ch.val + 64 ≤ 128 * (qt.val + 1))
    (g : accM.view.ty.Contents (Elt F))
    (off0 off1 : Fin 3 → ℕ) (ho0 : off0 = ![0, 128 * qt.val, 0]) (ho1 : off1 = ![1, 128 * qt.val, 0])
    (inb0 : ∀ a, off0 a + S1x128x768.size a ≤ S2x512x768.size a) (inb1 : ∀ a, off1 a + S1x128x768.size a ≤ S2x512x768.size a)
    (w0 w1 : S1x128x768.Idx → Elt F .f32) (L : List (View.Piece (Elt F) S2x512x768 .f32))
    (hL : L = [⟨Rect.unit (s := S2x512x768) off1 S1x128x768.size inb1, w1⟩, ⟨Rect.unit (s := S2x512x768) off0 S1x128x768.size inb0, w0⟩])
    (h0 : w0 = I.blk3 0 qt) (h1 : w1 = I.blk3 1 qt)
    (off : Fin 3 → ℕ) (ho : off = ![0, 64 * ch.val, 0]) (inb : ∀ a, off a + S2x64x768.size a ≤ S2x512x768.size a) :
    accM.view.readAt (Elt F) (Rect.unit (s := S2x512x768) off S2x64x768.size inb).toLoadRect (accM.view.writes (Elt F) g L) = I.chunk ch := by
  subst ho0 ho1 h0 h1 hL ho
  funext x
  have hx : (x 1).val < 64 := (x 1).isLt
  exact quarter_read I qt g inb0 inb1 _ (by show _ ≤ 64 * ch.val + 1 * (x 1).val; omega) (by show 64 * ch.val + 1 * (x 1).val < _; omega)

/-- A block read where all the sums are in place. -/
theorem chunk_upto (I : Ins F) (ch : Fin 8) (n : ℕ) (hn : 64 * ch.val + 64 ≤ n) (f : accM.view.ty.Contents (Elt F)) (hf : Upto I n f)
    (off : Fin 3 → ℕ) (ho : off = ![0, 64 * ch.val, 0]) (inb : ∀ a, off a + S2x64x768.size a ≤ S2x512x768.size a) :
    accM.view.readAt (Elt F) (Rect.unit (s := S2x512x768) off S2x64x768.size inb).toLoadRect f = I.chunk ch := by
  subst ho
  funext x
  have hx : (x 1).val < 64 := (x 1).isLt
  exact hf _ (by show 64 * ch.val + 1 * (x 1).val < n; omega)

end Cert.KernelIdeal.Talk

end
-- ==== Proof.Need.lean ====
module

public import proofs.«01_k».proof.Proof.Forms
public import proofs.«01_k».proof.Proof.State

/-!
What the partners lend at the barrier, sorted by the step that uses it; and the inputs as the body holds them.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem seven {M : Type} [URA M] (Φ : Fin 7 → sProp M) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem eight {M : Type} [URA M] (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The row block of partner `k`. -/
def blkOf (c : Dev nD) : Fin 7 ↪ Fin 8 := ⟨fun k => rev (pr c k), fun k k' h => pr_inj c k k' (by
  have := congrArg rev h; rwa [rev_rev, rev_rev] at this)⟩

theorem others (c : Dev nD) : (Finset.univ : Finset (Fin 8)).erase (rev c) = Finset.univ.map (blkOf c) := by revert c; decide

/-- A family over the row blocks is the own block's and one for each partner's. -/
theorem eight_split {M : Type} [URA M] (c : Dev nD) (Φ : Fin 8 → sProp M) :
    bigSep Finset.univ Φ = iprop(Φ (rev c) ∗ bigSep Finset.univ fun k => Φ (rev (pr c k))) := by
  rw [bigSep_univ_at _ (rev c), others, bigSep_map]; rfl

/-- The tokens of the copies a device starts. -/
def toksRs (c : Dev nD) (k : Fin 7) : sProp 𝕄 :=
  iprop(dutyTok ER (rsR (pr c k) k) 0 0 ∗ reached ER (rsS c (rev (pr c k))) 0 ∗ dutyTok ER (rsS c (rev (pr c k))) 0 0)
def toksAg (c : Dev nD) (k : Fin 7) : sProp 𝕄 :=
  iprop(dutyTok ER (agR (pr c k) k) 0 0 ∗ reached ER (agS c k) 0 ∗ dutyTok ER (agS c k) 0 0)

theorem need_own (c : Dev nD) : rsNeed (F := F) c (rev c) = iprop(emp) := by
  unfold rsNeed; rw [if_pos (rev_rev c)]

theorem need_at (c : Dev nD) (k : Fin 7) : rsNeed (F := F) c (rev (pr c k))
    = iprop(any (rsrSlot k) (pr c k) ∗ reached ER (rsR (pr c k) k) 0 ∗ toksRs c k) := by
  unfold rsNeed toksRs; rw [rev_rev, kk_pr, if_neg (pr_ne c k)]

theorem need_one (c : Dev nD) (k : Fin 7) : (iprop(barPay c k ∗ toksRs c k ∗ toksAg c k) : sProp 𝕄) ⊢ iprop(rsNeed c (rev (pr c k)) ∗ agNeed c k) := by
  rw [need_at]
  unfold barPay agNeed toksAg
  iintro ⟨⟨Ha, Hb, Hc, Hd⟩, Ht, Hu, Hv, Hw⟩
  isplitl [Ha Hc Ht]
  · isplitl [Ha]; · iexact Ha
    isplitl [Hc]; · iexact Hc
    iexact Ht
  isplitl [Hb]; · iexact Hb
  isplitl [Hd]; · iexact Hd
  isplitl [Hu]; · iexact Hu
  isplitl [Hv]; · iexact Hv
  iexact Hw

theorem need_all (c : Dev nD) : (iprop(bigSep Finset.univ (barPay c) ∗ bigSep Finset.univ fun k => iprop(toksRs c k ∗ toksAg c k)) : sProp 𝕄)
    ⊢ iprop(bigSep Finset.univ (rsNeed c) ∗ bigSep Finset.univ (agNeed c)) := by
  have h : (iprop(bigSep Finset.univ (barPay c) ∗ bigSep Finset.univ fun k => iprop(toksRs c k ∗ toksAg c k)) : sProp 𝕄)
      ⊢ iprop((bigSep Finset.univ fun k => rsNeed c (rev (pr c k))) ∗ bigSep Finset.univ (agNeed c)) := by
    rw [← bigSep_sep', ← bigSep_sep']
    exact bigSep_mono (fun k _ => need_one c k)
  rw [eight_split c (rsNeed c)]
  iintro H
  ihave H := h $$ H
  icases H with ⟨Ha, Hb⟩
  isplitl [Ha]
  · isplitr; · rw [need_own]; iempintro
    iexact Ha
  iexact Hb

section
variable (P : Dev nD → Fin 8 → Blk F) (T : Dev nD → Blk F) (K : GSem nD τ sig → ℕ) (defs : Defs nD τ sig (Elt F) Λ₀) (𝒱₀ : Variants) {α : Type}
variable (arg0 : Memref sig .tc .vmem S2x512x768 .bf16) (harg0 : arg0.IsWhole)
  (arg1 : Memref sig .tc .vmem S768x512 .bf16) (harg1 : arg1.IsWhole)
  (arg2 : Memref sig .tc .vmem S2x8x512x64 .bf16) (harg2 : arg2.IsWhole)
  (arg3 : Memref sig .tc .vmem S2x8x512x64 .bf16) (harg3 : arg3.IsWhole)
  (arg4 : Memref sig .tc .vmem S512x768 .bf16) (harg4 : arg4.IsWhole)
  (arg5 : Memref sig .tc .vmem S512x512 .f32) (harg5 : arg5.IsWhole)
  (harg6 : outM.IsWhole) (harg7 : accM.IsWhole) (harg8 : rssM.IsWhole) (harg9 : rsrM.IsWhole)

/-- The body's arrays, from the contents of its buffers. -/
abbrev insOf (f0 : arg0.view.ty.Contents (Elt F)) (f1 : arg1.view.ty.Contents (Elt F)) (f2 : arg2.view.ty.Contents (Elt F)) (f3 : arg3.view.ty.Contents (Elt F))
    (f4 : arg4.view.ty.Contents (Elt F)) (f5 : arg5.view.ty.Contents (Elt F)) : Ins F :=
  ⟨arg0.view.read (Elt F) f0, arg1.view.read (Elt F) f1, arg2.view.read (Elt F) f2, arg3.view.read (Elt F) f3, arg4.view.read (Elt F) f4, arg5.view.read (Elt F) f5⟩

abbrev inps (c : Dev nD) (q : PosShare TreeShare) (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) : sProp 𝕄 :=
  iprop(hld arg0 c q f0 ∗ hld arg1 c q f1 ∗ hld arg2 c q f2 ∗ hld arg3 c q f3 ∗ hld arg4 c q f4 ∗ hld arg5 c q f5)

/-- The running sums, right below row `n`. -/
abbrev accTo (I : Ins F) (c : Dev nD) (n : ℕ) : sProp 𝕄 :=
  iprop(∃ f : Buf (Elt F) (accM.view.loc (c : Thread nD τ)), ⌜Upto I n f⌝ ∗ hld accM c fullShare f)

end

end Cert.KernelIdeal.Talk

end
-- ==== Proof.Cut.lean ====
module

public import proofs.«01_k».proof.Proof.Sched
public import proofs.«01_k».proof.Proof.Gen.KernelIdeal.Skeleton

/-!
The body cut where a quarter of the rows is finished: each stretch is the printed parts it names, with the rest of the program as a
variable, and the body is the stretches one after another.
-/

@[expose] public section

set_option maxRecDepth 65536

noncomputable section

namespace Cert.KernelIdeal.Talk

open Cert.KernelIdeal Cert.KernelIdeal.Gen
open Idealize.ShloMosaic Idealize.ShloMosaic.TcCoe
open Idealize.SL Idealize.SL.Sem

variable {F : FTy → Type} [FloatOps F] [Named F]

section

variable (arg0 : Memref sig .tc .vmem S2x512x768 .bf16)
  (harg0 : arg0.IsWhole)
  (arg1 : Memref sig .tc .vmem S768x512 .bf16)
  (harg1 : arg1.IsWhole)
  (arg2 : Memref sig .tc .vmem S2x8x512x64 .bf16)
  (harg2 : arg2.IsWhole)
  (arg3 : Memref sig .tc .vmem S2x8x512x64 .bf16)
  (harg3 : arg3.IsWhole)
  (arg4 : Memref sig .tc .vmem S512x768 .bf16)
  (harg4 : arg4.IsWhole)
  (arg5 : Memref sig .tc .vmem S512x512 .f32)
  (harg5 : arg5.IsWhole)
  (arg6 : Memref sig .tc .vmem S2x512x768 .bf16)
  (harg6 : arg6.IsWhole)
  (arg7 : Memref sig .tc .vmem S2x512x768 .f32)
  (harg7 : arg7.IsWhole)
  (arg8 : Memref sig .tc .vmem S8x2x64x768 .bf16)
  (harg8 : arg8.IsWhole)
  (arg9 : Memref sig .tc .vmem S7x2x64x768 .bf16)
  (harg9 : arg9.IsWhole)
  (arg10 : DmaSems sig S8)
  (arg11 : DmaSems sig S7)
  (arg12 : DmaSems sig S7)
  (arg13 : DmaSems sig S7)

/-- Parts 1 to 12. -/
@[reducible] def q0 {R : Type}
    (κ : (Dev nD) → (BitVec 32) → (FVec F S768x512 .bf16) → (FVec F S512x768 .bf16) → (FVec F S128x512 .f32) → (Vec F S1x128x768 .bf16) → Prog (TpuEff nD τ sig (Elt F) Λ₀ .tc) R) : Prog (TpuEff nD τ sig (Elt F) Λ₀ .tc) R := do
  let ⟨d0, v2, v3, v23⟩ : Σ' (d0 : Dev nD) (v2 : BitVec 32) (v3 : Sems sig S_), BitVec 32 ← k0_part1 arg0 harg0 arg1 harg1 arg2 harg2 arg3 harg3 arg4 harg4 arg5 harg5 arg6 harg6 arg7 harg7 arg8 harg8 arg9 harg9 arg10 arg11 arg12 arg13
  let ⟨v26, v28, v35, v38, v55⟩ : Σ' (v26 : FVec F S768x512 .bf16) (v28 : FVec F S512x768 .bf16) (v35 : FVec F S128x512 .f32) (v38 : FVec F S128x512 .f32), FVec F S128x512 .f32 ← k0_part2 arg0 harg0 arg1 harg1 arg2 harg2 arg3 harg3 arg4 harg4 arg5 harg5 arg6 harg6 arg7 harg7 arg8 harg8 arg9 harg9 arg10 arg11 arg12 arg13 d0 v3 v23
  let ⟨v59, v80, v92⟩ : Σ' (v59 : FVec F S128x64 .f32) (v80 : FVec F S128x64 .f32), FVec F S128x512 .f32 ← k0_part3 arg0 harg0 arg1 harg1 arg2 harg2 arg3 harg3 arg4 harg4 arg5 harg5 arg6 harg6 arg7 harg7 arg8 harg8 arg9 harg9 arg10 arg11 arg12 arg13 v35 v38 v55
  let ⟨v101, v122, v127, cst_86⟩ : Σ' (v101 : FVec F S128x64 .f32) (v122 : FVec F S128x64 .f32) (v127 : FVec F S128x512 .f32), F .f32 ← k0_part4 arg0 harg0 arg1 harg1 arg2 harg2 arg3 harg3 arg4 harg4 arg5 harg5 arg6 harg6 arg7 harg7 arg8 harg8 arg9 harg9 arg10 arg11 arg12 arg13 v35 v38 v92
  let ⟨v143, v164, v166⟩ : Σ' (v143 : FVec F S128x64 .f32) (v164 : FVec F S128x64 .f32), FVec F S128x64 .bf16 ← k0_part5 arg0 harg0 arg1 harg1 arg2 harg2 arg3 harg3 arg4 harg4 arg5 harg5 arg6 harg6 arg7 harg7 arg8 harg8 arg9 harg9 arg10 arg11 arg12 arg13 v35 v38 v127 cst_86
  let ⟨v185, v202⟩ : Σ' (v185 : FVec F S128x64 .f32), FVec F S128x512 .f32 ← k0_part6 arg0 harg0 arg1 harg1 arg2 harg2 arg3 harg3 arg4 harg4 arg5 harg5 arg6 harg6 arg7 harg7 arg8 harg8 arg9 harg9 arg10 arg11 arg12 arg13 v35 v38 v166
  let ⟨v215, v236, v238⟩ : Σ' (v215 : FVec F S128x512 .f32) (v236 : FVec F S128x64 .f32), FVec F S128x64 .bf16 ← k0_part7 arg0 harg0 arg1 harg1 arg2 harg2 arg3 harg3 arg4 harg4 arg5 harg5 arg6 harg6 arg7 harg7 arg8 harg8 arg9 harg9 arg10 arg11 arg12 arg13 v26 v28 v35 v59 v80 v101 v122 v143 v164 v185 v202
  let ⟨v257, v274⟩ : Σ' (v257 : FVec F S128x64 .f32), FVec F S128x512 .f32 ← k0_part8 arg0 harg0 arg1 harg1 arg2 harg2 arg3 harg3 arg4 harg4 arg5 harg5 arg6 harg6 arg7 harg7 arg8 harg8 arg9 harg9 arg10 arg11 arg12 arg13 v35 v215 v238
  let ⟨v278, v299, v312⟩ : Σ' (v278 : FVec F S128x64 .f32) (v299 : FVec F S128x64 .f32), FVec F S128x512 .f32 ← k0_part9 arg0 harg0 arg1 harg1 arg2 harg2 arg3 harg3 arg4 harg4 arg5 harg5 arg6 harg6 arg7 harg7 arg8 harg8 arg9 harg9 arg10 arg11 arg12 arg13 v35 v215 v274
  let ⟨v320, v341, v348⟩ : Σ' (v320 : FVec F S128x64 .f32) (v341 : FVec F S128x64 .f32), FVec F S128x512 .f32 ← k0_part10 arg0 harg0 arg1 harg1 arg2 harg2 arg3 harg3 arg4 harg4 arg5 harg5 arg6 harg6 arg7 harg7 arg8 harg8 arg9 harg9 arg10 arg11 arg12 arg13 v35 v215 v312
  let v386 : FVec F S128x768 .f32 ← k0_part11 arg0 harg0 arg1 harg1 arg2 harg2 arg3 harg3 arg4 harg4 arg5 harg5 arg6 harg6 arg7 harg7 arg8 harg8 arg9 harg9 arg10 arg11 arg12 arg13 v28 v35 v215 v236 v257 v278 v299 v320 v341 v348
  let ⟨v412, v413⟩ : Σ' (v412 : FVec F S128x512 .f32), Vec F S1x128x768 .bf16 ← k0_part12 arg0 harg0 arg1 harg1 arg2 harg2 arg3 harg3 arg4 harg4 arg5 harg5 arg6 harg6 arg7 harg7 arg8 harg8 arg9 harg9 arg10 arg11 arg12 arg13 d0 v2 v386
  κ d0 v2 v26 v28 v412 v413

/-- Parts 13 to 23. -/
@[reducible] def q1 {R : Type} (v26 : FVec F S768x512 .bf16) (v412 : FVec F S128x512 .f32) (v413 : Vec F S1x128x768 .bf16) (v28 : FVec F S512x768 .bf16) (d0 : Dev nD) (v2 : BitVec 32)
    (κ : (FVec F S128x512 .f32) → (FVec F S128x512 .f32) → (FVec F S128x512 .f32) → Prog (TpuEff nD τ sig (Elt F) Λ₀ .tc) R) : Prog (TpuEff nD τ sig (Elt F) Λ₀ .tc) R := do
  let ⟨v415, v436, v449, v451⟩ : Σ' (v415 : FVec F S128x512 .f32) (v436 : FVec F S128x64 .f32) (v449 : FVec F S128x512 .f32), FVec F S128x1 .f32 ← k0_part13 arg0 harg0 arg1 harg1 arg2 harg2 arg3 harg3 arg4 harg4 arg5 harg5 arg6 harg6 arg7 harg7 arg8 harg8 arg9 harg9 arg10 arg11 arg12 arg13 v26 v412 v413
  let ⟨v457, v478, v486⟩ : Σ' (v457 : FVec F S128x64 .f32) (v478 : FVec F S128x64 .f32), FVec F S128x512 .f32 ← k0_part14 arg0 harg0 arg1 harg1 arg2 harg2 arg3 harg3 arg4 harg4 arg5 harg5 arg6 harg6 arg7 harg7 arg8 harg8 arg9 harg9 arg10 arg11 arg12 arg13 v412 v415 v449 v451
  let ⟨v499, v520, v522, v523⟩ : Σ' (v499 : FVec F S128x64 .f32) (v520 : FVec F S128x64 .f32) (v522 : FVec F S128x64 .bf16), Vec F S1x1x512x64 .bf16 ← k0_part15 arg0 harg0 arg1 harg1 arg2 harg2 arg3 harg3 arg4 harg4 arg5 harg5 arg6 harg6 arg7 harg7 arg8 harg8 arg9 harg9 arg10 arg11 arg12 arg13 v412 v415 v486
  let ⟨v541, v560, v561, cst_361⟩ : Σ' (v541 : FVec F S128x64 .f32) (v560 : FVec F S512x64 .bf16) (v561 : FVec F S128x512 .bf16), FVec F S128x64 .f32 ← k0_part16 arg0 harg0 arg1 harg1 arg2 harg2 arg3 harg3 arg4 harg4 arg5 harg5 arg6 harg6 arg7 harg7 arg8 harg8 arg9 harg9 arg10 arg11 arg12 arg13 v412 v415 v522 v523
  let ⟨v592, v594, v595⟩ : Σ' (v592 : FVec F S128x512 .f32) (v594 : FVec F S128x64 .bf16), Vec F S1x1x512x64 .bf16 ← k0_part17 arg0 harg0 arg1 harg1 arg2 harg2 arg3 harg3 arg4 harg4 arg5 harg5 arg6 harg6 arg7 harg7 arg8 harg8 arg9 harg9 arg10 arg11 arg12 arg13 v26 v28 v412 v415 v436 v457 v478 v499 v520 v541 v560 v561 cst_361
  let ⟨v613, v632, v633, cst_408⟩ : Σ' (v613 : FVec F S128x64 .f32) (v632 : FVec F S512x64 .bf16) (v633 : FVec F S128x512 .bf16), FVec F S128x64 .f32 ← k0_part18 arg0 harg0 arg1 harg1 arg2 harg2 arg3 harg3 arg4 harg4 arg5 harg5 arg6 harg6 arg7 harg7 arg8 harg8 arg9 harg9 arg10 arg11 arg12 arg13 v412 v592 v594 v595
  let ⟨v634, v655, v672⟩ : Σ' (v634 : FVec F S128x64 .f32) (v655 : FVec F S128x64 .f32), FVec F S128x512 .f32 ← k0_part19 arg0 harg0 arg1 harg1 arg2 harg2 arg3 harg3 arg4 harg4 arg5 harg5 arg6 harg6 arg7 harg7 arg8 harg8 arg9 harg9 arg10 arg11 arg12 arg13 v412 v592 v632 v633 cst_408
  let ⟨v676, v697, v705, v707⟩ : Σ' (v676 : FVec F S128x64 .f32) (v697 : FVec F S128x64 .f32) (v705 : FVec F S128x512 .f32), FVec F S128x1 .f32 ← k0_part20 arg0 harg0 arg1 harg1 arg2 harg2 arg3 harg3 arg4 harg4 arg5 harg5 arg6 harg6 arg7 harg7 arg8 harg8 arg9 harg9 arg10 arg11 arg12 arg13 v412 v592 v672
  let ⟨v718, v739, v741, v743, cst_478⟩ : Σ' (v718 : FVec F S128x64 .f32) (v739 : FVec F S128x64 .f32) (v741 : FVec F S128x64 .bf16) (v743 : FVec F S512x64 .bf16), FVec F S128x512 .f32 ← k0_part21 arg0 harg0 arg1 harg1 arg2 harg2 arg3 harg3 arg4 harg4 arg5 harg5 arg6 harg6 arg7 harg7 arg8 harg8 arg9 harg9 arg10 arg11 arg12 arg13 v412 v592 v705 v707
  let v776 : FVec F S2x64x768 .bf16 ← k0_part22 arg0 harg0 arg1 harg1 arg2 harg2 arg3 harg3 arg4 harg4 arg5 harg5 arg6 harg6 arg7 harg7 arg8 harg8 arg9 harg9 arg10 arg11 arg12 arg13 d0 v2 v28 v412 v613 v634 v655 v676 v697 v718 v739 v741 v743 cst_478
  let ⟨v789, v792, v809⟩ : Σ' (v789 : FVec F S128x512 .f32) (v792 : FVec F S128x512 .f32), FVec F S128x512 .f32 ← k0_part23 arg0 harg0 arg1 harg1 arg2 harg2 arg3 harg3 arg4 harg4 arg5 harg5 arg6 harg6 arg7 harg7 arg8 harg8 arg9 harg9 arg10 arg11 arg12 arg13 d0 v2 v26 v776
  κ v789 v792 v809

/-- Parts 24 to 33. -/
@[reducible] def q2 {R : Type} (v789 : FVec F S128x512 .f32) (v792 : FVec F S128x512 .f32) (v809 : FVec F S128x512 .f32) (v26 : FVec F S768x512 .bf16) (v28 : FVec F S512x768 .bf16) (d0 : Dev nD) (v2 : BitVec 32)
    (κ : (FVec F S128x512 .f32) → (Vec F S1x128x768 .bf16) → Prog (TpuEff nD τ sig (Elt F) Λ₀ .tc) R) : Prog (TpuEff nD τ sig (Elt F) Λ₀ .tc) R := do
  let ⟨v813, v834, v846⟩ : Σ' (v813 : FVec F S128x64 .f32) (v834 : FVec F S128x64 .f32), FVec F S128x512 .f32 ← k0_part24 arg0 harg0 arg1 harg1 arg2 harg2 arg3 harg3 arg4 harg4 arg5 harg5 arg6 harg6 arg7 harg7 arg8 harg8 arg9 harg9 arg10 arg11 arg12 arg13 v789 v792 v809
  let ⟨v855, v876, v881, cst_573⟩ : Σ' (v855 : FVec F S128x64 .f32) (v876 : FVec F S128x64 .f32) (v881 : FVec F S128x512 .f32), F .f32 ← k0_part25 arg0 harg0 arg1 harg1 arg2 harg2 arg3 harg3 arg4 harg4 arg5 harg5 arg6 harg6 arg7 harg7 arg8 harg8 arg9 harg9 arg10 arg11 arg12 arg13 v789 v792 v846
  let ⟨v897, v918, v920⟩ : Σ' (v897 : FVec F S128x64 .f32) (v918 : FVec F S128x64 .f32), FVec F S128x64 .bf16 ← k0_part26 arg0 harg0 arg1 harg1 arg2 harg2 arg3 harg3 arg4 harg4 arg5 harg5 arg6 harg6 arg7 harg7 arg8 harg8 arg9 harg9 arg10 arg11 arg12 arg13 v789 v792 v881 cst_573
  let ⟨v939, v956⟩ : Σ' (v939 : FVec F S128x64 .f32), FVec F S128x512 .f32 ← k0_part27 arg0 harg0 arg1 harg1 arg2 harg2 arg3 harg3 arg4 harg4 arg5 harg5 arg6 harg6 arg7 harg7 arg8 harg8 arg9 harg9 arg10 arg11 arg12 arg13 v789 v792 v920
  let ⟨v969, v990, v992⟩ : Σ' (v969 : FVec F S128x512 .f32) (v990 : FVec F S128x64 .f32), FVec F S128x64 .bf16 ← k0_part28 arg0 harg0 arg1 harg1 arg2 harg2 arg3 harg3 arg4 harg4 arg5 harg5 arg6 harg6 arg7 harg7 arg8 harg8 arg9 harg9 arg10 arg11 arg12 arg13 v26 v28 v789 v813 v834 v855 v876 v897 v918 v939 v956
  let ⟨v1011, v1028⟩ : Σ' (v1011 : FVec F S128x64 .f32), FVec F S128x512 .f32 ← k0_part29 arg0 harg0 arg1 harg1 arg2 harg2 arg3 harg3 arg4 harg4 arg5 harg5 arg6 harg6 arg7 harg7 arg8 harg8 arg9 harg9 arg10 arg11 arg12 arg13 v789 v969 v992
  let ⟨v1032, v1053, v1066⟩ : Σ' (v1032 : FVec F S128x64 .f32) (v1053 : FVec F S128x64 .f32), FVec F S128x512 .f32 ← k0_part30 arg0 harg0 arg1 harg1 arg2 harg2 arg3 harg3 arg4 harg4 arg5 harg5 arg6 harg6 arg7 harg7 arg8 harg8 arg9 harg9 arg10 arg11 arg12 arg13 v789 v969 v1028
  let ⟨v1074, v1095, v1102⟩ : Σ' (v1074 : FVec F S128x64 .f32) (v1095 : FVec F S128x64 .f32), FVec F S128x512 .f32 ← k0_part31 arg0 harg0 arg1 harg1 arg2 harg2 arg3 harg3 arg4 harg4 arg5 harg5 arg6 harg6 arg7 harg7 arg8 harg8 arg9 harg9 arg10 arg11 arg12 arg13 v789 v969 v1066
  let v1140 : FVec F S128x768 .f32 ← k0_part32 arg0 harg0 arg1 harg1 arg2 harg2 arg3 harg3 arg4 harg4 arg5 harg5 arg6 harg6 arg7 harg7 arg8 harg8 arg9 harg9 arg10 arg11 arg12 arg13 v28 v789 v969 v990 v1011 v1032 v1053 v1074 v1095 v1102
  let ⟨v1166, v1167⟩ : Σ' (v1166 : FVec F S128x512 .f32), Vec F S1x128x768 .bf16 ← k0_part33 arg0 harg0 arg1 harg1 arg2 harg2 arg3 harg3 arg4 harg4 arg5 harg5 arg6 harg6 arg7 harg7 arg8 harg8 arg9 harg9 arg10 arg11 arg12 arg13 d0 v2 v1140
  κ v1166 v1167

/-- Parts 34 to 43. -/
@[reducible] def q3 {R : Type} (v26 : FVec F S768x512 .bf16) (v1166 : FVec F S128x512 .f32) (v1167 : Vec F S1x128x768 .bf16) (v28 : FVec F S512x768 .bf16) (d0 : Dev nD) (v2 : BitVec 32)
    (κ : (FVec F S2x64x768 .bf16) → Prog (TpuEff nD τ sig (Elt F) Λ₀ .tc) R) : Prog (TpuEff nD τ sig (Elt F) Λ₀ .tc) R := do
  let ⟨v1169, v1190, v1203, v1205⟩ : Σ' (v1169 : FVec F S128x512 .f32) (v1190 : FVec F S128x64 .f32) (v1203 : FVec F S128x512 .f32), FVec F S128x1 .f32 ← k0_part34 arg0 harg0 arg1 harg1 arg2 harg2 arg3 harg3 arg4 harg4 arg5 harg5 arg6 harg6 arg7 harg7 arg8 harg8 arg9 harg9 arg10 arg11 arg12 arg13 v26 v1166 v1167
  let ⟨v1211, v1232, v1240⟩ : Σ' (v1211 : FVec F S128x64 .f32) (v1232 : FVec F S128x64 .f32), FVec F S128x512 .f32 ← k0_part35 arg0 harg0 arg1 harg1 arg2 harg2 arg3 harg3 arg4 harg4 arg5 harg5 arg6 harg6 arg7 harg7 arg8 harg8 arg9 harg9 arg10 arg11 arg12 arg13 v1166 v1169 v1203 v1205
  let ⟨v1253, v1274, v1276, v1277⟩ : Σ' (v1253 : FVec F S128x64 .f32) (v1274 : FVec F S128x64 .f32) (v1276 : FVec F S128x64 .bf16), Vec F S1x1x512x64 .bf16 ← k0_part36 arg0 harg0 arg1 harg1 arg2 harg2 arg3 harg3 arg4 harg4 arg5 harg5 arg6 harg6 arg7 harg7 arg8 harg8 arg9 harg9 arg10 arg11 arg12 arg13 v1166 v1169 v1240
  let ⟨v1295, v1314, v1315, cst_851⟩ : Σ' (v1295 : FVec F S128x64 .f32) (v1314 : FVec F S512x64 .bf16) (v1315 : FVec F S128x512 .bf16), FVec F S128x64 .f32 ← k0_part37 arg0 harg0 arg1 harg1 arg2 harg2 arg3 harg3 arg4 harg4 arg5 harg5 arg6 harg6 arg7 harg7 arg8 harg8 arg9 harg9 arg10 arg11 arg12 arg13 v1166 v1169 v1276 v1277
  let ⟨v1346, v1348, v1349⟩ : Σ' (v1346 : FVec F S128x512 .f32) (v1348 : FVec F S128x64 .bf16), Vec F S1x1x512x64 .bf16 ← k0_part38 arg0 harg0 arg1 harg1 arg2 harg2 arg3 harg3 arg4 harg4 arg5 harg5 arg6 harg6 arg7 harg7 arg8 harg8 arg9 harg9 arg10 arg11 arg12 arg13 v26 v28 v1166 v1169 v1190 v1211 v1232 v1253 v1274 v1295 v1314 v1315 cst_851
  let ⟨v1367, v1386, v1387, cst_898⟩ : Σ' (v1367 : FVec F S128x64 .f32) (v1386 : FVec F S512x64 .bf16) (v1387 : FVec F S128x512 .bf16), FVec F S128x64 .f32 ← k0_part39 arg0 harg0 arg1 harg1 arg2 harg2 arg3 harg3 arg4 harg4 arg5 harg5 arg6 harg6 arg7 harg7 arg8 harg8 arg9 harg9 arg10 arg11 arg12 arg13 v1166 v1346 v1348 v1349
  let ⟨v1388, v1409, v1426⟩ : Σ' (v1388 : FVec F S128x64 .f32) (v1409 : FVec F S128x64 .f32), FVec F S128x512 .f32 ← k0_part40 arg0 harg0 arg1 harg1 arg2 harg2 arg3 harg3 arg4 harg4 arg5 harg5 arg6 harg6 arg7 harg7 arg8 harg8 arg9 harg9 arg10 arg11 arg12 arg13 v1166 v1346 v1386 v1387 cst_898
  let ⟨v1430, v1451, v1459, v1461⟩ : Σ' (v1430 : FVec F S128x64 .f32) (v1451 : FVec F S128x64 .f32) (v1459 : FVec F S128x512 .f32), FVec F S128x1 .f32 ← k0_part41 arg0 harg0 arg1 harg1 arg2 harg2 arg3 harg3 arg4 harg4 arg5 harg5 arg6 harg6 arg7 harg7 arg8 harg8 arg9 harg9 arg10 arg11 arg12 arg13 v1166 v1346 v1426
  let ⟨v1472, v1493, v1495, v1497, cst_968⟩ : Σ' (v1472 : FVec F S128x64 .f32) (v1493 : FVec F S128x64 .f32) (v1495 : FVec F S128x64 .bf16) (v1497 : FVec F S512x64 .bf16), FVec F S128x512 .f32 ← k0_part42 arg0 harg0 arg1 harg1 arg2 harg2 arg3 harg3 arg4 harg4 arg5 harg5 arg6 harg6 arg7 harg7 arg8 harg8 arg9 harg9 arg10 arg11 arg12 arg13 v1166 v1346 v1459 v1461
  let v1530 : FVec F S2x64x768 .bf16 ← k0_part43 arg0 harg0 arg1 harg1 arg2 harg2 arg3 harg3 arg4 harg4 arg5 harg5 arg6 harg6 arg7 harg7 arg8 harg8 arg9 harg9 arg10 arg11 arg12 arg13 d0 v2 v28 v1166 v1367 v1388 v1409 v1430 v1451 v1472 v1493 v1495 v1497 cst_968
  κ v1530

/-- Parts 44 to 53. -/
@[reducible] def q4 {R : Type} (d0 : Dev nD) (v2 : BitVec 32) (v1530 : FVec F S2x64x768 .bf16)
    (κ : (BitVec 32) → Prog (TpuEff nD τ sig (Elt F) Λ₀ .tc) R) : Prog (TpuEff nD τ sig (Elt F) Λ₀ .tc) R := do
  k0_part44 arg0 harg0 arg1 harg1 arg2 harg2 arg3 harg3 arg4 harg4 arg5 harg5 arg6 harg6 arg7 harg7 arg8 harg8 arg9 harg9 arg10 arg11 arg12 arg13 d0 v2 v1530
  k0_part45 arg0 harg0 arg1 harg1 arg2 harg2 arg3 harg3 arg4 harg4 arg5 harg5 arg6 harg6 arg7 harg7 arg8 harg8 arg9 harg9 arg10 arg11 arg12 arg13 v2
  let ⟨v1601, c1_i32_1091⟩ : Σ' (v1601 : BitVec 32), BitVec 32 ← k0_part46 arg0 harg0 arg1 harg1 arg2 harg2 arg3 harg3 arg4 harg4 arg5 harg5 arg6 harg6 arg7 harg7 arg8 harg8 arg9 harg9 arg10 arg11 arg12 arg13 v2
  let ⟨v1610, v1632⟩ : Σ' (v1610 : BitVec 32), FVec F S2x64x768 .f32 ← k0_part47 arg0 harg0 arg1 harg1 arg2 harg2 arg3 harg3 arg4 harg4 arg5 harg5 arg6 harg6 arg7 harg7 arg8 harg8 arg9 harg9 arg10 arg11 arg12 arg13 d0 v2 v1601 c1_i32_1091
  let ⟨v1644, v1653, v1662⟩ : Σ' (v1644 : BitVec 32) (v1653 : BitVec 32), BitVec 32 ← k0_part48 arg0 harg0 arg1 harg1 arg2 harg2 arg3 harg3 arg4 harg4 arg5 harg5 arg6 harg6 arg7 harg7 arg8 harg8 arg9 harg9 arg10 arg11 arg12 arg13 d0 v2 v1610 v1632
  let ⟨v1671, v1680, v1689, c1_i32_1176⟩ : Σ' (v1671 : BitVec 32) (v1680 : BitVec 32) (v1689 : BitVec 32), BitVec 32 ← k0_part49 arg0 harg0 arg1 harg1 arg2 harg2 arg3 harg3 arg4 harg4 arg5 harg5 arg6 harg6 arg7 harg7 arg8 harg8 arg9 harg9 arg10 arg11 arg12 arg13 d0 v2 v1662
  let ⟨v1698, v1720⟩ : Σ' (v1698 : BitVec 32), BitVec 32 ← k0_part50 arg0 harg0 arg1 harg1 arg2 harg2 arg3 harg3 arg4 harg4 arg5 harg5 arg6 harg6 arg7 harg7 arg8 harg8 arg9 harg9 arg10 arg11 arg12 arg13 d0 v2 v1689 c1_i32_1176
  k0_part51 arg0 harg0 arg1 harg1 arg2 harg2 arg3 harg3 arg4 harg4 arg5 harg5 arg6 harg6 arg7 harg7 arg8 harg8 arg9 harg9 arg10 arg11 arg12 arg13 d0 v2 v1720
  k0_part52 arg0 harg0 arg1 harg1 arg2 harg2 arg3 harg3 arg4 harg4 arg5 harg5 arg6 harg6 arg7 harg7 arg8 harg8 arg9 harg9 arg10 arg11 arg12 arg13 d0 v1644
  k0_part53 arg0 harg0 arg1 harg1 arg2 harg2 arg3 harg3 arg4 harg4 arg5 harg5 arg6 harg6 arg7 harg7 arg8 harg8 arg9 harg9 arg10 arg11 arg12 arg13 d0 v1653 v1662 v1671 v1680
  κ v1698

theorem body_cut : k0_part54 (F := F) arg0 harg0 arg1 harg1 arg2 harg2 arg3 harg3 arg4 harg4 arg5 harg5 arg6 harg6 arg7 harg7 arg8 harg8 arg9 harg9 arg10 arg11 arg12 arg13
  = (q0 arg0 harg0 arg1 harg1 arg2 harg2 arg3 harg3 arg4 harg4 arg5 harg5 arg6 harg6 arg7 harg7 arg8 harg8 arg9 harg9 arg10 arg11 arg12 arg13  fun d0 v2 v26 v28 v412 v413 =>
    q1 arg0 harg0 arg1 harg1 arg2 harg2 arg3 harg3 arg4 harg4 arg5 harg5 arg6 harg6 arg7 harg7 arg8 harg8 arg9 harg9 arg10 arg11 arg12 arg13 v26 v412 v413 v28 d0 v2 fun v789 v792 v809 =>
    q2 arg0 harg0 arg1 harg1 arg2 harg2 arg3 harg3 arg4 harg4 arg5 harg5 arg6 harg6 arg7 harg7 arg8 harg8 arg9 harg9 arg10 arg11 arg12 arg13 v789 v792 v809 v26 v28 d0 v2 fun v1166 v1167 =>
    q3 arg0 harg0 arg1 harg1 arg2 harg2 arg3 harg3 arg4 harg4 arg5 harg5 arg6 harg6 arg7 harg7 arg8 harg8 arg9 harg9 arg10 arg11 arg12 arg13 v26 v1166 v1167 v28 d0 v2 fun v1530 =>
    q4 arg0 harg0 arg1 harg1 arg2 harg2 arg3 harg3 arg4 harg4 arg5 harg5 arg6 harg6 arg7 harg7 arg8 harg8 arg9 harg9 arg10 arg11 arg12 arg13 d0 v2 v1530 fun v1698 =>
    pure ⟨d0, v1698⟩) := by
  rw [k0_part54_eq_skeleton]; rfl

end

end Cert.KernelIdeal.Talk

end
-- ==== Proof.Quarter0.lean ====
module

public import proofs.«01_k».proof.Proof.Need
public import proofs.«01_k».proof.Proof.Cut

/-!
The body up to the first quarter of the rows: the barrier, and the first two blocks sent.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Tactic

section
variable (P : Dev nD → Fin 8 → Blk F) (T : Dev nD → Blk F) (K : GSem nD τ sig → ℕ) (defs : Defs nD τ sig (Elt F) Λ₀) (𝒱₀ : Variants) {α : Type}
variable (arg0 : Memref sig .tc .vmem S2x512x768 .bf16) (harg0 : arg0.IsWhole)
  (arg1 : Memref sig .tc .vmem S768x512 .bf16) (harg1 : arg1.IsWhole)
  (arg2 : Memref sig .tc .vmem S2x8x512x64 .bf16) (harg2 : arg2.IsWhole)
  (arg3 : Memref sig .tc .vmem S2x8x512x64 .bf16) (harg3 : arg3.IsWhole)
  (arg4 : Memref sig .tc .vmem S512x768 .bf16) (harg4 : arg4.IsWhole)
  (arg5 : Memref sig .tc .vmem S512x512 .f32) (harg5 : arg5.IsWhole)
  (harg6 : outM.IsWhole) (harg7 : accM.IsWhole) (harg8 : rssM.IsWhole) (harg9 : rsrM.IsWhole)

set_option maxRecDepth 65536 in
set_option maxHeartbeats 8000000 in
set_option sl_exec.resultNames true in
theorem quarter0 (c : Dev nD) (q : PosShare TreeShare) (f0) (f1) (f2) (f3) (f4) (f5) (hP : ∀ ch, P c ch = (insOf arg0 arg1 arg2 arg3 arg4 arg5 f0 f1 f2 f3 f4 f5).part ch)
    (κ : (Dev nD) → (BitVec 32) → (FVec F S768x512 .bf16) → (FVec F S512x768 .bf16) → (FVec F S128x512 .f32) → (Vec F S1x128x768 .bf16) → Prog (TpuEff nD τ sig (Elt F) Λ₀ .tc) α) (Q : α → sProp 𝕄) :
    iprop(recs P T K ∗ ow c (O₀ c) ∗ inps arg0 arg1 arg2 arg3 arg4 arg5 c q f0 f1 f2 f3 f4 f5 ∗ accTo (insOf arg0 arg1 arg2 arg3 arg4 arg5 f0 f1 f2 f3 f4 f5) c 0
        ∗ bigSep Finset.univ (lend (F := F) c) ∗ atPos ER (barCell c) 0 ∅ 0 ∗ cred (tallyAt (barCell c) () 7) ∗ (bigSep Finset.univ fun k => iprop(toksRs c k ∗ toksAg c k)) ∗ any (rssSlot 0) c ∗ any (rssSlot 1) c)
      ⊢ iprop(((ow c (oweFrom (owRs c) 2 + oweFrom (owAg c) 0) ∗ inps arg0 arg1 arg2 arg3 arg4 arg5 c q f0 f1 f2 f3 f4 f5 ∗ accTo (insOf arg0 arg1 arg2 arg3 arg4 arg5 f0 f1 f2 f3 f4 f5) c 128
          ∗ atPos ER (barCell c) 1 ∅ 0 ∗ bigSep Finset.univ (agNeed (F := F) c) ∗ rsLeft c 0 ∗ rsLeft c 1 ∗ rsNeed c 2 ∗ rsNeed c 3 ∗ rsNeed c 4 ∗ rsNeed c 5 ∗ rsNeed c 6 ∗ rsNeed c 7) -∗ wp frame (wpE defs 𝒱₀ (c : Thread nD τ) none) Set.univ (κ c (Scalar.remsi (Scalar.divsi (Dev.word c) 1#32) 8#32) (insOf arg0 arg1 arg2 arg3 arg4 arg5 f0 f1 f2 f3 f4 f5).wqL (insOf arg0 arg1 arg2 arg3 arg4 arg5 f0 f1 f2 f3 f4 f5).woL ((insOf arg0 arg1 arg2 arg3 arg4 arg5 f0 f1 f2 f3 f4 f5).bias 1) ((insOf arg0 arg1 arg2 arg3 arg4 arg5 f0 f1 f2 f3 f4 f5).xL 0 1)) Q)
        -∗ wp frame (wpE defs 𝒱₀ (c : Thread nD τ) none) Set.univ (q0 arg0 harg0 arg1 harg1 arg2 harg2 arg3 harg3 arg4 harg4 arg5 harg5 outM harg6 accM harg7 rssM harg8 rsrM harg9 cc0_scratch3 cc0_scratch4 cc0_scratch5 cc0_scratch6 κ) Q) := by
  simp only [q0, k0_part1_eq_skeleton, k0_part1_skel, k0_part2_eq_skeleton, k0_part2_skel, k0_part12_eq_skeleton, k0_part12_skel, semSignalWord, semWaitWord, Prog.bind_assoc, Prog.bind_op, Prog.bind_ret, Prog.lift, Prog.pure_eq_ret]
  rw [wp_deviceId, show (c : Thread nD τ).1 = c from rfl, seven]
  iintro ⟨#HR, HO, ⟨H0, H1, H2, H3, H4, H5⟩, ⟨%f7, %hf, H7⟩, ⟨L0, L1, L2, L3, L4, L5, L6⟩, HB, HC, HT, S0, S1⟩ Hk
  iapply (signal_step P T K defs 𝒱₀ c 0 _ (dev1 c) _ rfl (oweFrom (owRs c) 0 + oweFrom (owAg c) 0)) $$ [HO L0]
  · isplitr; · iexact HR
    isplitl [HO]; · iexact HO
    iexact L0
  iintro HO
  iapply (signal_step P T K defs 𝒱₀ c 1 _ (dev2 c) _ rfl (oweFrom (owRs c) 0 + oweFrom (owAg c) 0)) $$ [HO L1]
  · isplitr; · iexact HR
    isplitl [HO]; · iexact HO
    iexact L1
  iintro HO
  iapply (signal_step P T K defs 𝒱₀ c 2 _ (dev3 c) _ rfl (oweFrom (owRs c) 0 + oweFrom (owAg c) 0)) $$ [HO L2]
  · isplitr; · iexact HR
    isplitl [HO]; · iexact HO
    iexact L2
  iintro HO
  iapply (signal_step P T K defs 𝒱₀ c 3 _ (dev4 c) _ rfl (oweFrom (owRs c) 0 + oweFrom (owAg c) 0)) $$ [HO L3]
  · isplitr; · iexact HR
    isplitl [HO]; · iexact HO
    iexact L3
  iintro HO
  iapply (signal_step P T K defs 𝒱₀ c 4 _ (dev5 c) _ rfl (oweFrom (owRs c) 0 + oweFrom (owAg c) 0)) $$ [HO L4]
  · isplitr; · iexact HR
    isplitl [HO]; · iexact HO
    iexact L4
  iintro HO
  iapply (signal_step P T K defs 𝒱₀ c 5 _ (dev6 c) _ rfl (oweFrom (owRs c) 0 + oweFrom (owAg c) 0)) $$ [HO L5]
  · isplitr; · iexact HR
    isplitl [HO]; · iexact HO
    iexact L5
  iintro HO
  iapply (signal_step P T K defs 𝒱₀ c 6 _ (dev7 c) _ rfl (oweFrom (owRs c) 0 + oweFrom (owAg c) 0)) $$ [HO L6]
  · isplitr; · iexact HR
    isplitl [HO]; · iexact HO
    iexact L6
  iintro HO
  ihave HO := (Entails.of_eq (congrArg (ow (F := F) c) (show oweFrom (owBar c) ((6 : Fin 7).val + 1) + (oweFrom (owRs c) 0 + oweFrom (owAg c) 0) = oweFrom (owRs c) 0 + oweFrom (owAg c) 0 by
    rw [show (6 : Fin 7).val + 1 = 7 from rfl, oweFrom_end, zero_add]))) $$ HO
  iapply (barrier_step P T K defs 𝒱₀ c _ rfl (oweFrom (owRs c) 0 + oweFrom (owAg c) 0) (above_add (above_from _ _ (above_rs (by decide) c)) (above_from _ _ (above_ag (by decide) c)))) $$ [HO HB HC]
  · isplitr; · iexact HR
    isplitl [HO]; · iexact HO
    isplitl [HB]; · iexact HB
    iexact HC
  iintro ⟨HO, HB, HD⟩
  ihave HN := (need_all c) $$ [HD HT]
  · isplitl [HD]; · iexact HD
    iexact HT
  icases HN with ⟨HN, HA⟩
  ihave HN := (Entails.of_eq (eight _)) $$ HN
  icases HN with ⟨N0, N1, N2, N3, N4, N5, N6, N7⟩
  sl_exec
  iapply (slot_put defs 𝒱₀ c 0 (P c 0) _ rfl _ _ (by
    refine Eq.trans ?_ (hP 0).symm
    refine congrArg (fun w => sq (k0_pay31 w)) ?_
    sl_unfold_run_names
    apply chunk_read (insOf arg0 arg1 arg2 arg3 arg4 arg5 f0 f1 f2 f3 f4 f5) 0 0 (by decide) (by decide)
    case hL => exact rfl
    case h0 => exact Ins.blk3_of (insOf arg0 arg1 arg2 arg3 arg4 arg5 f0 f1 f2 f3 f4 f5) 0 0 _ _ _ _ _ _ _ _ _ rfl rfl rfl rfl rfl rfl rfl rfl rfl
    case h1 => exact Ins.blk3_of (insOf arg0 arg1 arg2 arg3 arg4 arg5 f0 f1 f2 f3 f4 f5) 1 0 _ _ _ _ _ _ _ _ _ rfl rfl rfl rfl rfl rfl rfl rfl rfl
    all_goals rfl)) $$ [S0]
  · iexact S0
  iintro S0
  iapply (send_if P T K defs 𝒱₀ c 0 (oweFrom (owAg c) 0) _ (cond1 c) _ (dev8 c) _ rfl _ (fun h => rsr_of _ _ (off2 c h) _)
    _ (sS_of 0 _ rfl _) _ (fun h => sR_of _ _ (off1 c h) _)) $$ [HO S0 N0]
  · isplitr; · iexact HR
    isplitl [HO]; · iexact HO
    isplitl [S0]; · iexact S0
    iexact N0
  iintro ⟨HO, E0⟩
  sl_exec
  iapply (slot_put defs 𝒱₀ c 1 (P c 1) _ rfl _ _ (by
    refine Eq.trans ?_ (hP 1).symm
    refine congrArg (fun w => sq (k0_pay31 w)) ?_
    sl_unfold_run_names
    apply chunk_read (insOf arg0 arg1 arg2 arg3 arg4 arg5 f0 f1 f2 f3 f4 f5) 0 1 (by decide) (by decide)
    case hL => exact rfl
    case h0 => exact Ins.blk3_of (insOf arg0 arg1 arg2 arg3 arg4 arg5 f0 f1 f2 f3 f4 f5) 0 0 _ _ _ _ _ _ _ _ _ rfl rfl rfl rfl rfl rfl rfl rfl rfl
    case h1 => exact Ins.blk3_of (insOf arg0 arg1 arg2 arg3 arg4 arg5 f0 f1 f2 f3 f4 f5) 1 0 _ _ _ _ _ _ _ _ _ rfl rfl rfl rfl rfl rfl rfl rfl rfl
    all_goals rfl)) $$ [S1]
  · iexact S1
  iintro S1
  iapply (send_if P T K defs 𝒱₀ c 1 (oweFrom (owAg c) 0) _ (cond2 c) _ (dev9 c) _ rfl _ (fun h => rsr_of _ _ (off4 c h) _)
    _ (sS_of 1 _ rfl _) _ (fun h => sR_of _ _ (off3 c h) _)) $$ [HO S1 N1]
  · isplitr; · iexact HR
    isplitl [HO]; · iexact HO
    isplitl [S1]; · iexact S1
    iexact N1
  iintro ⟨HO, E1⟩
  sl_exec
  iapply Hk
  isplitl [HO]; · iexact HO
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H7]
  · iexists _
    isplitr [H7]
    rotate_left
    · iexact H7
    ipureintro
    sl_unfold_run_names
    apply upto_grow (insOf arg0 arg1 arg2 arg3 arg4 arg5 f0 f1 f2 f3 f4 f5) 0 f7 hf
    case hL => exact rfl
    case h0 => exact Ins.blk3_of (insOf arg0 arg1 arg2 arg3 arg4 arg5 f0 f1 f2 f3 f4 f5) 0 0 _ _ _ _ _ _ _ _ _ rfl rfl rfl rfl rfl rfl rfl rfl rfl
    case h1 => exact Ins.blk3_of (insOf arg0 arg1 arg2 arg3 arg4 arg5 f0 f1 f2 f3 f4 f5) 1 0 _ _ _ _ _ _ _ _ _ rfl rfl rfl rfl rfl rfl rfl rfl rfl
    all_goals rfl
  isplitl [HB]; · iexact HB
  isplitl [HA]; · iexact HA
  isplitl [E0]; · iexact E0
  isplitl [E1]; · iexact E1
  isplitl [N2]; · iexact N2
  isplitl [N3]; · iexact N3
  isplitl [N4]; · iexact N4
  isplitl [N5]; · iexact N5
  isplitl [N6]; · iexact N6
  iexact N7

end

end Cert.KernelIdeal.Talk

end
-- ==== Proof.Quarter1.lean ====
module

public import proofs.«01_k».proof.Proof.Need
public import proofs.«01_k».proof.Proof.Cut

/-!
The body over the second quarter of the rows.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Tactic

section
variable (P : Dev nD → Fin 8 → Blk F) (T : Dev nD → Blk F) (K : GSem nD τ sig → ℕ) (defs : Defs nD τ sig (Elt F) Λ₀) (𝒱₀ : Variants) {α : Type}
variable (arg0 : Memref sig .tc .vmem S2x512x768 .bf16) (harg0 : arg0.IsWhole)
  (arg1 : Memref sig .tc .vmem S768x512 .bf16) (harg1 : arg1.IsWhole)
  (arg2 : Memref sig .tc .vmem S2x8x512x64 .bf16) (harg2 : arg2.IsWhole)
  (arg3 : Memref sig .tc .vmem S2x8x512x64 .bf16) (harg3 : arg3.IsWhole)
  (arg4 : Memref sig .tc .vmem S512x768 .bf16) (harg4 : arg4.IsWhole)
  (arg5 : Memref sig .tc .vmem S512x512 .f32) (harg5 : arg5.IsWhole)
  (harg6 : outM.IsWhole) (harg7 : accM.IsWhole) (harg8 : rssM.IsWhole) (harg9 : rsrM.IsWhole)

set_option maxRecDepth 65536 in
set_option maxHeartbeats 8000000 in
set_option sl_exec.resultNames true in
theorem quarter1 (c : Dev nD) (q : PosShare TreeShare) (f0) (f1) (f2) (f3) (f4) (f5) (hP : ∀ ch, P c ch = (insOf arg0 arg1 arg2 arg3 arg4 arg5 f0 f1 f2 f3 f4 f5).part ch)
    (κ : (FVec F S128x512 .f32) → (FVec F S128x512 .f32) → (FVec F S128x512 .f32) → Prog (TpuEff nD τ sig (Elt F) Λ₀ .tc) α) (Q : α → sProp 𝕄) :
    iprop(recs P T K ∗ ow c (oweFrom (owRs c) 2 + oweFrom (owAg c) 0) ∗ inps arg0 arg1 arg2 arg3 arg4 arg5 c q f0 f1 f2 f3 f4 f5 ∗ accTo (insOf arg0 arg1 arg2 arg3 arg4 arg5 f0 f1 f2 f3 f4 f5) c 128
        ∗ any (rssSlot 2) c ∗ any (rssSlot 3) c ∗ rsNeed c 2 ∗ rsNeed c 3)
      ⊢ iprop(((ow c (oweFrom (owRs c) 4 + oweFrom (owAg c) 0) ∗ inps arg0 arg1 arg2 arg3 arg4 arg5 c q f0 f1 f2 f3 f4 f5 ∗ accTo (insOf arg0 arg1 arg2 arg3 arg4 arg5 f0 f1 f2 f3 f4 f5) c 256
          ∗ rsLeft c 2 ∗ rsLeft c 3) -∗ wp frame (wpE defs 𝒱₀ (c : Thread nD τ) none) Set.univ (κ ((insOf arg0 arg1 arg2 arg3 arg4 arg5 f0 f1 f2 f3 f4 f5).bias 2) (k0_pay18 (insOf arg0 arg1 arg2 arg3 arg4 arg5 f0 f1 f2 f3 f4 f5).wqL ((insOf arg0 arg1 arg2 arg3 arg4 arg5 f0 f1 f2 f3 f4 f5).xL 0 2)) (probOf 0 ((insOf arg0 arg1 arg2 arg3 arg4 arg5 f0 f1 f2 f3 f4 f5).bias 2) (k0_pay18 (insOf arg0 arg1 arg2 arg3 arg4 arg5 f0 f1 f2 f3 f4 f5).wqL ((insOf arg0 arg1 arg2 arg3 arg4 arg5 f0 f1 f2 f3 f4 f5).xL 0 2)) ((insOf arg0 arg1 arg2 arg3 arg4 arg5 f0 f1 f2 f3 f4 f5).kL 0 0) (by decide))) Q)
        -∗ wp frame (wpE defs 𝒱₀ (c : Thread nD τ) none) Set.univ (q1 arg0 harg0 arg1 harg1 arg2 harg2 arg3 harg3 arg4 harg4 arg5 harg5 outM harg6 accM harg7 rssM harg8 rsrM harg9 cc0_scratch3 cc0_scratch4 cc0_scratch5 cc0_scratch6 (insOf arg0 arg1 arg2 arg3 arg4 arg5 f0 f1 f2 f3 f4 f5).wqL ((insOf arg0 arg1 arg2 arg3 arg4 arg5 f0 f1 f2 f3 f4 f5).bias 1) ((insOf arg0 arg1 arg2 arg3 arg4 arg5 f0 f1 f2 f3 f4 f5).xL 0 1) (insOf arg0 arg1 arg2 arg3 arg4 arg5 f0 f1 f2 f3 f4 f5).woL c (Scalar.remsi (Scalar.divsi (Dev.word c) 1#32) 8#32) κ) Q) := by
  simp only [q1, k0_part22_eq_skeleton, k0_part22_skel, k0_part23_eq_skeleton, k0_part23_skel, semSignalWord, semWaitWord, Prog.bind_assoc, Prog.bind_op, Prog.bind_ret, Prog.lift, Prog.pure_eq_ret]
  iintro ⟨#HR, HO, ⟨H0, H1, H2, H3, H4, H5⟩, ⟨%f7, %hf, H7⟩, S2, S3, N2, N3⟩ Hk
  sl_exec
  iapply (slot_put defs 𝒱₀ c 2 (P c 2) _ rfl _ _ (by
    refine Eq.trans ?_ (hP 2).symm
    refine congrArg (fun w => sq (k0_pay31 w)) ?_
    sl_unfold_run_names
    apply chunk_read (insOf arg0 arg1 arg2 arg3 arg4 arg5 f0 f1 f2 f3 f4 f5) 1 2 (by decide) (by decide)
    case hL => exact rfl
    case h0 => exact Ins.blk3_of (insOf arg0 arg1 arg2 arg3 arg4 arg5 f0 f1 f2 f3 f4 f5) 0 1 _ _ _ _ _ _ _ _ _ rfl rfl rfl rfl rfl rfl rfl rfl rfl
    case h1 => exact Ins.blk3_of (insOf arg0 arg1 arg2 arg3 arg4 arg5 f0 f1 f2 f3 f4 f5) 1 1 _ _ _ _ _ _ _ _ _ rfl rfl rfl rfl rfl rfl rfl rfl rfl
    all_goals rfl)) $$ [S2]
  · iexact S2
  iintro S2
  iapply (send_if P T K defs 𝒱₀ c 2 (oweFrom (owAg c) 0) _ (cond3 c) _ (dev10 c) _ rfl _ (fun h => rsr_of _ _ (off6 c h) _)
    _ (sS_of 2 _ rfl _) _ (fun h => sR_of _ _ (off5 c h) _)) $$ [HO S2 N2]
  · isplitr; · iexact HR
    isplitl [HO]; · iexact HO
    isplitl [S2]; · iexact S2
    iexact N2
  iintro ⟨HO, E2⟩
  sl_exec
  iapply (slot_put defs 𝒱₀ c 3 (P c 3) _ rfl _ _ (by
    refine Eq.trans ?_ (hP 3).symm
    refine congrArg (fun w => sq (k0_pay31 w)) ?_
    sl_unfold_run_names
    apply chunk_read (insOf arg0 arg1 arg2 arg3 arg4 arg5 f0 f1 f2 f3 f4 f5) 1 3 (by decide) (by decide)
    case hL => exact rfl
    case h0 => exact Ins.blk3_of (insOf arg0 arg1 arg2 arg3 arg4 arg5 f0 f1 f2 f3 f4 f5) 0 1 _ _ _ _ _ _ _ _ _ rfl rfl rfl rfl rfl rfl rfl rfl rfl
    case h1 => exact Ins.blk3_of (insOf arg0 arg1 arg2 arg3 arg4 arg5 f0 f1 f2 f3 f4 f5) 1 1 _ _ _ _ _ _ _ _ _ rfl rfl rfl rfl rfl rfl rfl rfl rfl
    all_goals rfl)) $$ [S3]
  · iexact S3
  iintro S3
  iapply (send_if P T K defs 𝒱₀ c 3 (oweFrom (owAg c) 0) _ (cond4 c) _ (dev11 c) _ rfl _ (fun h => rsr_of _ _ (off8 c h) _)
    _ (sS_of 3 _ rfl _) _ (fun h => sR_of _ _ (off7 c h) _)) $$ [HO S3 N3]
  · isplitr; · iexact HR
    isplitl [HO]; · iexact HO
    isplitl [S3]; · iexact S3
    iexact N3
  iintro ⟨HO, E3⟩
  sl_exec
  iapply Hk
  isplitl [HO]; · iexact HO
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H7]
  · iexists _
    isplitr [H7]
    rotate_left
    · iexact H7
    ipureintro
    sl_unfold_run_names
    apply upto_grow (insOf arg0 arg1 arg2 arg3 arg4 arg5 f0 f1 f2 f3 f4 f5) 1 f7 hf
    case hL => exact rfl
    case h0 => exact Ins.blk3_of (insOf arg0 arg1 arg2 arg3 arg4 arg5 f0 f1 f2 f3 f4 f5) 0 1 _ _ _ _ _ _ _ _ _ rfl rfl rfl rfl rfl rfl rfl rfl rfl
    case h1 => exact Ins.blk3_of (insOf arg0 arg1 arg2 arg3 arg4 arg5 f0 f1 f2 f3 f4 f5) 1 1 _ _ _ _ _ _ _ _ _ rfl rfl rfl rfl rfl rfl rfl rfl rfl
    all_goals rfl
  isplitl [E2]; · iexact E2
  iexact E3

end

end Cert.KernelIdeal.Talk

end
-- ==== Proof.Quarter2.lean ====
module

public import proofs.«01_k».proof.Proof.Need
public import proofs.«01_k».proof.Proof.Cut

/-!
The body over the third quarter of the rows.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Tactic

section
variable (P : Dev nD → Fin 8 → Blk F) (T : Dev nD → Blk F) (K : GSem nD τ sig → ℕ) (defs : Defs nD τ sig (Elt F) Λ₀) (𝒱₀ : Variants) {α : Type}
variable (arg0 : Memref sig .tc .vmem S2x512x768 .bf16) (harg0 : arg0.IsWhole)
  (arg1 : Memref sig .tc .vmem S768x512 .bf16) (harg1 : arg1.IsWhole)
  (arg2 : Memref sig .tc .vmem S2x8x512x64 .bf16) (harg2 : arg2.IsWhole)
  (arg3 : Memref sig .tc .vmem S2x8x512x64 .bf16) (harg3 : arg3.IsWhole)
  (arg4 : Memref sig .tc .vmem S512x768 .bf16) (harg4 : arg4.IsWhole)
  (arg5 : Memref sig .tc .vmem S512x512 .f32) (harg5 : arg5.IsWhole)
  (harg6 : outM.IsWhole) (harg7 : accM.IsWhole) (harg8 : rssM.IsWhole) (harg9 : rsrM.IsWhole)

set_option maxRecDepth 65536 in
set_option maxHeartbeats 8000000 in
set_option sl_exec.resultNames true in
theorem quarter2 (c : Dev nD) (q : PosShare TreeShare) (f0) (f1) (f2) (f3) (f4) (f5) (hP : ∀ ch, P c ch = (insOf arg0 arg1 arg2 arg3 arg4 arg5 f0 f1 f2 f3 f4 f5).part ch)
    (κ : (FVec F S128x512 .f32) → (Vec F S1x128x768 .bf16) → Prog (TpuEff nD τ sig (Elt F) Λ₀ .tc) α) (Q : α → sProp 𝕄) :
    iprop(recs P T K ∗ ow c (oweFrom (owRs c) 4 + oweFrom (owAg c) 0) ∗ inps arg0 arg1 arg2 arg3 arg4 arg5 c q f0 f1 f2 f3 f4 f5 ∗ accTo (insOf arg0 arg1 arg2 arg3 arg4 arg5 f0 f1 f2 f3 f4 f5) c 256
        ∗ any (rssSlot 4) c ∗ any (rssSlot 5) c ∗ rsNeed c 4 ∗ rsNeed c 5)
      ⊢ iprop(((ow c (oweFrom (owRs c) 6 + oweFrom (owAg c) 0) ∗ inps arg0 arg1 arg2 arg3 arg4 arg5 c q f0 f1 f2 f3 f4 f5 ∗ accTo (insOf arg0 arg1 arg2 arg3 arg4 arg5 f0 f1 f2 f3 f4 f5) c 384
          ∗ rsLeft c 4 ∗ rsLeft c 5) -∗ wp frame (wpE defs 𝒱₀ (c : Thread nD τ) none) Set.univ (κ ((insOf arg0 arg1 arg2 arg3 arg4 arg5 f0 f1 f2 f3 f4 f5).bias 3) ((insOf arg0 arg1 arg2 arg3 arg4 arg5 f0 f1 f2 f3 f4 f5).xL 0 3)) Q)
        -∗ wp frame (wpE defs 𝒱₀ (c : Thread nD τ) none) Set.univ (q2 arg0 harg0 arg1 harg1 arg2 harg2 arg3 harg3 arg4 harg4 arg5 harg5 outM harg6 accM harg7 rssM harg8 rsrM harg9 cc0_scratch3 cc0_scratch4 cc0_scratch5 cc0_scratch6 ((insOf arg0 arg1 arg2 arg3 arg4 arg5 f0 f1 f2 f3 f4 f5).bias 2) (k0_pay18 (insOf arg0 arg1 arg2 arg3 arg4 arg5 f0 f1 f2 f3 f4 f5).wqL ((insOf arg0 arg1 arg2 arg3 arg4 arg5 f0 f1 f2 f3 f4 f5).xL 0 2)) (probOf 0 ((insOf arg0 arg1 arg2 arg3 arg4 arg5 f0 f1 f2 f3 f4 f5).bias 2) (k0_pay18 (insOf arg0 arg1 arg2 arg3 arg4 arg5 f0 f1 f2 f3 f4 f5).wqL ((insOf arg0 arg1 arg2 arg3 arg4 arg5 f0 f1 f2 f3 f4 f5).xL 0 2)) ((insOf arg0 arg1 arg2 arg3 arg4 arg5 f0 f1 f2 f3 f4 f5).kL 0 0) (by decide)) (insOf arg0 arg1 arg2 arg3 arg4 arg5 f0 f1 f2 f3 f4 f5).wqL (insOf arg0 arg1 arg2 arg3 arg4 arg5 f0 f1 f2 f3 f4 f5).woL c (Scalar.remsi (Scalar.divsi (Dev.word c) 1#32) 8#32) κ) Q) := by
  simp only [q2, k0_part33_eq_skeleton, k0_part33_skel, semSignalWord, semWaitWord, Prog.bind_assoc, Prog.bind_op, Prog.bind_ret, Prog.lift, Prog.pure_eq_ret]
  iintro ⟨#HR, HO, ⟨H0, H1, H2, H3, H4, H5⟩, ⟨%f7, %hf, H7⟩, S4, S5, N4, N5⟩ Hk
  sl_exec
  iapply (slot_put defs 𝒱₀ c 4 (P c 4) _ rfl _ _ (by
    refine Eq.trans ?_ (hP 4).symm
    refine congrArg (fun w => sq (k0_pay31 w)) ?_
    sl_unfold_run_names
    apply chunk_read (insOf arg0 arg1 arg2 arg3 arg4 arg5 f0 f1 f2 f3 f4 f5) 2 4 (by decide) (by decide)
    case hL => exact rfl
    case h0 => exact Ins.blk3_of (insOf arg0 arg1 arg2 arg3 arg4 arg5 f0 f1 f2 f3 f4 f5) 0 2 _ _ _ _ _ _ _ _ _ rfl rfl rfl rfl rfl rfl rfl rfl rfl
    case h1 => exact Ins.blk3_of (insOf arg0 arg1 arg2 arg3 arg4 arg5 f0 f1 f2 f3 f4 f5) 1 2 _ _ _ _ _ _ _ _ _ rfl rfl rfl rfl rfl rfl rfl rfl rfl
    all_goals rfl)) $$ [S4]
  · iexact S4
  iintro S4
  iapply (send_if P T K defs 𝒱₀ c 4 (oweFrom (owAg c) 0) _ (cond5 c) _ (dev12 c) _ rfl _ (fun h => rsr_of _ _ (off10 c h) _)
    _ (sS_of 4 _ rfl _) _ (fun h => sR_of _ _ (off9 c h) _)) $$ [HO S4 N4]
  · isplitr; · iexact HR
    isplitl [HO]; · iexact HO
    isplitl [S4]; · iexact S4
    iexact N4
  iintro ⟨HO, E4⟩
  sl_exec
  iapply (slot_put defs 𝒱₀ c 5 (P c 5) _ rfl _ _ (by
    refine Eq.trans ?_ (hP 5).symm
    refine congrArg (fun w => sq (k0_pay31 w)) ?_
    sl_unfold_run_names
    apply chunk_read (insOf arg0 arg1 arg2 arg3 arg4 arg5 f0 f1 f2 f3 f4 f5) 2 5 (by decide) (by decide)
    case hL => exact rfl
    case h0 => exact Ins.blk3_of (insOf arg0 arg1 arg2 arg3 arg4 arg5 f0 f1 f2 f3 f4 f5) 0 2 _ _ _ _ _ _ _ _ _ rfl rfl rfl rfl rfl rfl rfl rfl rfl
    case h1 => exact Ins.blk3_of (insOf arg0 arg1 arg2 arg3 arg4 arg5 f0 f1 f2 f3 f4 f5) 1 2 _ _ _ _ _ _ _ _ _ rfl rfl rfl rfl rfl rfl rfl rfl rfl
    all_goals rfl)) $$ [S5]
  · iexact S5
  iintro S5
  iapply (send_if P T K defs 𝒱₀ c 5 (oweFrom (owAg c) 0) _ (cond6 c) _ (dev13 c) _ rfl _ (fun h => rsr_of _ _ (off12 c h) _)
    _ (sS_of 5 _ rfl _) _ (fun h => sR_of _ _ (off11 c h) _)) $$ [HO S5 N5]
  · isplitr; · iexact HR
    isplitl [HO]; · iexact HO
    isplitl [S5]; · iexact S5
    iexact N5
  iintro ⟨HO, E5⟩
  sl_exec
  iapply Hk
  isplitl [HO]; · iexact HO
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H7]
  · iexists _
    isplitr [H7]
    rotate_left
    · iexact H7
    ipureintro
    sl_unfold_run_names
    apply upto_grow (insOf arg0 arg1 arg2 arg3 arg4 arg5 f0 f1 f2 f3 f4 f5) 2 f7 hf
    case hL => exact rfl
    case h0 => exact Ins.blk3_of (insOf arg0 arg1 arg2 arg3 arg4 arg5 f0 f1 f2 f3 f4 f5) 0 2 _ _ _ _ _ _ _ _ _ rfl rfl rfl rfl rfl rfl rfl rfl rfl
    case h1 => exact Ins.blk3_of (insOf arg0 arg1 arg2 arg3 arg4 arg5 f0 f1 f2 f3 f4 f5) 1 2 _ _ _ _ _ _ _ _ _ rfl rfl rfl rfl rfl rfl rfl rfl rfl
    all_goals rfl
  isplitl [E4]; · iexact E4
  iexact E5

end

end Cert.KernelIdeal.Talk

end
-- ==== Proof.Quarter3.lean ====
module

public import proofs.«01_k».proof.Proof.Need
public import proofs.«01_k».proof.Proof.Cut

/-!
The body over the last quarter of the rows, up to its last block.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Tactic

section
variable (P : Dev nD → Fin 8 → Blk F) (T : Dev nD → Blk F) (K : GSem nD τ sig → ℕ) (defs : Defs nD τ sig (Elt F) Λ₀) (𝒱₀ : Variants) {α : Type}
variable (arg0 : Memref sig .tc .vmem S2x512x768 .bf16) (harg0 : arg0.IsWhole)
  (arg1 : Memref sig .tc .vmem S768x512 .bf16) (harg1 : arg1.IsWhole)
  (arg2 : Memref sig .tc .vmem S2x8x512x64 .bf16) (harg2 : arg2.IsWhole)
  (arg3 : Memref sig .tc .vmem S2x8x512x64 .bf16) (harg3 : arg3.IsWhole)
  (arg4 : Memref sig .tc .vmem S512x768 .bf16) (harg4 : arg4.IsWhole)
  (arg5 : Memref sig .tc .vmem S512x512 .f32) (harg5 : arg5.IsWhole)
  (harg6 : outM.IsWhole) (harg7 : accM.IsWhole) (harg8 : rssM.IsWhole) (harg9 : rsrM.IsWhole)

set_option maxRecDepth 65536 in
set_option maxHeartbeats 8000000 in
set_option sl_exec.resultNames true in
theorem quarter3 (c : Dev nD) (q : PosShare TreeShare) (f0) (f1) (f2) (f3) (f4) (f5) (hP : ∀ ch, P c ch = (insOf arg0 arg1 arg2 arg3 arg4 arg5 f0 f1 f2 f3 f4 f5).part ch)
    (κ : (FVec F S2x64x768 .bf16) → Prog (TpuEff nD τ sig (Elt F) Λ₀ .tc) α) (Q : α → sProp 𝕄) :
    iprop(recs P T K ∗ ow c (oweFrom (owRs c) 6 + oweFrom (owAg c) 0) ∗ inps arg0 arg1 arg2 arg3 arg4 arg5 c q f0 f1 f2 f3 f4 f5 ∗ accTo (insOf arg0 arg1 arg2 arg3 arg4 arg5 f0 f1 f2 f3 f4 f5) c 384
        ∗ any (rssSlot 6) c ∗ rsNeed c 6)
      ⊢ iprop((∀ v, (ow c (oweFrom (owRs c) 7 + oweFrom (owAg c) 0) ∗ inps arg0 arg1 arg2 arg3 arg4 arg5 c q f0 f1 f2 f3 f4 f5 ∗ accTo (insOf arg0 arg1 arg2 arg3 arg4 arg5 f0 f1 f2 f3 f4 f5) c 512
          ∗ ⌜v = k0_pay131 ((insOf arg0 arg1 arg2 arg3 arg4 arg5 f0 f1 f2 f3 f4 f5).chunk 7)⌝ ∗ rsLeft c 6) -∗ wp frame (wpE defs 𝒱₀ (c : Thread nD τ) none) Set.univ (κ v) Q)
        -∗ wp frame (wpE defs 𝒱₀ (c : Thread nD τ) none) Set.univ (q3 arg0 harg0 arg1 harg1 arg2 harg2 arg3 harg3 arg4 harg4 arg5 harg5 outM harg6 accM harg7 rssM harg8 rsrM harg9 cc0_scratch3 cc0_scratch4 cc0_scratch5 cc0_scratch6 (insOf arg0 arg1 arg2 arg3 arg4 arg5 f0 f1 f2 f3 f4 f5).wqL ((insOf arg0 arg1 arg2 arg3 arg4 arg5 f0 f1 f2 f3 f4 f5).bias 3) ((insOf arg0 arg1 arg2 arg3 arg4 arg5 f0 f1 f2 f3 f4 f5).xL 0 3) (insOf arg0 arg1 arg2 arg3 arg4 arg5 f0 f1 f2 f3 f4 f5).woL c (Scalar.remsi (Scalar.divsi (Dev.word c) 1#32) 8#32) κ) Q) := by
  simp only [q3, k0_part43_eq_skeleton, k0_part43_skel, semSignalWord, semWaitWord, Prog.bind_assoc, Prog.bind_op, Prog.bind_ret, Prog.lift, Prog.pure_eq_ret]
  iintro ⟨#HR, HO, ⟨H0, H1, H2, H3, H4, H5⟩, ⟨%f7, %hf, H7⟩, S6, N6⟩ Hk
  sl_exec
  iapply (slot_put defs 𝒱₀ c 6 (P c 6) _ rfl _ _ (by
    refine Eq.trans ?_ (hP 6).symm
    refine congrArg (fun w => sq (k0_pay31 w)) ?_
    sl_unfold_run_names
    apply chunk_read (insOf arg0 arg1 arg2 arg3 arg4 arg5 f0 f1 f2 f3 f4 f5) 3 6 (by decide) (by decide)
    case hL => exact rfl
    case h0 => exact Ins.blk3_of (insOf arg0 arg1 arg2 arg3 arg4 arg5 f0 f1 f2 f3 f4 f5) 0 3 _ _ _ _ _ _ _ _ _ rfl rfl rfl rfl rfl rfl rfl rfl rfl
    case h1 => exact Ins.blk3_of (insOf arg0 arg1 arg2 arg3 arg4 arg5 f0 f1 f2 f3 f4 f5) 1 3 _ _ _ _ _ _ _ _ _ rfl rfl rfl rfl rfl rfl rfl rfl rfl
    all_goals rfl)) $$ [S6]
  · iexact S6
  iintro S6
  iapply (send_if P T K defs 𝒱₀ c 6 (oweFrom (owAg c) 0) _ (cond7 c) _ (dev14 c) _ rfl _ (fun h => rsr_of _ _ (off14 c h) _)
    _ (sS_of 6 _ rfl _) _ (fun h => sR_of _ _ (off13 c h) _)) $$ [HO S6 N6]
  · isplitr; · iexact HR
    isplitl [HO]; · iexact HO
    isplitl [S6]; · iexact S6
    iexact N6
  iintro ⟨HO, E6⟩
  sl_exec
  iapply Hk
  isplitl [HO]; · iexact HO
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H7]
  · iexists _
    isplitr [H7]
    rotate_left
    · iexact H7
    ipureintro
    sl_unfold_run_names
    apply upto_grow (insOf arg0 arg1 arg2 arg3 arg4 arg5 f0 f1 f2 f3 f4 f5) 3 f7 hf
    case hL => exact rfl
    case h0 => exact Ins.blk3_of (insOf arg0 arg1 arg2 arg3 arg4 arg5 f0 f1 f2 f3 f4 f5) 0 3 _ _ _ _ _ _ _ _ _ rfl rfl rfl rfl rfl rfl rfl rfl rfl
    case h1 => exact Ins.blk3_of (insOf arg0 arg1 arg2 arg3 arg4 arg5 f0 f1 f2 f3 f4 f5) 1 3 _ _ _ _ _ _ _ _ _ rfl rfl rfl rfl rfl rfl rfl rfl rfl
    all_goals rfl
  isplitr
  · ipureintro
    refine congrArg k0_pay131 ?_
    sl_unfold_run_names
    apply chunk_read (insOf arg0 arg1 arg2 arg3 arg4 arg5 f0 f1 f2 f3 f4 f5) 3 7 (by decide) (by decide)
    case hL => exact rfl
    case h0 => exact Ins.blk3_of (insOf arg0 arg1 arg2 arg3 arg4 arg5 f0 f1 f2 f3 f4 f5) 0 3 _ _ _ _ _ _ _ _ _ rfl rfl rfl rfl rfl rfl rfl rfl rfl
    case h1 => exact Ins.blk3_of (insOf arg0 arg1 arg2 arg3 arg4 arg5 f0 f1 f2 f3 f4 f5) 1 3 _ _ _ _ _ _ _ _ _ rfl rfl rfl rfl rfl rfl rfl rfl rfl
    all_goals rfl
  iexact E6

end

end Cert.KernelIdeal.Talk

end
-- ==== Proof.Waits.lean ====
module

public import proofs.«01_k».proof.Proof.Need
public import proofs.«01_k».proof.Proof.Cut

/-!
The end of the talk: the waits on the sends, then on the rows that come in.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Tactic

section
variable (P : Dev nD → Fin 8 → Blk F) (T : Dev nD → Blk F) (K : GSem nD τ sig → ℕ) (defs : Defs nD τ sig (Elt F) Λ₀) (𝒱₀ : Variants) {α : Type}
variable (arg0 : Memref sig .tc .vmem S2x512x768 .bf16) (harg0 : arg0.IsWhole)
  (arg1 : Memref sig .tc .vmem S768x512 .bf16) (harg1 : arg1.IsWhole)
  (arg2 : Memref sig .tc .vmem S2x8x512x64 .bf16) (harg2 : arg2.IsWhole)
  (arg3 : Memref sig .tc .vmem S2x8x512x64 .bf16) (harg3 : arg3.IsWhole)
  (arg4 : Memref sig .tc .vmem S512x768 .bf16) (harg4 : arg4.IsWhole)
  (arg5 : Memref sig .tc .vmem S512x512 .f32) (harg5 : arg5.IsWhole)
  (harg6 : outM.IsWhole) (harg7 : accM.IsWhole) (harg8 : rssM.IsWhole) (harg9 : rsrM.IsWhole)
/-- A block of this size is credited as one. -/
theorem credit_N (M : Memref sig .tc .vmem S2x64x768 .bf16) : M.view.dmaCredit = N := rfl

set_option maxRecDepth 65536 in
set_option pp.maxSteps 300 in
set_option maxHeartbeats 4000000 in
theorem part53 (c : Dev nD) (v1653 v1662 v1671 v1680 : BitVec 32)
    (κ : _ → Prog (TpuEff nD τ sig (Elt F) Λ₀ .tc) α) (Q : α → sProp 𝕄) :
    iprop(recs P T K ∗ ow c 0 ∗ atPos ER (agR c 1) 0 ∅ 0 ∗ cred (tallyAt (agR c 1) () N) ∗ atPos ER (agR c 2) 0 ∅ 0 ∗ cred (tallyAt (agR c 2) () N) ∗ atPos ER (agR c 3) 0 ∅ 0 ∗ cred (tallyAt (agR c 3) () N) ∗ atPos ER (agR c 4) 0 ∅ 0 ∗ cred (tallyAt (agR c 4) () N))
      ⊢ iprop(((ow c 0 ∗ atPos ER (agR c 1) 1 ∅ 0 ∗ full (rowsM (rev (pr c 1))) c fullShare (T (pr c 1)) ∗ atPos ER (agR c 2) 1 ∅ 0 ∗ full (rowsM (rev (pr c 2))) c fullShare (T (pr c 2)) ∗ atPos ER (agR c 3) 1 ∅ 0 ∗ full (rowsM (rev (pr c 3))) c fullShare (T (pr c 3)) ∗ atPos ER (agR c 4) 1 ∅ 0 ∗ full (rowsM (rev (pr c 4))) c fullShare (T (pr c 4))) -∗ wp frame (wpE defs 𝒱₀ (c : Thread nD τ) none) Set.univ (κ ⟨⟩) Q)
        -∗ wp frame (wpE defs 𝒱₀ (c : Thread nD τ) none) Set.univ (k0_part53 arg0 harg0 arg1 harg1 arg2 harg2 arg3 harg3 arg4 harg4 arg5 harg5 outM harg6 accM harg7 rssM harg8 rsrM harg9 cc0_scratch3 cc0_scratch4 cc0_scratch5 cc0_scratch6 c v1653 v1662 v1671 v1680 >>= κ) Q) := by
  simp only [k0_part53_eq_skeleton, k0_part53_skel, Prog.bind_assoc, Prog.bind_op, Prog.bind_ret, Prog.lift, Prog.pure_eq_ret]
  iintro ⟨#HR, HO, D1, F1, D2, F2, D3, F3, D4, F4⟩ Hk
  iapply (agR_wait P T K defs 𝒱₀ c 1 _ (aR_of 1 _ rfl _) _ _ (credit_N _)) $$ [HO D1 F1]
  · isplitr; · iexact HR
    isplitl [HO]; · iexact HO
    isplitl [D1]; · iexact D1
    iexact F1
  iintro ⟨HO, D1, F1⟩
  iapply (agR_wait P T K defs 𝒱₀ c 2 _ (aR_of 2 _ rfl _) _ _ (credit_N _)) $$ [HO D2 F2]
  · isplitr; · iexact HR
    isplitl [HO]; · iexact HO
    isplitl [D2]; · iexact D2
    iexact F2
  iintro ⟨HO, D2, F2⟩
  iapply (agR_wait P T K defs 𝒱₀ c 3 _ (aR_of 3 _ rfl _) _ _ (credit_N _)) $$ [HO D3 F3]
  · isplitr; · iexact HR
    isplitl [HO]; · iexact HO
    isplitl [D3]; · iexact D3
    iexact F3
  iintro ⟨HO, D3, F3⟩
  iapply (agR_wait P T K defs 𝒱₀ c 4 _ (aR_of 4 _ rfl _) _ _ (credit_N _)) $$ [HO D4 F4]
  · isplitr; · iexact HR
    isplitl [HO]; · iexact HO
    isplitl [D4]; · iexact D4
    iexact F4
  iintro ⟨HO, D4, F4⟩
  iapply Hk
  isplitl [HO]; · iexact HO
  isplitl [D1]; · iexact D1
  isplitl [F1]; · iexact F1
  isplitl [D2]; · iexact D2
  isplitl [F2]; · iexact F2
  isplitl [D3]; · iexact D3
  isplitl [F3]; · iexact F3
  isplitl [D4]; · iexact D4
  iexact F4

set_option maxRecDepth 65536 in
set_option pp.maxSteps 300 in
set_option maxHeartbeats 4000000 in
theorem part52 (c : Dev nD) (v1644 : BitVec 32)
    (κ : _ → Prog (TpuEff nD τ sig (Elt F) Λ₀ .tc) α) (Q : α → sProp 𝕄) :
    iprop(recs P T K ∗ ow c 0 ∗ atPos ER (agS c 3) 0 ∅ 0 ∗ cred (tallyAt (agS c 3) () N) ∗ atPos ER (agS c 4) 0 ∅ 0 ∗ cred (tallyAt (agS c 4) () N) ∗ atPos ER (agS c 5) 0 ∅ 0 ∗ cred (tallyAt (agS c 5) () N) ∗ atPos ER (agS c 6) 0 ∅ 0 ∗ cred (tallyAt (agS c 6) () N) ∗ atPos ER (agR c 0) 0 ∅ 0 ∗ cred (tallyAt (agR c 0) () N))
      ⊢ iprop(((ow c 0 ∗ atPos ER (agS c 3) 1 ∅ 0 ∗ full (rowsM (rev c)) c (agSh 3) (T c) ∗ atPos ER (agS c 4) 1 ∅ 0 ∗ full (rowsM (rev c)) c (agSh 4) (T c) ∗ atPos ER (agS c 5) 1 ∅ 0 ∗ full (rowsM (rev c)) c (agSh 5) (T c) ∗ atPos ER (agS c 6) 1 ∅ 0 ∗ full (rowsM (rev c)) c (agSh 6) (T c) ∗ atPos ER (agR c 0) 1 ∅ 0 ∗ full (rowsM (rev (pr c 0))) c fullShare (T (pr c 0))) -∗ wp frame (wpE defs 𝒱₀ (c : Thread nD τ) none) Set.univ (κ ⟨⟩) Q)
        -∗ wp frame (wpE defs 𝒱₀ (c : Thread nD τ) none) Set.univ (k0_part52 arg0 harg0 arg1 harg1 arg2 harg2 arg3 harg3 arg4 harg4 arg5 harg5 outM harg6 accM harg7 rssM harg8 rsrM harg9 cc0_scratch3 cc0_scratch4 cc0_scratch5 cc0_scratch6 c v1644 >>= κ) Q) := by
  simp only [k0_part52_eq_skeleton, k0_part52_skel, Prog.bind_assoc, Prog.bind_op, Prog.bind_ret, Prog.lift, Prog.pure_eq_ret]
  iintro ⟨#HR, HO, B3, C3, B4, C4, B5, C5, B6, C6, D0, F0⟩ Hk
  iapply (agS_wait P T K defs 𝒱₀ c 3 _ (aS_of 3 _ rfl _) _ _ (credit_N _)) $$ [HO B3 C3]
  · isplitr; · iexact HR
    isplitl [HO]; · iexact HO
    isplitl [B3]; · iexact B3
    iexact C3
  iintro ⟨HO, B3, C3⟩
  iapply (agS_wait P T K defs 𝒱₀ c 4 _ (aS_of 4 _ rfl _) _ _ (credit_N _)) $$ [HO B4 C4]
  · isplitr; · iexact HR
    isplitl [HO]; · iexact HO
    isplitl [B4]; · iexact B4
    iexact C4
  iintro ⟨HO, B4, C4⟩
  iapply (agS_wait P T K defs 𝒱₀ c 5 _ (aS_of 5 _ rfl _) _ _ (credit_N _)) $$ [HO B5 C5]
  · isplitr; · iexact HR
    isplitl [HO]; · iexact HO
    isplitl [B5]; · iexact B5
    iexact C5
  iintro ⟨HO, B5, C5⟩
  iapply (agS_wait P T K defs 𝒱₀ c 6 _ (aS_of 6 _ rfl _) _ _ (credit_N _)) $$ [HO B6 C6]
  · isplitr; · iexact HR
    isplitl [HO]; · iexact HO
    isplitl [B6]; · iexact B6
    iexact C6
  iintro ⟨HO, B6, C6⟩
  iapply (agR_wait P T K defs 𝒱₀ c 0 _ (aR_of 0 _ rfl _) _ _ (credit_N _)) $$ [HO D0 F0]
  · isplitr; · iexact HR
    isplitl [HO]; · iexact HO
    isplitl [D0]; · iexact D0
    iexact F0
  iintro ⟨HO, D0, F0⟩
  iapply Hk
  isplitl [HO]; · iexact HO
  isplitl [B3]; · iexact B3
  isplitl [C3]; · iexact C3
  isplitl [B4]; · iexact B4
  isplitl [C4]; · iexact C4
  isplitl [B5]; · iexact B5
  isplitl [C5]; · iexact C5
  isplitl [B6]; · iexact B6
  isplitl [C6]; · iexact C6
  isplitl [D0]; · iexact D0
  iexact F0

set_option maxRecDepth 65536 in
set_option pp.maxSteps 300 in
set_option maxHeartbeats 4000000 in
theorem part51 (c : Dev nD)
    (κ : _ → Prog (TpuEff nD τ sig (Elt F) Λ₀ .tc) α) (Q : α → sProp 𝕄) :
    iprop(recs P T K ∗ ow c 0 ∗ atPos ER (rsS c 4) 0 ∅ 0 ∗ rsLeft c 4 ∗ atPos ER (rsS c 5) 0 ∅ 0 ∗ rsLeft c 5 ∗ atPos ER (rsS c 6) 0 ∅ 0 ∗ rsLeft c 6 ∗ atPos ER (rsS c 7) 0 ∅ 0 ∗ rsLeft c 7 ∗ atPos ER (agS c 0) 0 ∅ 0 ∗ cred (tallyAt (agS c 0) () N) ∗ atPos ER (agS c 1) 0 ∅ 0 ∗ cred (tallyAt (agS c 1) () N) ∗ atPos ER (agS c 2) 0 ∅ 0 ∗ cred (tallyAt (agS c 2) () N))
      ⊢ iprop(((ow c 0 ∗ rsEnd c 4 ∗ any (rssSlot 4) c ∗ rsEnd c 5 ∗ any (rssSlot 5) c ∗ rsEnd c 6 ∗ any (rssSlot 6) c ∗ rsEnd c 7 ∗ any (rssSlot 7) c ∗ atPos ER (agS c 0) 1 ∅ 0 ∗ full (rowsM (rev c)) c (agSh 0) (T c) ∗ atPos ER (agS c 1) 1 ∅ 0 ∗ full (rowsM (rev c)) c (agSh 1) (T c) ∗ atPos ER (agS c 2) 1 ∅ 0 ∗ full (rowsM (rev c)) c (agSh 2) (T c)) -∗ wp frame (wpE defs 𝒱₀ (c : Thread nD τ) none) Set.univ (κ ⟨⟩) Q)
        -∗ wp frame (wpE defs 𝒱₀ (c : Thread nD τ) none) Set.univ (k0_part51 arg0 harg0 arg1 harg1 arg2 harg2 arg3 harg3 arg4 harg4 arg5 harg5 outM harg6 accM harg7 rssM harg8 rsrM harg9 cc0_scratch3 cc0_scratch4 cc0_scratch5 cc0_scratch6 c (Scalar.remsi (Scalar.divsi (Dev.word c) 1#32) 8#32) (Scalar.extui (Scalar.cmpi .ne (Scalar.remsi (Scalar.divsi (Dev.word c) 1#32) 8#32) 1#32) : BitVec 32) >>= κ) Q) := by
  simp only [k0_part51_eq_skeleton, k0_part51_skel, Prog.bind_assoc, Prog.bind_op, Prog.bind_ret, Prog.lift, Prog.pure_eq_ret]
  iintro ⟨#HR, HO, A4, E4, A5, E5, A6, E6, A7, E7, B0, C0, B1, C1, B2, C2⟩ Hk
  iapply (wait_if P T K defs 𝒱₀ c 4 _ (owner_cond c 4 _ rfl) _ (sS_of 4 _ rfl _) _ _ (credit_N _)) $$ [HO A4 E4]
  · isplitr; · iexact HR
    isplitl [HO]; · iexact HO
    isplitl [A4]; · iexact A4
    iexact E4
  iintro ⟨HO, A4, E4⟩
  iapply (wait_if P T K defs 𝒱₀ c 5 _ (owner_cond c 5 _ rfl) _ (sS_of 5 _ rfl _) _ _ (credit_N _)) $$ [HO A5 E5]
  · isplitr; · iexact HR
    isplitl [HO]; · iexact HO
    isplitl [A5]; · iexact A5
    iexact E5
  iintro ⟨HO, A5, E5⟩
  iapply (wait_if P T K defs 𝒱₀ c 6 _ (owner_cond c 6 _ rfl) _ (sS_of 6 _ rfl _) _ _ (credit_N _)) $$ [HO A6 E6]
  · isplitr; · iexact HR
    isplitl [HO]; · iexact HO
    isplitl [A6]; · iexact A6
    iexact E6
  iintro ⟨HO, A6, E6⟩
  iapply (wait_if P T K defs 𝒱₀ c 7 _ (owner_cond c 7 _ rfl) _ (sS_of 7 _ rfl _) _ _ (credit_N _)) $$ [HO A7 E7]
  · isplitr; · iexact HR
    isplitl [HO]; · iexact HO
    isplitl [A7]; · iexact A7
    iexact E7
  iintro ⟨HO, A7, E7⟩
  iapply (agS_wait P T K defs 𝒱₀ c 0 _ (aS_of 0 _ rfl _) _ _ (credit_N _)) $$ [HO B0 C0]
  · isplitr; · iexact HR
    isplitl [HO]; · iexact HO
    isplitl [B0]; · iexact B0
    iexact C0
  iintro ⟨HO, B0, C0⟩
  iapply (agS_wait P T K defs 𝒱₀ c 1 _ (aS_of 1 _ rfl _) _ _ (credit_N _)) $$ [HO B1 C1]
  · isplitr; · iexact HR
    isplitl [HO]; · iexact HO
    isplitl [B1]; · iexact B1
    iexact C1
  iintro ⟨HO, B1, C1⟩
  iapply (agS_wait P T K defs 𝒱₀ c 2 _ (aS_of 2 _ rfl _) _ _ (credit_N _)) $$ [HO B2 C2]
  · isplitr; · iexact HR
    isplitl [HO]; · iexact HO
    isplitl [B2]; · iexact B2
    iexact C2
  iintro ⟨HO, B2, C2⟩
  iapply Hk
  isplitl [HO]; · iexact HO
  isplitl [A4]; · iexact A4
  isplitl [E4]; · iexact E4
  isplitl [A5]; · iexact A5
  isplitl [E5]; · iexact E5
  isplitl [A6]; · iexact A6
  isplitl [E6]; · iexact E6
  isplitl [A7]; · iexact A7
  isplitl [E7]; · iexact E7
  isplitl [B0]; · iexact B0
  isplitl [C0]; · iexact C0
  isplitl [B1]; · iexact B1
  isplitl [C1]; · iexact C1
  isplitl [B2]; · iexact B2
  iexact C2

set_option maxRecDepth 65536 in
set_option pp.maxSteps 300 in
set_option maxHeartbeats 4000000 in
theorem part50 (c : Dev nD) (v1689 c1 : BitVec 32)
    (κ : _ → Prog (TpuEff nD τ sig (Elt F) Λ₀ .tc) α) (Q : α → sProp 𝕄) :
    iprop(recs P T K ∗ ow c (oweFrom (owAg c) 5) ∗ full (rowsM (rev c)) c (restSh 5) (T c) ∗ agNeed (F := F) c 5 ∗ agNeed (F := F) c 6 ∗ atPos ER (rsS c 0) 0 ∅ 0 ∗ rsLeft c 0 ∗ atPos ER (rsS c 1) 0 ∅ 0 ∗ rsLeft c 1 ∗ atPos ER (rsS c 2) 0 ∅ 0 ∗ rsLeft c 2 ∗ atPos ER (rsS c 3) 0 ∅ 0 ∗ rsLeft c 3)
      ⊢ iprop(((ow c 0 ∗ full (rowsM (rev c)) c (restSh 7) (T c) ∗ cred (tallyAt (agS c 5) () N) ∗ cred (tallyAt (agS c 6) () N) ∗ rsEnd c 0 ∗ any (rssSlot 0) c ∗ rsEnd c 1 ∗ any (rssSlot 1) c ∗ rsEnd c 2 ∗ any (rssSlot 2) c ∗ rsEnd c 3 ∗ any (rssSlot 3) c) -∗ wp frame (wpE defs 𝒱₀ (c : Thread nD τ) none) Set.univ (κ ⟨Scalar.xori (Scalar.remsi (Scalar.divsi (Dev.word c) 1#32) 8#32) 7#32, (Scalar.extui (Scalar.cmpi .ne (Scalar.remsi (Scalar.divsi (Dev.word c) 1#32) 8#32) 1#32) : BitVec 32)⟩) Q)
        -∗ wp frame (wpE defs 𝒱₀ (c : Thread nD τ) none) Set.univ (k0_part50 arg0 harg0 arg1 harg1 arg2 harg2 arg3 harg3 arg4 harg4 arg5 harg5 outM harg6 accM harg7 rssM harg8 rsrM harg9 cc0_scratch3 cc0_scratch4 cc0_scratch5 cc0_scratch6 c (Scalar.remsi (Scalar.divsi (Dev.word c) 1#32) 8#32) v1689 c1 >>= κ) Q) := by
  simp only [k0_part50_eq_skeleton, k0_part50_skel, Prog.bind_assoc, Prog.bind_op, Prog.bind_ret, Prog.lift, Prog.pure_eq_ret]
  iintro ⟨#HR, HO, W, N5, N6, A0, E0, A1, E1, A2, E2, A3, E3⟩ Hk
  iapply (ag_send P T K defs 𝒱₀ c 5 0 _ (dev21 c) _ (rows_of _ _ (off18 c) _) _ (rows_of _ _ (off18 c) _) _ (aS_of 5 _ rfl _) _ (aR_of 5 _ rfl _)) $$ [HO W N5]
  · isplitr; · iexact HR
    isplitl [HO]; · iexact HO
    isplitl [W]; · iexact W
    iexact N5
  iintro ⟨HO, W, C5⟩
  iapply (ag_send P T K defs 𝒱₀ c 6 0 _ (dev22 c) _ (rows_of _ _ (off18 c) _) _ (rows_of _ _ (off18 c) _) _ (aS_of 6 _ rfl _) _ (aR_of 6 _ rfl _)) $$ [HO W N6]
  · isplitr; · iexact HR
    isplitl [HO]; · iexact HO
    isplitl [W]; · iexact W
    iexact N6
  iintro ⟨HO, W, C6⟩
  ihave HO := (Entails.of_eq (congrArg (ow (F := F) c) (show oweFrom (owAg c) ((6 : Fin 7).val + 1) = 0 from oweFrom_end (owAg c)))) $$ HO
  iapply (wait_if P T K defs 𝒱₀ c 0 _ (owner_cond c 0 _ rfl) _ (sS_of 0 _ rfl _) _ _ (credit_N _)) $$ [HO A0 E0]
  · isplitr; · iexact HR
    isplitl [HO]; · iexact HO
    isplitl [A0]; · iexact A0
    iexact E0
  iintro ⟨HO, A0, E0⟩
  iapply (wait_if P T K defs 𝒱₀ c 1 _ (owner_cond c 1 _ rfl) _ (sS_of 1 _ rfl _) _ _ (credit_N _)) $$ [HO A1 E1]
  · isplitr; · iexact HR
    isplitl [HO]; · iexact HO
    isplitl [A1]; · iexact A1
    iexact E1
  iintro ⟨HO, A1, E1⟩
  iapply (wait_if P T K defs 𝒱₀ c 2 _ (owner_cond c 2 _ rfl) _ (sS_of 2 _ rfl _) _ _ (credit_N _)) $$ [HO A2 E2]
  · isplitr; · iexact HR
    isplitl [HO]; · iexact HO
    isplitl [A2]; · iexact A2
    iexact E2
  iintro ⟨HO, A2, E2⟩
  iapply (wait_if P T K defs 𝒱₀ c 3 _ (owner_cond c 3 _ rfl) _ (sS_of 3 _ rfl _) _ _ (credit_N _)) $$ [HO A3 E3]
  · isplitr; · iexact HR
    isplitl [HO]; · iexact HO
    isplitl [A3]; · iexact A3
    iexact E3
  iintro ⟨HO, A3, E3⟩
  iapply Hk
  isplitl [HO]; · iexact HO
  isplitl [W]; · iexact W
  isplitl [C5]; · iexact C5
  isplitl [C6]; · iexact C6
  isplitl [A0]; · iexact A0
  isplitl [E0]; · iexact E0
  isplitl [A1]; · iexact A1
  isplitl [E1]; · iexact E1
  isplitl [A2]; · iexact A2
  isplitl [E2]; · iexact E2
  isplitl [A3]; · iexact A3
  iexact E3

end

end Cert.KernelIdeal.Talk

end
-- ==== Proof.Quarter4.lean ====
module

public import proofs.«01_k».proof.Proof.Waits

/-!
The last block sent; the sums collected, stored and sent round; the waits.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Tactic

section
variable (P : Dev nD → Fin 8 → Blk F) (T : Dev nD → Blk F) (K : GSem nD τ sig → ℕ) (defs : Defs nD τ sig (Elt F) Λ₀) (𝒱₀ : Variants) {α : Type}
variable (arg0 : Memref sig .tc .vmem S2x512x768 .bf16) (harg0 : arg0.IsWhole)
  (arg1 : Memref sig .tc .vmem S768x512 .bf16) (harg1 : arg1.IsWhole)
  (arg2 : Memref sig .tc .vmem S2x8x512x64 .bf16) (harg2 : arg2.IsWhole)
  (arg3 : Memref sig .tc .vmem S2x8x512x64 .bf16) (harg3 : arg3.IsWhole)
  (arg4 : Memref sig .tc .vmem S512x768 .bf16) (harg4 : arg4.IsWhole)
  (arg5 : Memref sig .tc .vmem S512x512 .f32) (harg5 : arg5.IsWhole)
  (harg6 : outM.IsWhole) (harg7 : accM.IsWhole) (harg8 : rssM.IsWhole) (harg9 : rsrM.IsWhole)

variable (I : Ins F)

set_option maxRecDepth 65536 in
set_option maxHeartbeats 4000000 in
set_option pp.maxSteps 400 in
set_option sl_exec.resultNames true in
theorem quarter4 (c : Dev nD) (v : FVec F S2x64x768 .bf16) (hv : v = k0_pay131 (I.chunk 7)) (hP' : P c 7 = I.part 7)
    (hT : T c = k0_pay134 (k0_pay133 (I.chunk (rev c)) (unsq (P (pr c 0) (rev c))) (unsq (P (pr c 1) (rev c))) (unsq (P (pr c 2) (rev c)))
      (unsq (P (pr c 3) (rev c))) (unsq (P (pr c 4) (rev c)))) (unsq (P (pr c 5) (rev c))) (unsq (P (pr c 6) (rev c))))
    (κ : BitVec 32 → Prog (TpuEff nD τ sig (Elt F) Λ₀ .tc) α) (Q : α → sProp 𝕄) :
    iprop(recs P T K ∗ ow c (oweFrom (owRs c) 7 + oweFrom (owAg c) 0) ∗ accTo I c 512 ∗ any (rssSlot 7) c ∗ rsNeed c 7 ∗ any (rowsM (rev c)) c ∗ atPos ER (rsR c 0) 0 ∅ 0 ∗ cred (tallyAt (rsR c 0) () N) ∗ atPos ER (rsR c 1) 0 ∅ 0 ∗ cred (tallyAt (rsR c 1) () N) ∗ atPos ER (rsR c 2) 0 ∅ 0 ∗ cred (tallyAt (rsR c 2) () N) ∗ atPos ER (rsR c 3) 0 ∅ 0 ∗ cred (tallyAt (rsR c 3) () N) ∗ atPos ER (rsR c 4) 0 ∅ 0 ∗ cred (tallyAt (rsR c 4) () N) ∗ atPos ER (rsR c 5) 0 ∅ 0 ∗ cred (tallyAt (rsR c 5) () N) ∗ atPos ER (rsR c 6) 0 ∅ 0 ∗ cred (tallyAt (rsR c 6) () N) ∗ agNeed (F := F) c 0 ∗ agNeed (F := F) c 1 ∗ agNeed (F := F) c 2 ∗ agNeed (F := F) c 3 ∗ agNeed (F := F) c 4 ∗ agNeed (F := F) c 5 ∗ agNeed (F := F) c 6 ∗ atPos ER (rsS c 0) 0 ∅ 0 ∗ atPos ER (rsS c 1) 0 ∅ 0 ∗ atPos ER (rsS c 2) 0 ∅ 0 ∗ atPos ER (rsS c 3) 0 ∅ 0 ∗ atPos ER (rsS c 4) 0 ∅ 0 ∗ atPos ER (rsS c 5) 0 ∅ 0 ∗ atPos ER (rsS c 6) 0 ∅ 0 ∗ atPos ER (rsS c 7) 0 ∅ 0 ∗ rsLeft c 0 ∗ rsLeft c 1 ∗ rsLeft c 2 ∗ rsLeft c 3 ∗ rsLeft c 4 ∗ rsLeft c 5 ∗ rsLeft c 6 ∗ atPos ER (agS c 0) 0 ∅ 0 ∗ atPos ER (agS c 1) 0 ∅ 0 ∗ atPos ER (agS c 2) 0 ∅ 0 ∗ atPos ER (agS c 3) 0 ∅ 0 ∗ atPos ER (agS c 4) 0 ∅ 0 ∗ atPos ER (agS c 5) 0 ∅ 0 ∗ atPos ER (agS c 6) 0 ∅ 0 ∗ atPos ER (agR c 0) 0 ∅ 0 ∗ cred (tallyAt (agR c 0) () N) ∗ atPos ER (agR c 1) 0 ∅ 0 ∗ cred (tallyAt (agR c 1) () N) ∗ atPos ER (agR c 2) 0 ∅ 0 ∗ cred (tallyAt (agR c 2) () N) ∗ atPos ER (agR c 3) 0 ∅ 0 ∗ cred (tallyAt (agR c 3) () N) ∗ atPos ER (agR c 4) 0 ∅ 0 ∗ cred (tallyAt (agR c 4) () N))
      ⊢ iprop(((ow c 0 ∗ accTo I c 512 ∗ full (rowsM (rev c)) c (restSh 7) (T c) ∗ atPos ER (rsR c 0) 1 ∅ 0 ∗ full (rsrSlot 0) c fullShare (P (pr c 0) (rev c)) ∗ atPos ER (rsR c 1) 1 ∅ 0 ∗ full (rsrSlot 1) c fullShare (P (pr c 1) (rev c)) ∗ atPos ER (rsR c 2) 1 ∅ 0 ∗ full (rsrSlot 2) c fullShare (P (pr c 2) (rev c)) ∗ atPos ER (rsR c 3) 1 ∅ 0 ∗ full (rsrSlot 3) c fullShare (P (pr c 3) (rev c)) ∗ atPos ER (rsR c 4) 1 ∅ 0 ∗ full (rsrSlot 4) c fullShare (P (pr c 4) (rev c)) ∗ atPos ER (rsR c 5) 1 ∅ 0 ∗ full (rsrSlot 5) c fullShare (P (pr c 5) (rev c)) ∗ atPos ER (rsR c 6) 1 ∅ 0 ∗ full (rsrSlot 6) c fullShare (P (pr c 6) (rev c)) ∗ rsEnd c 0 ∗ any (rssSlot 0) c ∗ rsEnd c 1 ∗ any (rssSlot 1) c ∗ rsEnd c 2 ∗ any (rssSlot 2) c ∗ rsEnd c 3 ∗ any (rssSlot 3) c ∗ rsEnd c 4 ∗ any (rssSlot 4) c ∗ rsEnd c 5 ∗ any (rssSlot 5) c ∗ rsEnd c 6 ∗ any (rssSlot 6) c ∗ rsEnd c 7 ∗ any (rssSlot 7) c ∗ atPos ER (agS c 0) 1 ∅ 0 ∗ full (rowsM (rev c)) c (agSh 0) (T c) ∗ atPos ER (agS c 1) 1 ∅ 0 ∗ full (rowsM (rev c)) c (agSh 1) (T c) ∗ atPos ER (agS c 2) 1 ∅ 0 ∗ full (rowsM (rev c)) c (agSh 2) (T c) ∗ atPos ER (agS c 3) 1 ∅ 0 ∗ full (rowsM (rev c)) c (agSh 3) (T c) ∗ atPos ER (agS c 4) 1 ∅ 0 ∗ full (rowsM (rev c)) c (agSh 4) (T c) ∗ atPos ER (agS c 5) 1 ∅ 0 ∗ full (rowsM (rev c)) c (agSh 5) (T c) ∗ atPos ER (agS c 6) 1 ∅ 0 ∗ full (rowsM (rev c)) c (agSh 6) (T c) ∗ atPos ER (agR c 0) 1 ∅ 0 ∗ full (rowsM (rev (pr c 0))) c fullShare (T (pr c 0)) ∗ atPos ER (agR c 1) 1 ∅ 0 ∗ full (rowsM (rev (pr c 1))) c fullShare (T (pr c 1)) ∗ atPos ER (agR c 2) 1 ∅ 0 ∗ full (rowsM (rev (pr c 2))) c fullShare (T (pr c 2)) ∗ atPos ER (agR c 3) 1 ∅ 0 ∗ full (rowsM (rev (pr c 3))) c fullShare (T (pr c 3)) ∗ atPos ER (agR c 4) 1 ∅ 0 ∗ full (rowsM (rev (pr c 4))) c fullShare (T (pr c 4))) -∗ wp frame (wpE defs 𝒱₀ (c : Thread nD τ) none) Set.univ (κ (Scalar.xori (Scalar.remsi (Scalar.divsi (Dev.word c) 1#32) 8#32) 7#32)) Q)
        -∗ wp frame (wpE defs 𝒱₀ (c : Thread nD τ) none) Set.univ (q4 arg0 harg0 arg1 harg1 arg2 harg2 arg3 harg3 arg4 harg4 arg5 harg5 outM harg6 accM harg7 rssM harg8 rsrM harg9 cc0_scratch3 cc0_scratch4 cc0_scratch5 cc0_scratch6 c (Scalar.remsi (Scalar.divsi (Dev.word c) 1#32) 8#32) v κ) Q) := by
  have hP : P c 7 = sq (k0_pay132 v) := by rw [hP', hv]; rfl
  simp only [q4, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, Prog.bind_assoc, Prog.bind_op, Prog.bind_ret, Prog.lift, Prog.pure_eq_ret]
  iintro ⟨#HR, HO, ⟨%f7, %hf, H7⟩, S7, M7, W, G0, H0, G1, H1, G2, H2, G3, H3, G4, H4, G5, H5, G6, H6, N0, N1, N2, N3, N4, N5, N6, A0, A1, A2, A3, A4, A5, A6, A7, E0, E1, E2, E3, E4, E5, E6, B0, B1, B2, B3, B4, B5, B6, D0, F0, D1, F1, D2, F2, D3, F3, D4, F4⟩ Hk
  iapply (slot_put defs 𝒱₀ c 7 (P c 7) _ rfl _ _ (hP.symm)) $$ [S7]
  · iexact S7
  iintro S7
  iapply (send_if P T K defs 𝒱₀ c 7 (oweFrom (owAg c) 0) _ (cond8 c) _ (dev15 c) _ rfl _ (fun h => rsr_of _ _ (off16 c h) _)
    _ (sS_of 7 _ rfl _) _ (fun h => sR_of _ _ (off15 c h) _)) $$ [HO S7 M7]
  · isplitr; · iexact HR
    isplitl [HO]; · iexact HO
    isplitl [S7]; · iexact S7
    iexact M7
  iintro ⟨HO, E7⟩
  ihave HO := (Entails.of_eq (congrArg (ow (F := F) c) (show oweFrom (owRs c) ((7 : Fin 8).val + 1) + oweFrom (owAg c) 0 = oweFrom (owAg c) 0 by
    rw [show (7 : Fin 8).val + 1 = 8 from rfl, oweFrom_end, zero_add]))) $$ HO
  iapply (rsR_wait P T K defs 𝒱₀ c 0 _ (sR_of 0 _ rfl _) (oweFrom (owAg c) 0) (above_from _ _ (above_ag (by decide) c)) _ _ (credit_N _)) $$ [HO G0 H0]
  · isplitr; · iexact HR
    isplitl [HO]; · iexact HO
    isplitl [G0]; · iexact G0
    iexact H0
  iintro ⟨HO, G0, H0⟩
  iapply (rsR_wait P T K defs 𝒱₀ c 1 _ (sR_of 1 _ rfl _) (oweFrom (owAg c) 0) (above_from _ _ (above_ag (by decide) c)) _ _ (credit_N _)) $$ [HO G1 H1]
  · isplitr; · iexact HR
    isplitl [HO]; · iexact HO
    isplitl [G1]; · iexact G1
    iexact H1
  iintro ⟨HO, G1, H1⟩
  iapply (rsR_wait P T K defs 𝒱₀ c 2 _ (sR_of 2 _ rfl _) (oweFrom (owAg c) 0) (above_from _ _ (above_ag (by decide) c)) _ _ (credit_N _)) $$ [HO G2 H2]
  · isplitr; · iexact HR
    isplitl [HO]; · iexact HO
    isplitl [G2]; · iexact G2
    iexact H2
  iintro ⟨HO, G2, H2⟩
  iapply (rsR_wait P T K defs 𝒱₀ c 3 _ (sR_of 3 _ rfl _) (oweFrom (owAg c) 0) (above_from _ _ (above_ag (by decide) c)) _ _ (credit_N _)) $$ [HO G3 H3]
  · isplitr; · iexact HR
    isplitl [HO]; · iexact HO
    isplitl [G3]; · iexact G3
    iexact H3
  iintro ⟨HO, G3, H3⟩
  iapply (rsR_wait P T K defs 𝒱₀ c 4 _ (sR_of 4 _ rfl _) (oweFrom (owAg c) 0) (above_from _ _ (above_ag (by decide) c)) _ _ (credit_N _)) $$ [HO G4 H4]
  · isplitr; · iexact HR
    isplitl [HO]; · iexact HO
    isplitl [G4]; · iexact G4
    iexact H4
  iintro ⟨HO, G4, H4⟩
  iapply (rsR_wait P T K defs 𝒱₀ c 5 _ (sR_of 5 _ rfl _) (oweFrom (owAg c) 0) (above_from _ _ (above_ag (by decide) c)) _ _ (credit_N _)) $$ [HO G5 H5]
  · isplitr; · iexact HR
    isplitl [HO]; · iexact HO
    isplitl [G5]; · iexact G5
    iexact H5
  iintro ⟨HO, G5, H5⟩
  iapply (rsR_wait P T K defs 𝒱₀ c 6 _ (sR_of 6 _ rfl _) (oweFrom (owAg c) 0) (above_from _ _ (above_ag (by decide) c)) _ _ (credit_N _)) $$ [HO G6 H6]
  · isplitr; · iexact HR
    isplitl [HO]; · iexact HO
    isplitl [G6]; · iexact G6
    iexact H6
  iintro ⟨HO, G6, H6⟩
  sl_exec
  iapply (slot_get defs 𝒱₀ c 0 _ _ rfl _) $$ [H0]
  · iexact H0
  iintro H0
  iapply (slot_get defs 𝒱₀ c 1 _ _ rfl _) $$ [H1]
  · iexact H1
  iintro H1
  iapply (slot_get defs 𝒱₀ c 2 _ _ rfl _) $$ [H2]
  · iexact H2
  iintro H2
  iapply (slot_get defs 𝒱₀ c 3 _ _ rfl _) $$ [H3]
  · iexact H3
  iintro H3
  iapply (slot_get defs 𝒱₀ c 4 _ _ rfl _) $$ [H4]
  · iexact H4
  iintro H4
  iapply (slot_get defs 𝒱₀ c 5 _ _ rfl _) $$ [H5]
  · iexact H5
  iintro H5
  iapply (slot_get defs 𝒱₀ c 6 _ _ rfl _) $$ [H6]
  · iexact H6
  iintro H6
  iapply (rows_put defs 𝒱₀ c (rev c) _ (off17 c) _ _) $$ [W]
  · iexact W
  iintro W
  ihave W := (Entails.of_eq (congrArg (full (F := F) (rowsM (rev c)) c fullShare) (show _ = T c from (by
    rw [hT]
    refine congrArg (fun w => k0_pay134 (k0_pay133 w _ _ _ _ _) _ _) ?_
    sl_unfold_run_names
    exact chunk_upto I (rev c) 512 (by have := (rev c).isLt; omega) f7 hf _ (off17 c) _)))) $$ W
  iapply (ag_send P T K defs 𝒱₀ c 0 0 _ (dev16 c) _ (rows_of _ _ (off18 c) _) _ (rows_of _ _ (off18 c) _) _ (aS_of 0 _ rfl _) _ (aR_of 0 _ rfl _)) $$ [HO W N0]
  · isplitr; · iexact HR
    isplitl [HO]; · iexact HO
    isplitl [W]; · iexact W
    iexact N0
  iintro ⟨HO, W, C0⟩
  iapply (ag_send P T K defs 𝒱₀ c 1 0 _ (dev17 c) _ (rows_of _ _ (off18 c) _) _ (rows_of _ _ (off18 c) _) _ (aS_of 1 _ rfl _) _ (aR_of 1 _ rfl _)) $$ [HO W N1]
  · isplitr; · iexact HR
    isplitl [HO]; · iexact HO
    isplitl [W]; · iexact W
    iexact N1
  iintro ⟨HO, W, C1⟩
  iapply (ag_send P T K defs 𝒱₀ c 2 0 _ (dev18 c) _ (rows_of _ _ (off18 c) _) _ (rows_of _ _ (off18 c) _) _ (aS_of 2 _ rfl _) _ (aR_of 2 _ rfl _)) $$ [HO W N2]
  · isplitr; · iexact HR
    isplitl [HO]; · iexact HO
    isplitl [W]; · iexact W
    iexact N2
  iintro ⟨HO, W, C2⟩
  iapply (ag_send P T K defs 𝒱₀ c 3 0 _ (dev19 c) _ (rows_of _ _ (off18 c) _) _ (rows_of _ _ (off18 c) _) _ (aS_of 3 _ rfl _) _ (aR_of 3 _ rfl _)) $$ [HO W N3]
  · isplitr; · iexact HR
    isplitl [HO]; · iexact HO
    isplitl [W]; · iexact W
    iexact N3
  iintro ⟨HO, W, C3⟩
  iapply (ag_send P T K defs 𝒱₀ c 4 0 _ (dev20 c) _ (rows_of _ _ (off18 c) _) _ (rows_of _ _ (off18 c) _) _ (aS_of 4 _ rfl _) _ (aR_of 4 _ rfl _)) $$ [HO W N4]
  · isplitr; · iexact HR
    isplitl [HO]; · iexact HO
    isplitl [W]; · iexact W
    iexact N4
  iintro ⟨HO, W, C4⟩
  iapply (part50 P T K defs 𝒱₀ arg0 harg0 arg1 harg1 arg2 harg2 arg3 harg3 arg4 harg4 arg5 harg5 harg6 harg7 harg8 harg9 c _ _) $$ [HO W N5 N6 A0 E0 A1 E1 A2 E2 A3 E3]
  · isplitr; · iexact HR
    isplitl [HO]; · iexact HO
    isplitl [W]; · iexact W
    isplitl [N5]; · iexact N5
    isplitl [N6]; · iexact N6
    isplitl [A0]; · iexact A0
    isplitl [E0]; · iexact E0
    isplitl [A1]; · iexact A1
    isplitl [E1]; · iexact E1
    isplitl [A2]; · iexact A2
    isplitl [E2]; · iexact E2
    isplitl [A3]; · iexact A3
    iexact E3
  iintro ⟨HO, W, C5, C6, A0, E0, A1, E1, A2, E2, A3, E3⟩
  iapply (part51 P T K defs 𝒱₀ arg0 harg0 arg1 harg1 arg2 harg2 arg3 harg3 arg4 harg4 arg5 harg5 harg6 harg7 harg8 harg9 c ) $$ [HO A4 E4 A5 E5 A6 E6 A7 E7 B0 C0 B1 C1 B2 C2]
  · isplitr; · iexact HR
    isplitl [HO]; · iexact HO
    isplitl [A4]; · iexact A4
    isplitl [E4]; · iexact E4
    isplitl [A5]; · iexact A5
    isplitl [E5]; · iexact E5
    isplitl [A6]; · iexact A6
    isplitl [E6]; · iexact E6
    isplitl [A7]; · iexact A7
    isplitl [E7]; · iexact E7
    isplitl [B0]; · iexact B0
    isplitl [C0]; · iexact C0
    isplitl [B1]; · iexact B1
    isplitl [C1]; · iexact C1
    isplitl [B2]; · iexact B2
    iexact C2
  iintro ⟨HO, A4, E4, A5, E5, A6, E6, A7, E7, B0, C0, B1, C1, B2, C2⟩
  iapply (part52 P T K defs 𝒱₀ arg0 harg0 arg1 harg1 arg2 harg2 arg3 harg3 arg4 harg4 arg5 harg5 harg6 harg7 harg8 harg9 c _) $$ [HO B3 C3 B4 C4 B5 C5 B6 C6 D0 F0]
  · isplitr; · iexact HR
    isplitl [HO]; · iexact HO
    isplitl [B3]; · iexact B3
    isplitl [C3]; · iexact C3
    isplitl [B4]; · iexact B4
    isplitl [C4]; · iexact C4
    isplitl [B5]; · iexact B5
    isplitl [C5]; · iexact C5
    isplitl [B6]; · iexact B6
    isplitl [C6]; · iexact C6
    isplitl [D0]; · iexact D0
    iexact F0
  iintro ⟨HO, B3, C3, B4, C4, B5, C5, B6, C6, D0, F0⟩
  iapply (part53 P T K defs 𝒱₀ arg0 harg0 arg1 harg1 arg2 harg2 arg3 harg3 arg4 harg4 arg5 harg5 harg6 harg7 harg8 harg9 c _ _ _ _) $$ [HO D1 F1 D2 F2 D3 F3 D4 F4]
  · isplitr; · iexact HR
    isplitl [HO]; · iexact HO
    isplitl [D1]; · iexact D1
    isplitl [F1]; · iexact F1
    isplitl [D2]; · iexact D2
    isplitl [F2]; · iexact F2
    isplitl [D3]; · iexact D3
    isplitl [F3]; · iexact F3
    isplitl [D4]; · iexact D4
    iexact F4
  iintro ⟨HO, D1, F1, D2, F2, D3, F3, D4, F4⟩
  iapply Hk
  isplitl [HO]; · iexact HO
  isplitl [H7]
  · iexists f7
    isplitr [H7]; · ipureintro; exact hf
    iexact H7
  isplitl [W]; · iexact W
  isplitl [G0]; · iexact G0
  isplitl [H0]; · iexact H0
  isplitl [G1]; · iexact G1
  isplitl [H1]; · iexact H1
  isplitl [G2]; · iexact G2
  isplitl [H2]; · iexact H2
  isplitl [G3]; · iexact G3
  isplitl [H3]; · iexact H3
  isplitl [G4]; · iexact G4
  isplitl [H4]; · iexact H4
  isplitl [G5]; · iexact G5
  isplitl [H5]; · iexact H5
  isplitl [G6]; · iexact G6
  isplitl [H6]; · iexact H6
  isplitl [A0]; · iexact A0
  isplitl [E0]; · iexact E0
  isplitl [A1]; · iexact A1
  isplitl [E1]; · iexact E1
  isplitl [A2]; · iexact A2
  isplitl [E2]; · iexact E2
  isplitl [A3]; · iexact A3
  isplitl [E3]; · iexact E3
  isplitl [A4]; · iexact A4
  isplitl [E4]; · iexact E4
  isplitl [A5]; · iexact A5
  isplitl [E5]; · iexact E5
  isplitl [A6]; · iexact A6
  isplitl [E6]; · iexact E6
  isplitl [A7]; · iexact A7
  isplitl [E7]; · iexact E7
  isplitl [B0]; · iexact B0
  isplitl [C0]; · iexact C0
  isplitl [B1]; · iexact B1
  isplitl [C1]; · iexact C1
  isplitl [B2]; · iexact B2
  isplitl [C2]; · iexact C2
  isplitl [B3]; · iexact B3
  isplitl [C3]; · iexact C3
  isplitl [B4]; · iexact B4
  isplitl [C4]; · iexact C4
  isplitl [B5]; · iexact B5
  isplitl [C5]; · iexact C5
  isplitl [B6]; · iexact B6
  isplitl [C6]; · iexact C6
  isplitl [D0]; · iexact D0
  isplitl [F0]; · iexact F0
  isplitl [D1]; · iexact D1
  isplitl [F1]; · iexact F1
  isplitl [D2]; · iexact D2
  isplitl [F2]; · iexact F2
  isplitl [D3]; · iexact D3
  isplitl [F3]; · iexact F3
  isplitl [D4]; · iexact D4
  iexact F4

end

end Cert.KernelIdeal.Talk

end
-- ==== Proof.Body.lean ====
module

public import proofs.«01_k».proof.Proof.Quarter0
public import proofs.«01_k».proof.Proof.Quarter1
public import proofs.«01_k».proof.Proof.Quarter2
public import proofs.«01_k».proof.Proof.Quarter3
public import proofs.«01_k».proof.Proof.Quarter4

/-!
The whole body of a device.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Tactic

section
variable (P : Dev nD → Fin 8 → Blk F) (T : Dev nD → Blk F) (K : GSem nD τ sig → ℕ) (defs : Defs nD τ sig (Elt F) Λ₀) (𝒱₀ : Variants) {α : Type}
variable (arg0 : Memref sig .tc .vmem S2x512x768 .bf16) (harg0 : arg0.IsWhole)
  (arg1 : Memref sig .tc .vmem S768x512 .bf16) (harg1 : arg1.IsWhole)
  (arg2 : Memref sig .tc .vmem S2x8x512x64 .bf16) (harg2 : arg2.IsWhole)
  (arg3 : Memref sig .tc .vmem S2x8x512x64 .bf16) (harg3 : arg3.IsWhole)
  (arg4 : Memref sig .tc .vmem S512x768 .bf16) (harg4 : arg4.IsWhole)
  (arg5 : Memref sig .tc .vmem S512x512 .f32) (harg5 : arg5.IsWhole)
  (harg6 : outM.IsWhole) (harg7 : accM.IsWhole) (harg8 : rssM.IsWhole) (harg9 : rsrM.IsWhole)

/-- The rows a device holds at the end, its own and its partners'. -/
theorem rows_all (T : Dev nD → Blk F) (c : Dev nD) : (iprop(full (rowsM (rev c)) c fullShare (T c) ∗ bigSep Finset.univ fun k : Fin 7 => full (rowsM (rev (pr c k))) c fullShare (T (pr c k))) : sProp 𝕄)
    ⊢ bigSep Finset.univ fun k : Fin 8 => full (rowsM k) c fullShare (T (rev k)) := by
  rw [eight_split c (fun k : Fin 8 => full (rowsM k) c fullShare (T (rev k)))]
  simp only [rev_rev]
  exact .rfl

/-- What a device's rows come to: its own sums and the partners' rounded ones. -/
def totalOf (own : FVec F S2x64x768 .f32) (got : Fin 7 → Blk F) : Blk F :=
  k0_pay134 (k0_pay133 own (unsq (got 0)) (unsq (got 1)) (unsq (got 2)) (unsq (got 3)) (unsq (got 4))) (unsq (got 5)) (unsq (got 6))

set_option maxRecDepth 65536 in
set_option maxHeartbeats 4000000 in
set_option pp.maxSteps 400 in
theorem body_talk (c : Dev nD) (q : PosShare TreeShare) (f0) (f1) (f2) (f3) (f4) (f5) (hP : ∀ ch, P c ch = (insOf arg0 arg1 arg2 arg3 arg4 arg5 f0 f1 f2 f3 f4 f5).part ch)
    (hT : T c = totalOf ((insOf arg0 arg1 arg2 arg3 arg4 arg5 f0 f1 f2 f3 f4 f5).chunk (rev c)) fun k => P (pr c k) (rev c)) (Q : PUnit → sProp 𝕄) :
    iprop(recs P T K ∗ ow c (O₀ c) ∗ inps arg0 arg1 arg2 arg3 arg4 arg5 c q f0 f1 f2 f3 f4 f5 ∗ (∃ f : Buf (Elt F) (accM.view.loc (c : Thread nD τ)), hld accM c fullShare f) ∗ bigSep Finset.univ (lend (F := F) c) ∗ atPos ER (barCell c) 0 ∅ 0 ∗ cred (tallyAt (barCell c) () 7) ∗ (bigSep Finset.univ fun k : Fin 7 => iprop(toksRs c k ∗ toksAg c k)) ∗ (bigSep Finset.univ fun k : Fin 8 => iprop(any (rssSlot k) c)) ∗ any (rowsM (rev c)) c ∗ (bigSep Finset.univ fun k : Fin 7 => iprop(atPos ER (rsR c k) 0 ∅ 0 ∗ cred (tallyAt (rsR c k) () N))) ∗ (bigSep Finset.univ fun k : Fin 8 => iprop(atPos ER (rsS c k) 0 ∅ 0)) ∗ (bigSep Finset.univ fun k : Fin 7 => iprop(atPos ER (agS c k) 0 ∅ 0)) ∗ (bigSep Finset.univ fun k : Fin 7 => iprop(atPos ER (agR c k) 0 ∅ 0 ∗ cred (tallyAt (agR c k) () N))))
      ⊢ iprop(((ow c 0 ∗ inps arg0 arg1 arg2 arg3 arg4 arg5 c q f0 f1 f2 f3 f4 f5 ∗ (∃ f : Buf (Elt F) (accM.view.loc (c : Thread nD τ)), hld accM c fullShare f) ∗ (bigSep Finset.univ fun k : Fin 8 => iprop(any (rssSlot k) c)) ∗ (bigSep Finset.univ fun k : Fin 7 => iprop(any (rsrSlot k) c)) ∗ (bigSep Finset.univ fun k : Fin 8 => iprop(full (rowsM k) c fullShare (T (rev k)))) ∗ atPos ER (barCell c) 1 ∅ 0 ∗ (bigSep Finset.univ fun k : Fin 7 => iprop(atPos ER (rsR c k) 1 ∅ 0)) ∗ (bigSep Finset.univ fun k : Fin 8 => iprop(rsEnd c k)) ∗ (bigSep Finset.univ fun k : Fin 7 => iprop(atPos ER (agS c k) 1 ∅ 0)) ∗ (bigSep Finset.univ fun k : Fin 7 => iprop(atPos ER (agR c k) 1 ∅ 0))) -∗ Q ⟨⟩)
        -∗ wp frame (wpE defs 𝒱₀ (c : Thread nD τ) none) Set.univ (cc0_body arg0 harg0 arg1 harg1 arg2 harg2 arg3 harg3 arg4 harg4 arg5 harg5 outM harg6 accM harg7 rssM harg8 rsrM harg9 cc0_scratch3 cc0_scratch4 cc0_scratch5 cc0_scratch6) Q) := by
  rw [cc0_body_eq_skeleton]
  unfold cc0_body_skel
  rw [body_cut, wp_bind]
  simp only [Prog.bind_assoc, Prog.bind_op, Prog.bind_ret, Prog.lift, Prog.pure_eq_ret]
  iintro ⟨#HR, HO, HI, ⟨%f7, H7⟩, HL, HB, HC, HT, HS, W, HG, HA, HBs, HD⟩ Hk
  ihave HS := (Entails.of_eq (eight _)) $$ HS
  icases HS with ⟨S0, S1, S2, S3, S4, S5, S6, S7⟩
  ihave HG := (Entails.of_eq (seven _)) $$ HG
  icases HG with ⟨⟨G0, H0x⟩, ⟨G1, H1x⟩, ⟨G2, H2x⟩, ⟨G3, H3x⟩, ⟨G4, H4x⟩, ⟨G5, H5x⟩, ⟨G6, H6x⟩⟩
  ihave HA := (Entails.of_eq (eight _)) $$ HA
  icases HA with ⟨A0, A1, A2, A3, A4, A5, A6, A7⟩
  ihave HBs := (Entails.of_eq (seven _)) $$ HBs
  icases HBs with ⟨B0, B1, B2, B3, B4, B5, B6⟩
  ihave HD := (Entails.of_eq (seven _)) $$ HD
  icases HD with ⟨⟨D0, F0⟩, ⟨D1, F1⟩, ⟨D2, F2⟩, ⟨D3, F3⟩, ⟨D4, F4⟩, ⟨D5, F5⟩, ⟨D6, F6⟩⟩
  ihave HI0 : iprop(accTo (insOf arg0 arg1 arg2 arg3 arg4 arg5 f0 f1 f2 f3 f4 f5) c 0) $$ [H7]
  · iexists f7
    isplitr [H7]; · ipureintro; exact fun i hi => absurd hi (Nat.not_lt_zero _)
    iexact H7
  iapply (quarter0 P T K defs 𝒱₀ arg0 harg0 arg1 harg1 arg2 harg2 arg3 harg3 arg4 harg4 arg5 harg5 harg6 harg7 harg8 harg9 c q f0 f1 f2 f3 f4 f5 hP) $$ [HO HI HI0 HL HB HC HT S0 S1]
  · isplitr; · iexact HR
    isplitl [HO]; · iexact HO
    isplitl [HI]; · iexact HI
    isplitl [HI0]; · iexact HI0
    isplitl [HL]; · iexact HL
    isplitl [HB]; · iexact HB
    isplitl [HC]; · iexact HC
    isplitl [HT]; · iexact HT
    isplitl [S0]; · iexact S0
    iexact S1
  iintro ⟨HO, HI, HI0, HB, HN, E0, E1, M2, M3, M4, M5, M6, M7⟩
  iapply (quarter1 P T K defs 𝒱₀ arg0 harg0 arg1 harg1 arg2 harg2 arg3 harg3 arg4 harg4 arg5 harg5 harg6 harg7 harg8 harg9 c q f0 f1 f2 f3 f4 f5 hP) $$ [HO HI HI0 S2 S3 M2 M3]
  · isplitr; · iexact HR
    isplitl [HO]; · iexact HO
    isplitl [HI]; · iexact HI
    isplitl [HI0]; · iexact HI0
    isplitl [S2]; · iexact S2
    isplitl [S3]; · iexact S3
    isplitl [M2]; · iexact M2
    iexact M3
  iintro ⟨HO, HI, HI0, E2, E3⟩
  iapply (quarter2 P T K defs 𝒱₀ arg0 harg0 arg1 harg1 arg2 harg2 arg3 harg3 arg4 harg4 arg5 harg5 harg6 harg7 harg8 harg9 c q f0 f1 f2 f3 f4 f5 hP) $$ [HO HI HI0 S4 S5 M4 M5]
  · isplitr; · iexact HR
    isplitl [HO]; · iexact HO
    isplitl [HI]; · iexact HI
    isplitl [HI0]; · iexact HI0
    isplitl [S4]; · iexact S4
    isplitl [S5]; · iexact S5
    isplitl [M4]; · iexact M4
    iexact M5
  iintro ⟨HO, HI, HI0, E4, E5⟩
  iapply (quarter3 P T K defs 𝒱₀ arg0 harg0 arg1 harg1 arg2 harg2 arg3 harg3 arg4 harg4 arg5 harg5 harg6 harg7 harg8 harg9 c q f0 f1 f2 f3 f4 f5 hP) $$ [HO HI HI0 S6 M6]
  · isplitr; · iexact HR
    isplitl [HO]; · iexact HO
    isplitl [HI]; · iexact HI
    isplitl [HI0]; · iexact HI0
    isplitl [S6]; · iexact S6
    iexact M6
  iintro %v ⟨HO, HI, HI0, %hv, E6⟩
  ihave HN := (Entails.of_eq (seven _)) $$ HN
  icases HN with ⟨N0, N1, N2, N3, N4, N5, N6⟩
  iapply (quarter4 P T K defs 𝒱₀ arg0 harg0 arg1 harg1 arg2 harg2 arg3 harg3 arg4 harg4 arg5 harg5 harg6 harg7 harg8 harg9 (insOf arg0 arg1 arg2 arg3 arg4 arg5 f0 f1 f2 f3 f4 f5) c v hv (hP 7) hT) $$ [HO HI0 S7 M7 W G0 H0x G1 H1x G2 H2x G3 H3x G4 H4x G5 H5x G6 H6x N0 N1 N2 N3 N4 N5 N6 A0 A1 A2 A3 A4 A5 A6 A7 E0 E1 E2 E3 E4 E5 E6 B0 B1 B2 B3 B4 B5 B6 D0 F0 D1 F1 D2 F2 D3 F3 D4 F4]
  · isplitr; · iexact HR
    isplitl [HO]; · iexact HO
    isplitl [HI0]; · iexact HI0
    isplitl [S7]; · iexact S7
    isplitl [M7]; · iexact M7
    isplitl [W]; · iexact W
    isplitl [G0]; · iexact G0
    isplitl [H0x]; · iexact H0x
    isplitl [G1]; · iexact G1
    isplitl [H1x]; · iexact H1x
    isplitl [G2]; · iexact G2
    isplitl [H2x]; · iexact H2x
    isplitl [G3]; · iexact G3
    isplitl [H3x]; · iexact H3x
    isplitl [G4]; · iexact G4
    isplitl [H4x]; · iexact H4x
    isplitl [G5]; · iexact G5
    isplitl [H5x]; · iexact H5x
    isplitl [G6]; · iexact G6
    isplitl [H6x]; · iexact H6x
    isplitl [N0]; · iexact N0
    isplitl [N1]; · iexact N1
    isplitl [N2]; · iexact N2
    isplitl [N3]; · iexact N3
    isplitl [N4]; · iexact N4
    isplitl [N5]; · iexact N5
    isplitl [N6]; · iexact N6
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [E0]; · iexact E0
    isplitl [E1]; · iexact E1
    isplitl [E2]; · iexact E2
    isplitl [E3]; · iexact E3
    isplitl [E4]; · iexact E4
    isplitl [E5]; · iexact E5
    isplitl [E6]; · iexact E6
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [D0]; · iexact D0
    isplitl [F0]; · iexact F0
    isplitl [D1]; · iexact D1
    isplitl [F1]; · iexact F1
    isplitl [D2]; · iexact D2
    isplitl [F2]; · iexact F2
    isplitl [D3]; · iexact D3
    isplitl [F3]; · iexact F3
    isplitl [D4]; · iexact D4
    iexact F4
  iintro ⟨HO, HI0, W, G0, H0x, G1, H1x, G2, H2x, G3, H3x, G4, H4x, G5, H5x, G6, H6x, A0, S0, A1, S1, A2, S2, A3, S3, A4, S4, A5, S5, A6, S6, A7, S7, B0, C0, B1, C1, B2, C2, B3, C3, B4, C4, B5, C5, B6, C6, D0, F0, D1, F1, D2, F2, D3, F3, D4, F4⟩
  iapply (le_wp_ret _ _ _ _ _)
  iapply (agR_wait P T K defs 𝒱₀ c 5 _ (aR_of 5 _ rfl _) _ _ (credit_N _)) $$ [HO D5 F5]
  · isplitr; · iexact HR
    isplitl [HO]; · iexact HO
    isplitl [D5]; · iexact D5
    iexact F5
  iintro ⟨HO, D5, F5⟩
  iapply (agR_wait P T K defs 𝒱₀ c 6 _ (aR_of 6 _ rfl _) _ _ (credit_N _)) $$ [HO D6 F6]
  · isplitr; · iexact HR
    isplitl [HO]; · iexact HO
    isplitl [D6]; · iexact D6
    iexact F6
  iintro ⟨HO, D6, F6⟩
  ihave W := (full_paste (rowsM (rev c)) c (restSh 6) (T c) (T c)) $$ [C6 W]
  · isplitl [C6]; · iexact C6
    iexact W
  ihave W := (full_paste (rowsM (rev c)) c (restSh 5) (T c) (T c)) $$ [C5 W]
  · isplitl [C5]; · iexact C5
    iexact W
  ihave W := (full_paste (rowsM (rev c)) c (restSh 4) (T c) (T c)) $$ [C4 W]
  · isplitl [C4]; · iexact C4
    iexact W
  ihave W := (full_paste (rowsM (rev c)) c (restSh 3) (T c) (T c)) $$ [C3 W]
  · isplitl [C3]; · iexact C3
    iexact W
  ihave W := (full_paste (rowsM (rev c)) c (restSh 2) (T c) (T c)) $$ [C2 W]
  · isplitl [C2]; · iexact C2
    iexact W
  ihave W := (full_paste (rowsM (rev c)) c (restSh 1) (T c) (T c)) $$ [C1 W]
  · isplitl [C1]; · iexact C1
    iexact W
  ihave W := (full_paste (rowsM (rev c)) c (restSh 0) (T c) (T c)) $$ [C0 W]
  · isplitl [C0]; · iexact C0
    iexact W
  iapply (le_wp_ret _ _ _ _ _)
  iapply Hk
  isplitl [HO]; · iexact HO
  isplitl [HI]; · iexact HI
  isplitl [HI0]
  · icases HI0 with ⟨%f7', -, H7⟩
    iexists f7'; iexact H7
  isplitl [S0 S1 S2 S3 S4 S5 S6 S7]
  · iapply (Entails.of_eq (eight _).symm)
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [H0x H1x H2x H3x H4x H5x H6x]
  · iapply (Entails.of_eq (seven _).symm)
    isplitl [H0x]; · iapply (full_any (rsrSlot 0) c _); iexact H0x
    isplitl [H1x]; · iapply (full_any (rsrSlot 1) c _); iexact H1x
    isplitl [H2x]; · iapply (full_any (rsrSlot 2) c _); iexact H2x
    isplitl [H3x]; · iapply (full_any (rsrSlot 3) c _); iexact H3x
    isplitl [H4x]; · iapply (full_any (rsrSlot 4) c _); iexact H4x
    isplitl [H5x]; · iapply (full_any (rsrSlot 5) c _); iexact H5x
    iapply (full_any (rsrSlot 6) c _); iexact H6x
  isplitl [W F0 F1 F2 F3 F4 F5 F6]
  · iapply (rows_all T c)
    isplitl [W]; · iexact W
    iapply (Entails.of_eq (seven _).symm)
    isplitl [F0]; · iexact F0
    isplitl [F1]; · iexact F1
    isplitl [F2]; · iexact F2
    isplitl [F3]; · iexact F3
    isplitl [F4]; · iexact F4
    isplitl [F5]; · iexact F5
    iexact F6
  isplitl [HB]; · iexact HB
  isplitl [G0 G1 G2 G3 G4 G5 G6]
  · iapply (Entails.of_eq (seven _).symm)
    isplitl [G0]; · iexact G0
    isplitl [G1]; · iexact G1
    isplitl [G2]; · iexact G2
    isplitl [G3]; · iexact G3
    isplitl [G4]; · iexact G4
    isplitl [G5]; · iexact G5
    iexact G6
  isplitl [A0 A1 A2 A3 A4 A5 A6 A7]
  · iapply (Entails.of_eq (eight _).symm)
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [B0 B1 B2 B3 B4 B5 B6]
  · iapply (Entails.of_eq (seven _).symm)
    isplitl [B0]; · iexact B0
    isplitl [B1]; · iexact B1
    isplitl [B2]; · iexact B2
    isplitl [B3]; · iexact B3
    isplitl [B4]; · iexact B4
    isplitl [B5]; · iexact B5
    iexact B6
  iapply (Entails.of_eq (seven _).symm)
  isplitl [D0]; · iexact D0
  isplitl [D1]; · iexact D1
  isplitl [D2]; · iexact D2
  isplitl [D3]; · iexact D3
  isplitl [D4]; · iexact D4
  isplitl [D5]; · iexact D5
  iexact D6

end

end Cert.KernelIdeal.Talk

end
-- ==== Proof.Split.lean ====
module

public import proofs.«01_k».proof.Proof.Slots
public import Idealize.ShloMosaic.Lib.Ring
public import Idealize.ShloMosaic.Lib.Pointwise.Index

/-!
The buffers of the talk cut into the blocks that its copies move, and put together again.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem rss_rect (k : Fin 8) : (rssSlot k).view.set = (rssR k).set := (rss_set k).symm.trans (View.set_slice_whole _ _)
theorem rsr_rect (k : Fin 7) : (rsrSlot k).view.set = (rsrR k).set := (rsr_set k).symm.trans (View.set_slice_whole _ _)
theorem rows_rect (k : Fin 8) : (rowsM k).view.set = (rowR k).set := View.set_slice_whole _ _

abbrev rssI (k : Fin 8) : Finset S8x2x64x768.Idx := (rssSlot k).view.set
abbrev rsrI (k : Fin 7) : Finset S7x2x64x768.Idx := (rsrSlot k).view.set
abbrev rowsI (k : Fin 8) : Finset S2x512x768.Idx := (rowsM k).view.set

theorem rss_apart (k k' : Fin 8) (h : k ≠ k') : Disjoint (rssSlot k).view.set (rssSlot k').view.set := by
  rw [rss_rect, rss_rect]
  exact Ring.lead_disjoint (s := S8x2x64x768) 0 1 (fun k : Fin 8 => ![k.val, 0, 0, 0]) S1x2x64x768.size rss_inb (fun b => by simp) rfl k k' h
theorem rsr_apart (k k' : Fin 7) (h : k ≠ k') : Disjoint (rsrSlot k).view.set (rsrSlot k').view.set := by
  rw [rsr_rect, rsr_rect]
  exact Ring.lead_disjoint (s := S7x2x64x768) 0 1 (fun k : Fin 7 => ![k.val, 0, 0, 0]) S1x2x64x768.size rsr_inb (fun b => by simp) rfl k k' h
theorem rows_apart (k k' : Fin 8) (h : k ≠ k') : Disjoint (rowsM k).view.set (rowsM k').view.set := by
  rw [rows_rect, rows_rect]
  exact Ring.lead_disjoint (s := S2x512x768) 1 64 (fun k : Fin 8 => ![0, 64 * k.val, 0]) S2x64x768.size row_inb (fun b => by simp) rfl k k' h

theorem rss_cover : Finset.univ.biUnion rssI = Finset.univ := by
  rw [show rssI = fun k => (rssR k).set from funext rss_rect]
  exact Ring.lead_cover (s := S8x2x64x768) 0 1 (fun k : Fin 8 => ![k.val, 0, 0, 0]) S1x2x64x768.size rss_inb (fun b => by simp)
    (fun b a h => by fin_cases a <;> first | rfl | exact absurd rfl h) rfl (fun a h => by fin_cases a <;> first | rfl | exact absurd rfl h) rfl
theorem rsr_cover : Finset.univ.biUnion rsrI = Finset.univ := by
  rw [show rsrI = fun k => (rsrR k).set from funext rsr_rect]
  exact Ring.lead_cover (s := S7x2x64x768) 0 1 (fun k : Fin 7 => ![k.val, 0, 0, 0]) S1x2x64x768.size rsr_inb (fun b => by simp)
    (fun b a h => by fin_cases a <;> first | rfl | exact absurd rfl h) rfl (fun a h => by fin_cases a <;> first | rfl | exact absurd rfl h) rfl
theorem rows_cover : Finset.univ.biUnion rowsI = Finset.univ := by
  rw [show rowsI = fun k => (rowR k).set from funext rows_rect]
  exact Ring.lead_cover (s := S2x512x768) 1 64 (fun k : Fin 8 => ![0, 64 * k.val, 0]) S2x64x768.size row_inb (fun b => by simp)
    (fun b a h => by fin_cases a <;> first | rfl | exact absurd rfl h) rfl (fun a h => by fin_cases a <;> first | rfl | exact absurd rfl h) rfl

variable (c : Dev nD)

theorem any_intro (M : Memref sig .tc .vmem S2x64x768 .bf16) (f : Buf (Elt F) (M.view.loc (c : Thread nD τ))) :
    (M.view.loc (c : Thread nD τ) ↦[M.view.set]{fullShare} f : sProp 𝕄) ⊢ any M c := by
  unfold any; iintro H; iexists f; iexact H

theorem rss_split : (iprop(∃ f : Buf (Elt F) ((c : Thread nD τ).loc cc0_scratch1), ((c : Thread nD τ).loc cc0_scratch1) ↦{fullShare} f) : sProp 𝕄)
    ⊢ bigSep Finset.univ fun k : Fin 8 => any (rssSlot k) c := by
  refine Laws.exists_elim fun f => ?_
  rw [Ring.pointsTo_blocks (ℓ := (c : Thread nD τ).loc cc0_scratch1) rssI rss_apart rss_cover f]
  exact bigSep_mono fun k _ => any_intro c (rssSlot k) f

theorem rsr_split : (iprop(∃ f : Buf (Elt F) ((c : Thread nD τ).loc cc0_scratch2), ((c : Thread nD τ).loc cc0_scratch2) ↦{fullShare} f) : sProp 𝕄)
    ⊢ bigSep Finset.univ fun k : Fin 7 => any (rsrSlot k) c := by
  refine Laws.exists_elim fun f => ?_
  rw [Ring.pointsTo_blocks (ℓ := (c : Thread nD τ).loc cc0_scratch2) rsrI rsr_apart rsr_cover f]
  exact bigSep_mono fun k _ => any_intro c (rsrSlot k) f

theorem rows_split (f : Buf (Elt F) ((c : Thread nD τ).loc cc0_stg6_0)) : (((c : Thread nD τ).loc cc0_stg6_0) ↦{fullShare} f : sProp 𝕄)
    ⊢ bigSep Finset.univ fun k : Fin 8 => any (rowsM k) c := by
  rw [Ring.pointsTo_blocks (ℓ := (c : Thread nD τ).loc cc0_stg6_0) rowsI rows_apart rows_cover f]
  exact bigSep_mono fun k _ => any_intro c (rowsM k) f

theorem rss_join [∀ e, Nonempty (Elt F e)] : (bigSep Finset.univ fun k : Fin 8 => any (F := F) (rssSlot k) c)
    ⊢ (iprop(∃ f : Buf (Elt F) ((c : Thread nD τ).loc cc0_scratch1), ((c : Thread nD τ).loc cc0_scratch1) ↦{fullShare} f) : sProp 𝕄) :=
  Ring.pointsTo_blocks_join_exists (ℓ := (c : Thread nD τ).loc cc0_scratch1) rssI rss_apart rss_cover
    (fun _ => Classical.arbitrary _)

theorem rsr_join [∀ e, Nonempty (Elt F e)] : (bigSep Finset.univ fun k : Fin 7 => any (F := F) (rsrSlot k) c)
    ⊢ (iprop(∃ f : Buf (Elt F) ((c : Thread nD τ).loc cc0_scratch2), ((c : Thread nD τ).loc cc0_scratch2) ↦{fullShare} f) : sProp 𝕄) :=
  Ring.pointsTo_blocks_join_exists (ℓ := (c : Thread nD τ).loc cc0_scratch2) rsrI rsr_apart rsr_cover
    (fun _ => Classical.arbitrary _)

/-- Which block a row is in, and where in it. -/
def inBlk (i : S2x512x768.Idx) : S2x64x768.Idx :=
  ix3 (n0 := 2) (n1 := 64) (n2 := 768) (i 0) ⟨(i 1).val % 64, Nat.mod_lt _ (by decide)⟩ (i 2)
def blkNo (i : S2x512x768.Idx) : Fin 8 := ⟨(i 1).val / 64, Nat.div_lt_of_lt_mul (i 1).isLt⟩

/-- The array whose blocks of rows are `t`. -/
def stack (t : Fin 8 → Blk F) : S2x512x768.Idx → Elt F .bf16 := fun i => t (blkNo i) (inBlk i)

theorem blkNo_emb (k : Fin 8) (j : S2x64x768.Idx) : blkNo ((rowR k).emb j) = k := by
  apply Fin.ext
  show (64 * k.val + 1 * (j 1).val) / 64 = k.val
  have : (j 1).val < 64 := (j 1).isLt
  omega
theorem inBlk_emb (k : Fin 8) (j : S2x64x768.Idx) : inBlk ((rowR k).emb j) = j := by
  funext a
  apply Fin.ext
  fin_cases a
  · show 0 + 1 * (j 0).val = (j 0).val; omega
  · show (64 * k.val + 1 * (j 1).val) % 64 = (j 1).val
    have : (j 1).val < 64 := (j 1).isLt
    omega
  · show 0 + 1 * (j 2).val = (j 2).val; omega

theorem rows_block (t : Fin 8 → Blk F) (k : Fin 8) : full (rowsM k) c fullShare (t k)
    ⊢ (((c : Thread nD τ).loc cc0_stg6_0) ↦[rowsI k]{fullShare} (stack t) : sProp 𝕄) := by
  unfold full
  iintro ⟨%f, %hf, H⟩
  iapply (Entails.of_eq (pointsTo_congr (f := f) (g := stack t) fun i hi => by
    obtain ⟨j, -, rfl⟩ := Finset.mem_map.mp hi
    have h := congrFun hf j
    show f ((rowR k).emb j) = t (blkNo ((rowR k).emb j)) (inBlk ((rowR k).emb j))
    rw [blkNo_emb, inBlk_emb, ← h]; rfl))
  iexact H

theorem rows_join (t : Fin 8 → Blk F) : (bigSep Finset.univ fun k : Fin 8 => full (rowsM k) c fullShare (t k))
    ⊢ (((c : Thread nD τ).loc cc0_stg6_0) ↦{fullShare} (stack t) : sProp 𝕄) := by
  rw [Ring.pointsTo_blocks (ℓ := (c : Thread nD τ).loc cc0_stg6_0) rowsI rows_apart rows_cover (stack t)]
  exact bigSep_mono fun k _ => rows_block c t k

end Cert.KernelIdeal.Talk

end
-- ==== Proof.Deal.lean ====
module

public import proofs.«01_k».proof.Proof.Need
public import Idealize.ShloMosaic.Lib.Pipeline.Kit

/-!
What the launch deals to the devices: the credits, the tokens of the duties that each pays, and the right to open its semaphores.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Sums around the machine -/

/-- A step to partner `k` and the same step back. -/
def stepE : Dev nD × Fin 7 ≃ Dev nD × Fin 7 :=
  ⟨fun p => (pr p.1 p.2, p.2), fun p => (pr p.1 p.2, p.2), fun p => Prod.ext (pr_pr p.1 p.2) rfl, fun p => Prod.ext (pr_pr p.1 p.2) rfl⟩

theorem sum_step (f : Dev nD → Fin 7 → Tally) : (∑ d, ∑ k, f (pr d k) k) = ∑ d, ∑ k, f d k := by
  rw [← Fintype.sum_prod_type' f, ← Fintype.sum_equiv stepE (fun p : Dev nD × Fin 7 => f (pr p.1 p.2) p.2) (fun p => f p.1 p.2) fun _ => rfl]
  exact (Fintype.sum_prod_type' fun d k => f (pr d k) k).symm

theorem owe_all {m : ℕ} (f : Fin m → Tally) : oweFrom f 0 = ∑ k, f k := by
  unfold oweFrom; rw [Finset.filter_true_of_mem fun _ _ => Nat.zero_le _]

theorem rs_sum (c : Dev nD) : (∑ ch, owRs c ch) = ∑ k, tallyAt (rsR (pr c k) k) () N := by
  rw [← Finset.add_sum_erase _ _ (Finset.mem_univ (rev c)), others, Finset.sum_map]
  rw [show owRs c (rev c) = 0 from by unfold owRs; rw [if_pos (rev_rev c)], zero_add]
  refine Finset.sum_congr rfl fun k _ => ?_
  show owRs c (rev (pr c k)) = _
  unfold owRs; rw [rev_rev, if_neg (pr_ne c k), kk_pr]

/-- What a device is owed by the others together. -/
def due (c : Dev nD) : Tally := tallyAt (barCell c) () 7 + ((∑ k, tallyAt (rsR c k) () N) + ∑ k, tallyAt (agR c k) () N)

theorem seven_units (g : GSem nD τ sig) : (∑ _k : Fin 7, tallyAt g () 1) = (tallyAt g () 7 : Tally) := by
  rw [Finset.sum_const, Finset.card_univ, Fintype.card_fin]
  funext g'; refine Finsupp.ext fun u => ?_
  rw [Pi.smul_apply, Finsupp.smul_apply, tallyAt_apply, tallyAt_apply]
  split <;> rfl

theorem owed_sum : (∑ d, O₀ d) = ∑ d, due d := by
  unfold O₀ due
  simp only [owe_all, rs_sum, Finset.sum_add_distrib]
  unfold owBar owAg
  rw [sum_step fun d k => tallyAt (barCell d) () 1, sum_step fun d k => tallyAt (rsR d k) () N, sum_step fun d k => tallyAt (agR d k) () N]
  simp only [seven_units]

theorem sum_tally {m : ℕ} (f : Fin m → GSem nD τ sig) (n : ℕ) (g : GSem nD τ sig) (h : (∑ k, (tallyAt (f k) () n : Tally)) g ≠ 0) : ∃ k, g = f k := by
  by_contra hn
  refine h ?_
  rw [Finset.sum_apply]
  exact Finset.sum_eq_zero fun k _ => tallyAt_ne_cell (fun e => hn ⟨k, e⟩) _ _

theorem due_own (d : Dev nD) (g : GSem nD τ sig) (h : due d g ≠ 0) : g.1 = (d : Thread nD τ) := by
  by_contra hg
  refine h ?_
  unfold due
  rw [Pi.add_apply, Pi.add_apply, tallyAt_ne_cell (fun e => hg (by rw [e]))]
  have h1 : (∑ k, (tallyAt (rsR d k) () N : Tally)) g = 0 := by
    by_contra hh; obtain ⟨k, rfl⟩ := sum_tally _ _ _ hh; exact hg rfl
  have h2 : (∑ k, (tallyAt (agR d k) () N : Tally)) g = 0 := by
    by_contra hh; obtain ⟨k, rfl⟩ := sum_tally _ _ _ hh; exact hg rfl
  rw [h1, h2, add_zero, add_zero]

variable {F : FTy → Type} [FloatOps F] [Named F]

local notation "𝕄" => MT nD τ sig Unit (Elt F) ℕ UU ℕ

/-- The credits with which a device waits. -/
def creds (c : Dev nD) : sProp 𝕄 :=
  iprop(cred (tallyAt (barCell c) () 7) ∗ (bigSep Finset.univ fun k : Fin 7 => cred (tallyAt (rsR c k) () N)) ∗ bigSep Finset.univ fun k : Fin 7 => cred (tallyAt (agR c k) () N))

theorem creds_launch (c : Dev nD) : (Pipeline.launchCred O₀ c : sProp 𝕄) = creds c := by
  rw [Pipeline.launchCred_of_sum O₀ due owed_sum due_own c]
  unfold due creds
  rw [← Pipeline.cred_finsetSum, ← Pipeline.cred_finsetSum]
  exact (Entails.antisymm (cred_add _ _).1 (cred_add _ _).2).trans
    (congrArg (fun X => iprop(cred (tallyAt (barCell c) () 7) ∗ X)) (Entails.antisymm (cred_add _ _).1 (cred_add _ _).2))

/-! ## The tokens -/

/-- The duties in the cells of device `p.1` at number `p.2`: of its barrier, its four kinds of copies. -/
def dutyAt : Fin 5 → Dev nD × Fin 7 → SemLoc sig × Fin 7
  | 0, p => (.reg barS, p.2)
  | 1, p => (.dma (sRsR p.2), 0)
  | 2, p => (.dma (sAgR p.2), 0)
  | 3, p => (.dma (sAgS p.2), 0)
  | 4, p => (.dma (sRsS (rev (pr p.1 p.2))), 0)

/-- A number that tells them apart. -/
def dutyNo : SemLoc sig × Fin 7 → ℕ
  | (.reg _, d) => d.val
  | (.dma s, _) => s.val

theorem duty_apart : ∀ c : Dev nD, Function.Injective fun x : Fin 5 × Fin 7 => dutyNo (dutyAt x.1 (c, x.2)) := by
  decide +kernel

def dutyEmb : Fin 5 × (Dev nD × Fin 7) ↪ GSem nD τ sig × ℕ × Fin 7 :=
  ⟨fun x => (((x.2.1 : Thread nD τ), (dutyAt x.1 x.2).1), 0, (dutyAt x.1 x.2).2), by
    rintro ⟨i, c, k⟩ ⟨i', c', k'⟩ h
    obtain rfl : c = c' := congrArg (fun t : GSem nD τ sig × ℕ × Fin 7 => t.1.1.1) h
    have h1 : dutyAt i (c, k) = dutyAt i' (c, k') :=
      Prod.ext (congrArg (fun t : GSem nD τ sig × ℕ × Fin 7 => t.1.2) h) (congrArg (fun t : GSem nD τ sig × ℕ × Fin 7 => t.2.2) h)
    have h2 := duty_apart c (a₁ := (i, k)) (a₂ := (i', k')) (congrArg dutyNo h1)
    obtain ⟨rfl, rfl⟩ := Prod.mk.inj h2
    rfl⟩

def talkToks : Finset (GSem nD τ sig × ℕ × Fin 7) := Finset.univ.map dutyEmb

/-- The tokens of the duties that device `c` pays. -/
def toks (c : Dev nD) (k : Fin 7) : sProp 𝕄 :=
  iprop(dutyTok ER (barCell (pr c k)) 0 k ∗ dutyTok ER (rsR (pr c k) k) 0 0 ∗ dutyTok ER (agR (pr c k) k) 0 0 ∗ dutyTok ER (agS c k) 0 0
    ∗ dutyTok ER (rsS c (rev (pr c k))) 0 0)

theorem bigSep_step (Φ : Dev nD → Fin 7 → sProp 𝕄) :
    (bigSep Finset.univ fun p : Dev nD × Fin 7 => Φ p.1 p.2) = bigSep Finset.univ fun p : Dev nD × Fin 7 => Φ (pr p.1 p.2) p.2 :=
  bigSep_univ_equiv stepE fun p : Dev nD × Fin 7 => Φ p.1 p.2

theorem five {M : Type} [URA M] (Φ : Fin 5 → sProp M) : bigSep Finset.univ Φ = iprop(Φ 0 ∗ Φ 1 ∗ Φ 2 ∗ Φ 3 ∗ Φ 4) :=
  bigSep_univ_eq_bigSepL [(0 : Fin 5), 1, 2, 3, 4] (by decide) (by decide) Φ

theorem toks_dealt : bigSep talkToks (fun x => (dutyTok ER x.1 x.2.1 x.2.2 : sProp 𝕄))
    = bigSep Finset.univ fun c : Dev nD => bigSep Finset.univ fun k : Fin 7 => toks c k := by
  unfold talkToks
  rw [bigSep_map, bigSep_univ_prod, five]
  rw [← bigSep_univ_prod (fun p : Dev nD × Fin 7 => (toks p.1 p.2 : sProp 𝕄))]
  unfold toks
  rw [bigSep_sep', bigSep_sep', bigSep_sep', bigSep_sep', ← bigSep_step fun c k => (dutyTok ER (barCell c) 0 k : sProp 𝕄),
    ← bigSep_step fun c k => (dutyTok ER (rsR c k) 0 0 : sProp 𝕄), ← bigSep_step fun c k => (dutyTok ER (agR c k) 0 0 : sProp 𝕄)]
  rfl

/-! ## The call's own semaphores, kind by kind -/

def e0 : Fin 8 ↪ Fin 29 := ⟨fun k => ⟨k.val, by omega⟩, fun a b h => Fin.ext (by have := congrArg Fin.val h; simpa using this)⟩
def e1 : Fin 7 ↪ Fin 29 := ⟨fun k => ⟨8 + k.val, by omega⟩, fun a b h => Fin.ext (by have := congrArg Fin.val h; simpa using this)⟩
def e2 : Fin 7 ↪ Fin 29 := ⟨fun k => ⟨15 + k.val, by omega⟩, fun a b h => Fin.ext (by have := congrArg Fin.val h; simpa using this)⟩
def e3 : Fin 7 ↪ Fin 29 := ⟨fun k => ⟨22 + k.val, by omega⟩, fun a b h => Fin.ext (by have := congrArg Fin.val h; simpa using this)⟩

theorem kinds (c : Dev nD) (Φ : GSem nD τ sig → sProp 𝕄) : (bigSep Finset.univ fun i : Fin 29 => Φ ((c : Thread nD τ), osem i))
    = iprop((bigSep Finset.univ fun k : Fin 8 => Φ (rsS c k)) ∗ (bigSep Finset.univ fun k : Fin 7 => Φ (rsR c k))
      ∗ (bigSep Finset.univ fun k : Fin 7 => Φ (agS c k)) ∗ bigSep Finset.univ fun k : Fin 7 => Φ (agR c k)) := by
  rw [show (Finset.univ : Finset (Fin 29)) = Finset.univ.map e0 ∪ (Finset.univ.map e1 ∪ (Finset.univ.map e2 ∪ Finset.univ.map e3)) from by decide,
    bigSep_union (by decide), bigSep_union (by decide), bigSep_union (by decide), bigSep_map, bigSep_map, bigSep_map, bigSep_map]
  simp only [rsR_at, agS_at, agR_at]
  rfl

end Cert.KernelIdeal.Talk

end
-- ==== Proof.Talk.lean ====
module

public import proofs.«01_k».proof.Proof.Body
public import proofs.«01_k».proof.Proof.Split
public import proofs.«01_k».proof.Proof.Deal

/-!
The talk from the state in which the launch leaves a device to every semaphore back at zero.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → Fin 8 → Blk F) (T : Dev nD → Blk F) (K : GSem nD τ sig → ℕ)

/-- What every device may look up: the cells' invariants, and that each barrier has reached its round. -/
def book : sProp 𝕄 := iprop((bigSep cells fun g => cellInv ER (rd P T) (K g) g) ∗ bigSep barCells fun g => reached ER g 0)

instance book_persistent : BI.Persistent (book P T K) := by unfold book; infer_instance

variable (c : Dev nD)

/-- What a device holds from the launch on. -/
def lin : sProp 𝕄 :=
  iprop(atPos ER (barCell c) 0 ∅ 0 ∗ (bigSep Finset.univ fun i : Fin 29 => openTok ER ((c : Thread nD τ), osem i)) ∗ bigSep Finset.univ fun k : Fin 7 => toks c k)

/-- The same, its semaphores opened. -/
def opn : sProp 𝕄 :=
  iprop(atPos ER (barCell c) 0 ∅ 0
    ∗ (bigSep Finset.univ fun i : Fin 29 => atPos ER ((c : Thread nD τ), osem i) 0 ∅ 0)
    ∗ (bigSep Finset.univ fun i : Fin 29 => reached ER ((c : Thread nD τ), osem i) 0)
    ∗ bigSep Finset.univ fun k : Fin 7 => toks c k)

def Tk : sProp 𝕄 := iprop((∃ K, book P T K ∗ lin c) ∗ creds c)
def Xk : sProp 𝕄 := iprop((∃ K, book P T K ∗ opn c) ∗ creds c ∗ levAts L lv)

theorem cell_inv {g : GSem nD τ sig} (hg : g ∈ cells) : book P T K ⊢ cellInv ER (rd P T) (K g) g := by
  have h : (bigSep cells fun g => (cellInv ER (rd P T) (K g) g : sProp 𝕄)) ⊢ cellInv ER (rd P T) (K g) g := bigSep_elim hg
  unfold book
  iintro ⟨H, -⟩
  iapply h; iexact H

theorem open_one (i : Fin 29) : iprop(book P T K ∗ (openTok ER ((c : Thread nD τ), osem i) ∗ semVal ((c : Thread nD τ), osem i) 0))
    ⊢ (|={Set.univ}=> (atPos ER ((c : Thread nD τ), osem i) 0 ∅ 0 ∗ reached ER ((c : Thread nD τ), osem i) 0) : sProp 𝕄) := by
  iintro ⟨#H, H1, H2⟩
  iapply (Rounds.cell_open ER (rd P T) (g := ((c : Thread nD τ), osem i)) (Set.mem_univ (K ((c : Thread nD τ), osem i))))
  isplitr; · iapply (cell_inv P T K (mem_sc c i)); iexact H
  isplitl [H1]; · iexact H1
  iexact H2

theorem hopen (hold : sProp 𝕄) (hh : hold = bigSep Finset.univ fun i : Fin 29 => semVal ((c : Thread nD τ), osem i) 0) :
    iprop(Tk P T c ∗ hold ∗ levAts L lv) ⊢ (|={Set.univ}=> Xk P T c : sProp 𝕄) := by
  subst hh
  unfold Tk Xk lin opn
  iintro ⟨⟨⟨%K, #HB, Ha, Ho, Ht⟩, Hc⟩, Hs, Hl⟩
  ihave H := (Entails.of_eq (bigSep_sep' Finset.univ (Φ := fun i : Fin 29 => (openTok ER ((c : Thread nD τ), osem i) : sProp 𝕄)) (Ψ := fun i => semVal ((c : Thread nD τ), osem i) 0)).symm) $$ [Ho Hs]
  · isplitl [Ho]; · iexact Ho
    iexact Hs
  ihave H := (bigSep_with_persistent (R := book P T K) fun i _ => open_one P T K c i) $$ [H]
  · isplitr; · iexact HB
    iexact H
  imod (bigSep_fupd Finset.univ fun i : Fin 29 => (iprop(atPos ER ((c : Thread nD τ), osem i) 0 ∅ 0 ∗ reached ER ((c : Thread nD τ), osem i) 0) : sProp 𝕄)) $$ H with H
  ihave H := (Entails.of_eq (bigSep_sep' _ _ _)) $$ H
  icases H with ⟨H1, H2⟩
  imodintro
  isplitr [Hc Hl]
  · iexists K
    isplitr; · iexact HB
    isplitl [Ha]; · iexact Ha
    isplitl [H1]; · iexact H1
    isplitl [H2]; · iexact H2
    iexact Ht
  isplitl [Hc]; · iexact Hc
  iexact Hl

/-! ## What the body takes -/

theorem bar_reached : book P T K ⊢ (bigSep Finset.univ fun k : Fin 7 => reached ER (barCell (pr c k)) 0 : sProp 𝕄) := by
  refine bigSep_intro_persistent fun k _ => ?_
  have h : (bigSep barCells fun g => (reached ER g 0 : sProp 𝕄)) ⊢ reached ER (barCell (pr c k)) 0 :=
    bigSep_elim (Finset.mem_map.mpr ⟨pr c k, Finset.mem_univ _, rfl⟩)
  unfold book
  exact (show iprop((bigSep cells fun g => cellInv ER (rd P T) (K g) g) ∗ bigSep barCells fun g => reached ER g 0) ⊢ (bigSep barCells fun g => (reached ER g 0 : sProp 𝕄)) from by
    iintro ⟨-, H⟩; iexact H).trans h

/-- What the body takes besides its inputs and its sums. -/
def talkIn : sProp 𝕄 :=
  iprop(bigSep Finset.univ (lend (F := F) c) ∗ atPos ER (barCell c) 0 ∅ 0 ∗ cred (tallyAt (barCell c) () 7) ∗ (bigSep Finset.univ fun k : Fin 7 => iprop(toksRs c k ∗ toksAg c k)) ∗ (bigSep Finset.univ fun k : Fin 8 => iprop(any (rssSlot k) c)) ∗ any (rowsM (rev c)) c ∗ (bigSep Finset.univ fun k : Fin 7 => iprop(atPos ER (rsR c k) 0 ∅ 0 ∗ cred (tallyAt (rsR c k) () N))) ∗ (bigSep Finset.univ fun k : Fin 8 => iprop(atPos ER (rsS c k) 0 ∅ 0)) ∗ (bigSep Finset.univ fun k : Fin 7 => iprop(atPos ER (agS c k) 0 ∅ 0)) ∗ (bigSep Finset.univ fun k : Fin 7 => iprop(atPos ER (agR c k) 0 ∅ 0 ∗ cred (tallyAt (agR c k) () N))))

/-- The buffers of the talk, whole. -/
def bufs : sProp 𝕄 :=
  iprop((∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ ∃ f : Buf (Elt F) ((c : Thread nD τ).loc cc0_stg6_0), ((c : Thread nD τ).loc cc0_stg6_0) ↦{fullShare} f)

theorem talk_in : iprop(book P T K ∗ opn c ∗ creds c ∗ bufs c) ⊢ (talkIn c : sProp 𝕄) := by
  unfold opn creds bufs talkIn toks lend toksRs toksAg
  rw [kinds c fun g => atPos ER g 0 ∅ 0, kinds c fun g => reached ER g 0]
  simp only [bigSep_sep']
  rw [eight_split c fun k => (reached ER (rsS c k) 0 : sProp 𝕄)]
  iintro ⟨#HB, ⟨Ha, ⟨A0, A1, A2, A3⟩, ⟨⟨-, R0⟩, #R1, R2, #R3⟩, T0, T1, T2, T3, T4⟩, ⟨C0, C1, C2⟩, B1, B2, ⟨%f, B3⟩⟩
  ihave S1 := (rss_split c) $$ B1
  ihave S2 := (rsr_split c) $$ B2
  ihave S3 := (rows_split c f) $$ B3
  ihave S3 := (Entails.of_eq (eight_split c fun k => any (F := F) (rowsM k) c)) $$ S3
  icases S3 with ⟨Sown, S3⟩
  isplitl [S2 S3 T0]
  · isplitl [S2]; · iexact S2
    isplitl [S3]; · iexact S3
    isplitr; · iexact R1
    isplitr; · iexact R3
    isplitl [T0]; · iexact T0
    iapply (bar_reached P T K c); iexact HB
  isplitl [Ha]; · iexact Ha
  isplitl [C0]; · iexact C0
  isplitl [T1 T2 T3 T4 R0 R2]
  · isplitl [T1 R0 T4]
    · isplitl [T1]; · iexact T1
      isplitl [R0]; · iexact R0
      iexact T4
    isplitl [T2]; · iexact T2
    isplitl [R2]; · iexact R2
    iexact T3
  isplitl [S1]; · iexact S1
  isplitl [Sown]; · iexact Sown
  isplitl [A1 C1]
  · isplitl [A1]; · iexact A1
    iexact C1
  isplitl [A0]; · iexact A0
  isplitl [A2]; · iexact A2
  isplitl [A3]; · iexact A3
  iexact C2

/-! ## What it gives back -/

/-- What the body gives back besides its inputs and its sums. -/
def talkOut : sProp 𝕄 :=
  iprop((bigSep Finset.univ fun k : Fin 8 => iprop(any (rssSlot k) c)) ∗ (bigSep Finset.univ fun k : Fin 7 => iprop(any (rsrSlot k) c)) ∗ (bigSep Finset.univ fun k : Fin 8 => iprop(full (rowsM k) c fullShare (T (rev k)))) ∗ atPos ER (barCell c) 1 ∅ 0 ∗ (bigSep Finset.univ fun k : Fin 7 => iprop(atPos ER (rsR c k) 1 ∅ 0)) ∗ (bigSep Finset.univ fun k : Fin 8 => iprop(rsEnd c k)) ∗ (bigSep Finset.univ fun k : Fin 7 => iprop(atPos ER (agS c k) 1 ∅ 0)) ∗ (bigSep Finset.univ fun k : Fin 7 => iprop(atPos ER (agR c k) 1 ∅ 0)))

/-- The whole result: block `o` of rows is its owner's. -/
def result : S2x512x768.Idx → Elt F .bf16 := stack fun o => T (rev o)

/-- Everything closed: the buffers whole, every semaphore at zero. -/
def closed : sProp 𝕄 :=
  iprop((∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (((c : Thread nD τ).loc cc0_stg6_0) ↦{fullShare} (result T))
    ∗ semVal (barCell c) 0 ∗ bigSep Finset.univ fun i : Fin 29 => semVal ((c : Thread nD τ), osem i) 0)

theorem close_at {g : GSem nD τ sig} (hg : g ∈ cells) (R : ℕ) (hR : ∀ r, R ≤ r → (rd P T).duties g r = ∅) :
    iprop(book P T K ∗ atPos ER g R ∅ 0) ⊢ (|={Set.univ}=> semVal g 0 : sProp 𝕄) := by
  iintro ⟨#H, H1⟩
  iapply (Rounds.cell_close ER (rd P T) (Set.mem_univ (K g)) id hR)
  isplitr; · iapply (cell_inv P T K hg); iexact H
  iexact H1

theorem close_own (ch : Fin 8) : iprop(book P T K ∗ rsEnd c ch) ⊢ (|={Set.univ}=> semVal (rsS c ch) 0 : sProp 𝕄) := by
  unfold rsEnd
  refine close_at P T K (mem_rsS c ch) _ fun r hr => ?_
  by_cases h : rev ch = c
  · exact duties_rsS_own P T c ch h r
  · rw [if_neg h] at hr; exact duties_later P T _ r hr

theorem close_all {m : ℕ} (Φ : Fin m → sProp 𝕄) (Ψ : Fin m → sProp 𝕄) (h : ∀ k, iprop(book P T K ∗ Φ k) ⊢ (|={Set.univ}=> Ψ k : sProp 𝕄)) :
    iprop(book P T K ∗ bigSep Finset.univ Φ) ⊢ (|={Set.univ}=> bigSep Finset.univ Ψ : sProp 𝕄) :=
  (bigSep_with_persistent fun k _ => h k).trans (bigSep_fupd Finset.univ Ψ)

theorem talk_out [∀ e, Nonempty (Elt F e)] : iprop(book P T K ∗ talkOut T c) ⊢ (|={Set.univ}=> closed T c : sProp 𝕄) := by
  unfold talkOut closed
  rw [kinds c fun g => semVal g 0]
  iintro ⟨#HB, S1, S2, S3, Ha, A1, A0, A2, A3⟩
  imod (close_at P T K (mem_bar c) 1 (duties_later P T _)) $$ [Ha] with Ha
  · isplitr; · iexact HB
    iexact Ha
  imod (close_all P T K (fun k : Fin 8 => rsEnd c k) (fun k => semVal (rsS c k) 0) fun k => close_own P T K c k) $$ [A0] with A0
  · isplitr; · iexact HB
    iexact A0
  imod (close_all P T K (fun k : Fin 7 => atPos ER (rsR c k) 1 ∅ 0) (fun k => semVal (rsR c k) 0) fun k => close_at P T K (mem_rsR c k) 1 (duties_later P T _)) $$ [A1] with A1
  · isplitr; · iexact HB
    iexact A1
  imod (close_all P T K (fun k : Fin 7 => atPos ER (agS c k) 1 ∅ 0) (fun k => semVal (agS c k) 0) fun k => close_at P T K (mem_agS c k) 1 (duties_later P T _)) $$ [A2] with A2
  · isplitr; · iexact HB
    iexact A2
  imod (close_all P T K (fun k : Fin 7 => atPos ER (agR c k) 1 ∅ 0) (fun k => semVal (agR c k) 0) fun k => close_at P T K (mem_agR c k) 1 (duties_later P T _)) $$ [A3] with A3
  · isplitr; · iexact HB
    iexact A3
  imodintro
  isplitl [S1]; · iapply (rss_join c); iexact S1
  isplitl [S2]; · iapply (rsr_join c); iexact S2
  isplitl [S3]; · iapply (rows_join c fun o => T (rev o)); iexact S3
  isplitl [Ha]; · iexact Ha
  isplitl [A0]; · iexact A0
  isplitl [A1]; · iexact A1
  isplitl [A2]; · iexact A2
  iexact A3

/-! ## The run of the body -/

variable (defs : Defs nD τ sig (Elt F) Λ₀) (𝒱₀ : Variants)
variable (arg0 : Memref sig .tc .vmem S2x512x768 .bf16) (harg0 : arg0.IsWhole)
  (arg1 : Memref sig .tc .vmem S768x512 .bf16) (harg1 : arg1.IsWhole)
  (arg2 : Memref sig .tc .vmem S2x8x512x64 .bf16) (harg2 : arg2.IsWhole)
  (arg3 : Memref sig .tc .vmem S2x8x512x64 .bf16) (harg3 : arg3.IsWhole)
  (arg4 : Memref sig .tc .vmem S512x768 .bf16) (harg4 : arg4.IsWhole)
  (arg5 : Memref sig .tc .vmem S512x512 .f32) (harg5 : arg5.IsWhole)
  (harg6 : outM.IsWhole) (harg7 : accM.IsWhole) (harg8 : rssM.IsWhole) (harg9 : rsrM.IsWhole)

set_option maxRecDepth 65536 in
set_option maxHeartbeats 1000000 in
theorem talk_run [∀ e, Nonempty (Elt F e)] (q : PosShare TreeShare) (f0) (f1) (f2) (f3) (f4) (f5)
    (hP : ∀ ch, P c ch = (insOf arg0 arg1 arg2 arg3 arg4 arg5 f0 f1 f2 f3 f4 f5).part ch)
    (hT : T c = totalOf ((insOf arg0 arg1 arg2 arg3 arg4 arg5 f0 f1 f2 f3 f4 f5).chunk (rev c)) fun k => P (pr c k) (rev c)) (Q : PUnit → sProp 𝕄) :
    iprop(Xk P T c ∗ ow c (O₀ c) ∗ inps arg0 arg1 arg2 arg3 arg4 arg5 c q f0 f1 f2 f3 f4 f5
        ∗ (∃ f : Buf (Elt F) (accM.view.loc (c : Thread nD τ)), hld accM c fullShare f) ∗ bufs c)
      ⊢ iprop(((ow c 0 ∗ inps arg0 arg1 arg2 arg3 arg4 arg5 c q f0 f1 f2 f3 f4 f5
            ∗ (∃ f : Buf (Elt F) (accM.view.loc (c : Thread nD τ)), hld accM c fullShare f) ∗ closed T c) -∗ Q ⟨⟩)
        -∗ wp frame (wpE defs 𝒱₀ (c : Thread nD τ) none) Set.univ (cc0_body arg0 harg0 arg1 harg1 arg2 harg2 arg3 harg3 arg4 harg4 arg5 harg5 outM harg6 accM harg7 rssM harg8 rsrM harg9 cc0_scratch3 cc0_scratch4 cc0_scratch5 cc0_scratch6) Q) := by
  unfold Xk
  iintro ⟨⟨⟨%K, #HB, Ho⟩, Hc, #Hl⟩, HO, HI, HA, Hb⟩ Hk
  ihave H := (talk_in P T K c) $$ [Ho Hc Hb]
  · isplitr; · iexact HB
    isplitl [Ho]; · iexact Ho
    isplitl [Hc]; · iexact Hc
    iexact Hb
  iapply (wp_fupd frame (wpE defs 𝒱₀ (c : Thread nD τ) none) Set.univ _ Q)
  unfold talkIn
  iapply (body_talk P T K defs 𝒱₀ arg0 harg0 arg1 harg1 arg2 harg2 arg3 harg3 arg4 harg4 arg5 harg5 harg6 harg7 harg8 harg9 c q f0 f1 f2 f3 f4 f5 hP hT _) $$ [HO HI HA H]
  · isplitr
    · unfold recs book
      icases HB with ⟨HB1, -⟩
      isplitr; · iexact HB1
      iexact Hl
    isplitl [HO]; · iexact HO
    isplitl [HI]; · iexact HI
    isplitl [HA]; · iexact HA
    iexact H
  iintro ⟨HO, HI, HA, H⟩
  imod (talk_out P T K c) $$ [H] with H
  · isplitr; · iexact HB
    unfold talkOut; iexact H
  imodintro
  iapply Hk
  isplitl [HO]; · iexact HO
  isplitl [HI]; · iexact HI
  isplitl [HA]; · iexact HA
  iexact H

end Cert.KernelIdeal.Talk

end
-- ==== Proof.Region.lean ====
module

public import proofs.«01_k».proof.Proof.Talk
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk

/-!
The kernel's call as a step of `@main`: from the arrays at given contents, to the result at the total of all the devices.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

/-- The buffers of each device before the call. -/
abbrev Vals (F : FTy → Type) := Dev nD → Valuation τ sig (Elt F)

variable (V : Vals F)

/-- What a device's kernel reads. -/
def insAt (c : Dev nD) : Ins F where
  x := (win0_0.blk t0_0).view.read (Elt F) (V c main_arg0)
  wq := (win0_1.blk t0_0).view.read (Elt F) (V c main_v9)
  kt := (win0_2.blk t0_0).view.read (Elt F) (V c main_v15)
  vt := (win0_3.blk t0_0).view.read (Elt F) (V c main_v16)
  wo := (win0_4.blk t0_0).view.read (Elt F) (V c main_v14)
  mask := (win0_5.blk t0_0).view.read (Elt F) (V c main_v37)

/-- What each device sends of each row block. -/
def PP (c : Dev nD) (ch : Fin 8) : Blk F := (insAt V c).part ch
/-- What each device gathers for its own rows. -/
def TT (c : Dev nD) : Blk F := totalOf ((insAt V c).chunk (rev c)) fun k => PP V (pr c k) (rev c)

/-- The call's result. -/
def outAt : S2x512x768.Idx → Elt F .bf16 := result (TT V)

/-- The kernel's own state before it runs, and after. -/
def before (c : Dev nD) : sProp 𝕄 := iprop(Xk (PP V) (TT V) c
  ∗ ((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ ∃ f : Buf (Elt F) ((c : Thread nD τ).loc cc0_scratch2), ((c : Thread nD τ).loc cc0_scratch2) ↦{fullShare} f)
  ∗ ∃ r, prngReg c r)
def left (c : Dev nD) : sProp 𝕄 := iprop((semVal (barCell c) 0 ∗ bigSep Finset.univ fun i : Fin 29 => semVal ((c : Thread nD τ), osem i) 0)
  ∗ ((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ ∃ f : Buf (Elt F) ((c : Thread nD τ).loc cc0_scratch2), ((c : Thread nD τ).loc cc0_scratch2) ↦{fullShare} f)
  ∗ ∃ r, prngReg c r)

/-- The call's one point. -/
def dat (c : Dev nD) : Dat τ (Elt F) Unit ℕ UU ℕ cfg0 c where
  A w := V c (Proc.devRef .tc (Pipeline.arrRef spec0 w))
  after := fun
    | 0, _ => (insAt V c).x
    | 1, _ => (insAt V c).wq
    | 2, _ => (insAt V c).kt
    | 3, _ => (insAt V c).vt
    | 4, _ => (insAt V c).wo
    | 5, _ => (insAt V c).mask
    | 6, _ => outAt V
    | ⟨_ + 7, h⟩, _ => absurd h (Nat.not_lt.2 (Nat.le_add_left _ _))
  Φ t := if t.val = 0 then before V c else left c
  q _ := fullShare
  owed t := if t.val = 0 then O₀ c else 0

def pdats : (p : Fin 1) → (c : Dev nD) → Dat τ (Elt F) Unit ℕ UU ℕ (Pipeline.pin (pcfgs (F := F)) adm p) c := fun _ => dat V

theorem owed_zero (c : Dev nD) : (dat V c).owed 0 = O₀ c := by
  show (if ((0 : Fin (cfg0.N + 1)).val = 0) then O₀ c else 0) = O₀ c; exact if_pos rfl
theorem owed_first (c : Dev nD) : (dat V c).owed (Fin.castSucc (n := cfg0.N) t0_0) = O₀ c := by
  show (if ((Fin.castSucc (n := cfg0.N) t0_0).val = 0) then O₀ c else 0) = O₀ c; exact if_pos rfl
theorem owed_last (c : Dev nD) : (dat V c).owed (Fin.last _) = 0 := by
  show (if (Fin.last cfg0.N).val = 0 then O₀ c else 0) = 0
  rw [Fin.val_last, if_neg (by rw [show cfg0.N = 1 from N_0]; decide)]
theorem owed_succ (c : Dev nD) : (dat V c).owed (Fin.succ (n := cfg0.N) t0_0) = 0 := by
  show (if ((Fin.succ (n := cfg0.N) t0_0).val = 0) then O₀ c else 0) = 0; exact if_neg (Nat.succ_ne_zero _)

theorem phi_zero (c : Dev nD) : (dat V c).Φ 0 = before V c := by
  show (if ((0 : Fin (cfg0.N + 1)).val = 0) then before V c else left c) = _; exact if_pos rfl
theorem phi_first (c : Dev nD) : (dat V c).Φ (Fin.castSucc (n := cfg0.N) t0_0) = before V c := by
  show (if ((Fin.castSucc (n := cfg0.N) t0_0).val = 0) then before V c else left c) = _; exact if_pos rfl
theorem phi_last (c : Dev nD) : (dat V c).Φ (Fin.last _) = left c := by
  show (if (Fin.last cfg0.N).val = 0 then before V c else left c) = _
  rw [Fin.val_last, if_neg (by rw [show cfg0.N = 1 from N_0]; decide)]
theorem phi_succ (c : Dev nD) : (dat V c).Φ (Fin.succ (n := cfg0.N) t0_0) = left c := by
  show (if ((Fin.succ (n := cfg0.N) t0_0).val = 0) then before V c else left c) = _; exact if_neg (Nat.succ_ne_zero _)

theorem owes_in (c : Dev nD) : ((dat V c).owesAt () (Fin.castSucc (n := cfg0.N) t0_0) : sProp 𝕄) ⊢ ow c (O₀ c) := by
  unfold Dat.owesAt Pipeline.owesWithin ow; rw [owed_first V c]
  iintro ⟨%W, -, HO⟩; iexists W; iexact HO
theorem owes_out (c : Dev nD) : (ow c 0 : sProp 𝕄) ⊢ (dat V c).owesAt () (Fin.succ (n := cfg0.N) t0_0) := by
  unfold Dat.owesAt Pipeline.owesWithin ow Dat.bound; rw [owed_succ V c]
  iintro ⟨%W, HO⟩; iexists W; isplitr; · ipureintro; exact fun _ _ => Or.inl trivial
  iexact HO

theorem before_in (c : Dev nD) (w : Fin 7) (hf : (cfg0.win w).fetch t0_0 = true) (d) : (dat V c).before w t0_0 d = (dat V c).fetched w t0_0 d :=
  (dat V c).before_fetched w t0_0 hf d

theorem found0 (c : Dev nD) (d) : (dat V c).before 0 t0_0 d = (insAt V c).x := by
  rw [before_in V c 0 (fetch0_0 t0_0)]; unfold Dat.fetched Dat.blockOf; rfl
theorem found1 (c : Dev nD) (d) : (dat V c).before 1 t0_0 d = (insAt V c).wq := by
  rw [before_in V c 1 (fetch0_1 t0_0)]; unfold Dat.fetched Dat.blockOf; rfl
theorem found2 (c : Dev nD) (d) : (dat V c).before 2 t0_0 d = (insAt V c).kt := by
  rw [before_in V c 2 (fetch0_2 t0_0)]; unfold Dat.fetched Dat.blockOf; rfl
theorem found3 (c : Dev nD) (d) : (dat V c).before 3 t0_0 d = (insAt V c).vt := by
  rw [before_in V c 3 (fetch0_3 t0_0)]; unfold Dat.fetched Dat.blockOf; rfl
theorem found4 (c : Dev nD) (d) : (dat V c).before 4 t0_0 d = (insAt V c).wo := by
  rw [before_in V c 4 (fetch0_4 t0_0)]; unfold Dat.fetched Dat.blockOf; rfl
theorem found5 (c : Dev nD) (d) : (dat V c).before 5 t0_0 d = (insAt V c).mask := by
  rw [before_in V c 5 (fetch0_5 t0_0)]; unfold Dat.fetched Dat.blockOf; rfl

theorem owns_in {S : Shape} {e : EltTy} (M : Memref sig .tc .vmem S e) (c : Dev nD) (X : S.Idx → Elt F e) :
    (owns (c : Thread nD τ) M fullShare X : sProp 𝕄) = iprop(∃ f : Buf (Elt F) (M.view.loc (c : Thread nD τ)), ⌜M.view.read (Elt F) f = X⌝ ∗ hld M c fullShare f) := rfl

variable [∀ e, Nonempty (Elt F e)]

set_option maxRecDepth 65536 in
set_option maxHeartbeats 2000000 in
set_option pp.maxSteps 3000 in
/-- The body at the call's one point. -/
theorem body (c : Dev nD) : BodyObligation (dat V c) defs₀ Variants.none () Set.univ := fun t => by
  obtain rfl : t = t0_0 := fin_N0 t
  rw [bigSep_W0, bigSep_W0, phi_first, phi_succ]
  unfold before left
  iintro ⟨⟨HX, ⟨HA, Hs, Hr⟩, Hp⟩, HO, ⟨%d0, H0⟩, ⟨%d1, H1⟩, ⟨%d2, H2⟩, ⟨%d3, H3⟩, ⟨%d4, H4⟩, ⟨%d5, H5⟩, ⟨%d6, H6⟩⟩
  ihave HO := (owes_in V c) $$ HO
  ihave H0 := (Entails.of_eq ((congrArg (owns (c : Thread nD τ) (win0_0.stage 0) fullShare) (found0 V c d0)).trans (owns_in _ c _))) $$ H0
  ihave H1 := (Entails.of_eq ((congrArg (owns (c : Thread nD τ) (win0_1.stage 0) fullShare) (found1 V c d1)).trans (owns_in _ c _))) $$ H1
  ihave H2 := (Entails.of_eq ((congrArg (owns (c : Thread nD τ) (win0_2.stage 0) fullShare) (found2 V c d2)).trans (owns_in _ c _))) $$ H2
  ihave H3 := (Entails.of_eq ((congrArg (owns (c : Thread nD τ) (win0_3.stage 0) fullShare) (found3 V c d3)).trans (owns_in _ c _))) $$ H3
  ihave H4 := (Entails.of_eq ((congrArg (owns (c : Thread nD τ) (win0_4.stage 0) fullShare) (found4 V c d4)).trans (owns_in _ c _))) $$ H4
  ihave H5 := (Entails.of_eq ((congrArg (owns (c : Thread nD τ) (win0_5.stage 0) fullShare) (found5 V c d5)).trans (owns_in _ c _))) $$ H5
  ihave H6 := (Entails.of_eq (owns_whole (c : Thread nD τ) cc0_stg6_0 fullShare ((dat V c).before 6 t0_0 d6))) $$ H6
  icases H0 with ⟨%f0, %h0, H0⟩
  icases H1 with ⟨%f1, %h1, H1⟩
  icases H2 with ⟨%f2, %h2, H2⟩
  icases H3 with ⟨%f3, %h3, H3⟩
  icases H4 with ⟨%f4, %h4, H4⟩
  icases H5 with ⟨%f5, %h5, H5⟩
  have hI : insOf (win0_0.stage 0) (win0_1.stage 0) (win0_2.stage 0) (win0_3.stage 0) (win0_4.stage 0) (win0_5.stage 0) f0 f1 f2 f3 f4 f5 = insAt V c := by
    unfold insOf insAt at *
    rw [h0, h1, h2, h3, h4, h5]
  iapply (talk_run (PP V) (TT V) c defs₀ Variants.none (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0)
    (hstage0_6 0) (Memref.isWhole_whole _) (Memref.isWhole_whole _) (Memref.isWhole_whole _) fullShare f0 f1 f2 f3 f4 f5
    (fun ch => by rw [hI]; rfl) (by rw [hI]; rfl) _) $$ [HX HO H0 H1 H2 H3 H4 H5 HA Hs Hr H6]
  · isplitl [HX]; · iexact HX
    isplitl [HO]; · iexact HO
    isplitl [H0 H1 H2 H3 H4 H5]
    · unfold inps
      isplitl [H0]; · iexact H0
      isplitl [H1]; · iexact H1
      isplitl [H2]; · iexact H2
      isplitl [H3]; · iexact H3
      isplitl [H4]; · iexact H4
      iexact H5
    isplitl [HA]; · icases HA with ⟨%f, HA⟩; iexists f; iapply (Entails.of_eq (by unfold hld; rw [(Memref.isWhole_whole _).set_eq_univ])) $$ HA
    unfold bufs
    isplitl [Hs]; · iexact Hs
    isplitl [Hr]; · iexact Hr
    iexists _; iexact H6
  unfold closed
  iintro ⟨HO, ⟨H0, H1, H2, H3, H4, H5⟩, HA, ⟨Hs, Hr, H6, Hb, Hm⟩⟩
  isplitr [HO H0 H1 H2 H3 H4 H5 H6]
  · isplitl [Hb Hm]
    · isplitl [Hb]; · iexact Hb
      iexact Hm
    isplitr [Hp]
    · isplitl [HA]; · icases HA with ⟨%f, HA⟩; iexists f; iapply (Entails.of_eq (by unfold hld; rw [(Memref.isWhole_whole _).set_eq_univ])) $$ HA
      isplitl [Hs]; · iexact Hs
      iexact Hr
    iexact Hp
  isplitl [HO]; · iapply (owes_out V c); iexact HO
  isplitl [H0]
  · iapply (Entails.of_eq (owns_in (win0_0.stage 0) c (insAt V c).x).symm); iexists f0; isplitr; · ipureintro; exact h0
    iexact H0
  isplitl [H1]
  · iapply (Entails.of_eq (owns_in (win0_1.stage 0) c (insAt V c).wq).symm); iexists f1; isplitr; · ipureintro; exact h1
    iexact H1
  isplitl [H2]
  · iapply (Entails.of_eq (owns_in (win0_2.stage 0) c (insAt V c).kt).symm); iexists f2; isplitr; · ipureintro; exact h2
    iexact H2
  isplitl [H3]
  · iapply (Entails.of_eq (owns_in (win0_3.stage 0) c (insAt V c).vt).symm); iexists f3; isplitr; · ipureintro; exact h3
    iexact H3
  isplitl [H4]
  · iapply (Entails.of_eq (owns_in (win0_4.stage 0) c (insAt V c).wo).symm); iexists f4; isplitr; · ipureintro; exact h4
    iexact H4
  isplitl [H5]
  · iapply (Entails.of_eq (owns_in (win0_5.stage 0) c (insAt V c).mask).symm); iexists f5; isplitr; · ipureintro; exact h5
    iexact H5
  iapply (Entails.of_eq (owns_whole (c : Thread nD τ) cc0_stg6_0 fullShare (outAt V)).symm); iexact H6

end Cert.KernelIdeal.Talk

end
-- ==== Proof.Call.lean ====
module

public import proofs.«01_k».proof.Proof.Region
public import Idealize.ShloMosaic.Lib.Pipeline.ValueKit.Geometry

/-!
The record of the call: entered with the arrays held, left with the result in place.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (V : Vals F)

/-- The buffers of each device after the call. -/
def after (c : Dev nD) : Valuation τ sig (Elt F) := Function.update (V c) main_v38 (outAt V)

/-- The buffers that no window of the call reads or writes. -/
def rest : Finset (DevRef τ sig) := Pipeline.ucRefs τ sig \ Pipeline.arrRefs spec0

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owns_sems (c : Dev nD) : (Pipeline.ownSems0 osem c : sProp 𝕄) = bigSep Finset.univ fun i : Fin 29 => semVal ((c : Thread nD τ), osem i) 0 := rfl

theorem enter (c : Dev nD) : iprop(Pipeline.scopedRest spec0 c ∗ (∃ r, prngReg c r) ∗ StableHlo.held (c : Thread nD τ) ∅ (V c) ∗ Xk (PP V) (TT V) c) ⊢ (dat V c).Φ 0 := by
  rw [phi_zero, scopedRest0_eq]
  unfold before
  iintro ⟨Hs, Hp, -, HX⟩
  isplitl [HX]; · iexact HX
  isplitl [Hs]; · iexact Hs
  iexact Hp

theorem leave (c : Dev nD) : (dat V c).Φ (Fin.last cfg0.N)
    ⊢ iprop(Pipeline.scopedRest spec0 c ∗ (∃ r, prngReg c r) ∗ StableHlo.held (c : Thread nD τ) ∅ (after V c) ∗ Pipeline.ownSems0 osem c ∗ semVal (barCell c) 0) := by
  rw [phi_last, scopedRest0_eq, owns_sems]
  unfold left
  iintro ⟨⟨Hb, Hm⟩, Hs, Hp⟩
  isplitl [Hs]; · iexact Hs
  isplitl [Hp]; · iexact Hp
  isplitr; · unfold StableHlo.held; rw [BI.bigSep_empty]; iempintro
  isplitl [Hm]; · iexact Hm
  iexact Hb

theorem owed_cut (c : Dev nD) (t : Fin (cfg0.N + 1)) (g : GSem nD τ sig) (i : Unit) (h : 0 < (dat V c).owed t g i) : i ∈ L g ∧ (0 : ℕ) < lv g i := by
  have e : (dat V c).owed t = if t.val = 0 then O₀ c else 0 := rfl
  rw [e] at h
  split at h
  · exact above_O₀ c g i h
  · exact absurd h (Nat.lt_irrefl 0)

theorem stage_level (c : Dev nD) (w : Fin 7) (s : Fin (cfg0.win w).nbuf) : lv ((c : Thread nD τ), .dma ((cfg0.win w).sem s)) () ≤ 0 := by
  have h : ∀ (w : Fin 7) (s : Fin (cfg0.win w).nbuf), lvK (kindOf (.dma ((cfg0.win w).sem s))) ≤ 0 := by decide
  exact h w s

theorem arr_in (c : Dev nD) (w : Fin 7) : (dat V c).arrAt w 0 = V c (Proc.devRef .tc (Pipeline.arrRef spec0 w)) := rfl

theorem arr_out (c : Dev nD) (w : Fin 7) : (dat V c).arrAt w cfg0.N = after V c (Proc.devRef .tc (Pipeline.arrRef spec0 w)) := by
  by_cases h : w = 6
  · subst h
    refine ((dat V c).arrAt_eq_of_after_last 6 t0_0 (by decide +kernel) (outAt V) fun j => ?_).trans (Function.update_self (β := fun b => b.ty.Contents (Elt F)) (Proc.devRef .tc main_v38) (outAt V) (V c)).symm
    rfl
  · have hin : (cfg0.win w).isOut = false := by revert w; decide
    have hne : Pipeline.arrRef spec0 w ≠ main_v38 := by revert w; decide
    rw [(dat V c).arrAt_in w hin]
    exact (Function.update_of_ne (StableHlo.devRef_ne_of_ne hne) _ _).symm

theorem out_mem : (Proc.devRef .tc main_v38 : DevRef τ sig) ∈ Pipeline.arrRefs spec0 :=
  Finset.mem_map.mpr ⟨main_v38, Finset.mem_image.mpr ⟨(6 : Fin 7), Finset.mem_univ _, rfl⟩, rfl⟩

theorem rest_same (c : Dev nD) (b : DevRef τ sig) (hb : b ∈ rest \ ∅) : after V c b = V c b := by
  have hb' : b ∉ Pipeline.arrRefs spec0 := (Finset.mem_sdiff.mp (Finset.mem_sdiff.mp hb).1).2
  have hne : b ≠ Proc.devRef .tc main_v38 := by rintro rfl; exact hb' out_mem
  unfold after
  exact Function.update_of_ne hne _ _

variable [∀ e, Nonempty (Elt F e)]

set_option backward.isDefEq.respectTransparency.types false in
/-- The call. -/
def call : Pipeline.RegionSeg (pcfgs (F := F)) adm (pdats V) () defs₀ Variants.none L lv 0 :=
  Pipeline.RegionSeg.ofTalk (pcfgs (F := F)) adm (pdats V) () defs₀ Variants.none L lv 0 osem (by decide : Pipeline.OwnSemFacts spec0 osem)
    ∅ rest (Finset.empty_subset _) kit rfl (fun c => (body V c).loose)
    (fun _ => 0) O₀ (fun c => (owed_zero V c).trans (zero_add _).symm) (owed_last V) (fun _ => rfl) (fun c => (dat V c).share_full fun _ => rfl)
    V (after V) (rest_same V)
    (Tk (PP V) (TT V)) (fun c => semVal (barCell c) 0) (Xk (PP V) (TT V)) (fun c => semVal (barCell c) 0)
    (fun c => hopen (PP V) (TT V) c _ (owns_sems c)) (enter V) (leave V)
    (fun c => by iintro H; imodintro; iexact H)
    (fun _ => 0)
    ⟨fun c _ _ => by rw [L_tc]; exact Finset.mem_singleton_self _, fun c w s => stage_level c w s, fun c t g i h => owed_cut V c t g i h⟩
    (fun _ => iprop(emp))
    (arr_in V) (arr_out V)

end Cert.KernelIdeal.Talk

end
-- ==== Proof.Fund.lean ====
module

public import proofs.«01_k».proof.Proof.Talk

/-!
The start of the talk: every semaphore put under its rule, and each device handed what it pays with.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → Fin 8 → Blk F) (T : Dev nD → Blk F)

theorem osem_ne_bar : ∀ i : Fin 29, osem i ≠ .reg barS := by decide

theorem cells_apart : Disjoint (barCells : Finset (GSem nD τ sig)) scCells := by
  rw [Finset.disjoint_left]
  intro g h₁ h₂
  obtain ⟨c, -, rfl⟩ := Finset.mem_map.mp h₁
  obtain ⟨ci, -, h⟩ := Finset.mem_map.mp h₂
  exact osem_ne_bar ci.2 (congrArg Prod.snd h)

/-- The barriers' counters, by device. -/
theorem on_bars (Φ : GSem nD τ sig → sProp 𝕄) : bigSep barCells Φ = bigSep Finset.univ fun c : Dev nD => Φ (barCell c) :=
  bigSep_map (s := Finset.univ) barEmb
theorem on_scs (Φ : GSem nD τ sig → sProp 𝕄) :
    bigSep scCells Φ = bigSep Finset.univ fun c : Dev nD => bigSep Finset.univ fun i : Fin 29 => Φ ((c : Thread nD τ), osem i) := by
  unfold scCells; rw [bigSep_map, bigSep_univ_prod]; rfl

theorem fund : iprop((bigSep Finset.univ fun c : Dev nD => semVal (barCell c) 0) ∗ BI.own (ER (launchOf barCells scCells talkToks)))
    ⊢ (|={Set.univ}=> ∃ K, book P T K ∗ bigSep Finset.univ fun c : Dev nD => lin c : sProp 𝕄) := by
  iintro ⟨Hv, Hu⟩
  imod (Rounds.fund_launch ER (rd P T) cells_apart (fun g _ h => h) talkToks) $$ [Hv Hu] with ⟨%κ, -, #Hinv, #Hr, Hat, Hopen, Htok⟩
  · isplitl [Hv]
    · iapply (Entails.of_eq (on_bars fun g => (semVal g 0 : sProp 𝕄)).symm) $$ Hv
    · iexact Hu
  imodintro
  iexists κ
  isplitr
  · unfold book
    isplitr; · iexact Hinv
    iexact Hr
  ihave Hat := (Entails.of_eq (on_bars fun g => (atPos ER g 0 ∅ 0 : sProp 𝕄))) $$ Hat
  ihave Hopen := (Entails.of_eq (on_scs fun g => (openTok ER g : sProp 𝕄))) $$ Hopen
  ihave Htok := (Entails.of_eq toks_dealt) $$ Htok
  unfold lin
  iapply (Entails.of_eq (bigSep_sep' _ _ _).symm)
  isplitl [Hat]; · iexact Hat
  iapply (Entails.of_eq (bigSep_sep' _ _ _).symm)
  isplitl [Hopen]; · iexact Hopen
  iexact Htok

theorem have_talk (K : GSem nD τ sig → ℕ) (c : Dev nD) : iprop(book P T K ∗ (lin c ∗ Pipeline.launchCred O₀ c)) ⊢ (Tk P T c : sProp 𝕄) := by
  rw [creds_launch]
  unfold Tk
  iintro ⟨#HB, Hl, Hc⟩
  isplitl [Hl]
  · iexists K
    isplitr; · iexact HB
    iexact Hl
  iexact Hc

/-- What each device has for the talk. -/
theorem fund_all : iprop((bigSep Finset.univ fun c : Dev nD => iprop(semVal (barCell c) 0 ∗ Pipeline.launchCred O₀ c)) ∗ BI.own (ER (launchOf barCells scCells talkToks)))
    ⊢ (|={Set.univ}=> bigSep Finset.univ fun c : Dev nD => Tk P T c : sProp 𝕄) := by
  iintro ⟨H, Hu⟩
  ihave H := (Entails.of_eq (bigSep_sep' _ _ _)) $$ H
  icases H with ⟨Hv, Hc⟩
  imod (fund P T) $$ [Hv Hu] with H
  · isplitl [Hv]; · iexact Hv
    iexact Hu
  icases H with ⟨%K, #HB, Hl⟩
  imodintro
  ihave H := (Entails.of_eq (bigSep_sep' Finset.univ (Φ := fun c : Dev nD => (lin c : sProp 𝕄)) (Ψ := fun c => Pipeline.launchCred O₀ c)).symm) $$ [Hl Hc]
  · isplitl [Hl]; · iexact Hl
    iexact Hc
  iapply (bigSep_with_persistent (R := book P T K) fun c _ => have_talk P T K c)
  isplitr; · iexact HB
  iexact H

end Cert.KernelIdeal.Talk

end
-- ==== Proof.Run.lean ====
module

public import proofs.«01_k».proof.Proof.Call
public import proofs.«01_k».proof.Proof.Fund

/-!
The whole program's run: it ends, the arguments as they were, the result in place, every semaphore at zero.
-/

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F] [Named F]

local notation "𝕄" => MT nD τ sig Unit (Elt F) ℕ UU ℕ

variable (m : (ℓ : Loc nD τ sig) → Buf (Elt F) ℓ) (ρ : Dev nD → PrngReg)

/-- The buffers before the call. -/
abbrev VV : Vals F := V7 m

/-- What a device has beside its buffers before the call, and after. -/
def E (s : Fin 2) (c : Dev nD) : sProp 𝕄 :=
  if s = 0 then iprop((∃ r, prngReg c r) ∗ Tk (PP (VV m)) (TT (VV m)) c ∗ ow c (O₀ c)) else iprop(semVal (barCell c) 0 ∗ ow c 0)

/-- The start of the run, by parts. -/
def u₀ : UU :=
  (initOf (Pipeline.cells (Pipeline.pin (pcfgs (F := F)) adm) cellOf_inj) (Pipeline.launchToks (Pipeline.pin (pcfgs (F := F)) adm) cellOf_inj),
    launchOf barCells scCells talkToks)

def onDev (X : sProp 𝕄) (c : Dev nD) : sProp 𝕄 := if c = 0 then X else iprop(emp)
theorem onDev_all (X : sProp 𝕄) : bigSep Finset.univ (onDev X) = X := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev (BI.own (ER (launchOf barCells scCells talkToks)))

theorem G_all : (bigSep Finset.univ G : sProp 𝕄) = BI.own (ER (launchOf barCells scCells talkToks)) := onDev_all _

theorem start : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ G) := by
  unfold u₀ G
  iintro Hu
  ihave H := (ownU_pair _ _) $$ Hu
  icases H with ⟨HP, HX⟩
  imodintro
  isplitl [HP]; · iexact HP
  rw [onDev_all]; iexact HX

theorem bar_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

/-- What a device starts with beside its buffers. -/
abbrev given (c : Dev nD) : sProp 𝕄 :=
  iprop(unscopedSems0 c ∗ owes (c : Thread nD τ) (O₀ c) ∅ ∗ Pipeline.launchCred O₀ c ∗ prngReg c (ρ c) ∗ G c)

theorem given_split (c : Dev nD) : given ρ c
    ⊢ (iprop(((semVal (barCell c) 0 ∗ Pipeline.launchCred O₀ c) ∗ G c) ∗ ((∃ r, prngReg c r) ∗ ow c (O₀ c))) : sProp 𝕄) := by
  unfold given ow
  rw [bar_sems]
  iintro ⟨Hb, HO, Hc, Hp, HG⟩
  isplitr [HO Hp]
  · isplitr [HG]
    · isplitl [Hb]; · iexact Hb
      iexact Hc
    iexact HG
  isplitl [Hp]; · iexists (ρ c); iexact Hp
  iexists ∅; iexact HO

theorem E_intro (c : Dev nD) : iprop(Tk (PP (VV m)) (TT (VV m)) c ∗ ((∃ r, prngReg c r) ∗ ow c (O₀ c))) ⊢ (E m 0 c : sProp 𝕄) := by
  unfold E; rw [if_pos rfl]
  iintro ⟨HT, Hp, HO⟩
  isplitl [Hp]; · iexact Hp
  isplitl [HT]; · iexact HT
  iexact HO

theorem given_parts : (bigSep Finset.univ fun c : Dev nD => given ρ c)
    ⊢ (bigSep Finset.univ fun c : Dev nD => iprop(((semVal (barCell c) 0 ∗ Pipeline.launchCred O₀ c) ∗ G c) ∗ ((∃ r, prngReg c r) ∗ ow c (O₀ c))) : sProp 𝕄) :=
  bigSep_mono fun c _ => given_split ρ c

theorem E_all : (bigSep Finset.univ fun c : Dev nD => iprop(Tk (PP (VV m)) (TT (VV m)) c ∗ ((∃ r, prngReg c r) ∗ ow c (O₀ c))))
    ⊢ (bigSep Finset.univ (E m 0) : sProp 𝕄) :=
  bigSep_mono fun c _ => E_intro m c

theorem given_all : (bigSep Finset.univ fun c : Dev nD => given ρ c)
    ⊢ (|={Set.univ}=> bigSep Finset.univ (E m 0) : sProp 𝕄) := by
  iintro H
  ihave H := (given_parts ρ) $$ H
  ihave H := (Entails.of_eq (bigSep_sep' _ _ _)) $$ H
  icases H with ⟨H, Hx⟩
  ihave H := (Entails.of_eq (bigSep_sep' _ _ _)) $$ H
  icases H with ⟨H, HG⟩
  ihave HG := (Entails.of_eq G_all) $$ HG
  imod (fund_all (PP (VV m)) (TT (VV m))) $$ [H HG] with H
  · isplitl [H]; · iexact H
    iexact HG
  imodintro
  iapply (E_all m)
  iapply (Entails.of_eq (bigSep_sep' _ _ _).symm)
  isplitl [H]; · iexact H
  iexact Hx

variable [∀ e, Nonempty (Elt F e)]

theorem arr_sub : Pipeline.arrRefs spec0 ⊆ Pipeline.ucRefs τ sig := Pipeline.arrRefs_sub_ucRefs spec0 winFacts0.arr_unscoped

theorem pre_call (c : Dev nD) : iprop(StableHlo.held (c : Thread nD τ) (Pipeline.ucRefs τ sig) (V7 m c) ∗ E m 0 c) ⊢ ((call (VV m)).pre c : sProp 𝕄) := by
  rw [StableHlo.held_sub_split (c : Thread nD τ) arr_sub (V7 m c)]
  unfold E; rw [if_pos rfl]
  unfold ow
  show _ ⊢ iprop(StableHlo.held (c : Thread nD τ) (Pipeline.arrRefs spec0) (V7 m c) ∗ (∃ r, prngReg c r)
    ∗ (StableHlo.held (c : Thread nD τ) rest (V7 m c) ∗ emp) ∗ Tk (PP (VV m)) (TT (VV m)) c ∗ ∃ Wd, owes (c : Thread nD τ) (0 + O₀ c) Wd)
  rw [zero_add]
  iintro ⟨⟨Ha, Hr⟩, Hp, HT, ⟨%W, HO⟩⟩
  isplitl [Ha]; · iexact Ha
  isplitl [Hp]; · iexact Hp
  isplitl [Hr]
  · isplitl [Hr]; · iexact Hr
    iempintro
  isplitl [HT]; · iexact HT
  iexists W; iexact HO

theorem post_call (c : Dev nD) : ((call (VV m)).post c : sProp 𝕄)
    ⊢ iprop((StableHlo.held (c : Thread nD τ) (Pipeline.ucRefs τ sig) (after (VV m) c) ∗ semVal (barCell c) 0) ∗ ∃ W, owes (c : Thread nD τ) (0 : CellTallies nD τ sig Unit) W) := by
  rw [StableHlo.held_sub_split (c : Thread nD τ) arr_sub (after (VV m) c)]
  show iprop(StableHlo.held (c : Thread nD τ) (Pipeline.arrRefs spec0) (after (VV m) c) ∗ (∃ r, prngReg c r)
    ∗ (StableHlo.held (c : Thread nD τ) rest (after (VV m) c) ∗ emp) ∗ semVal (barCell c) 0 ∗ ∃ Wd, owes (c : Thread nD τ) (0 : CellTallies nD τ sig Unit) Wd) ⊢ _
  iintro ⟨Ha, -, ⟨Hr, -⟩, Hb, HO⟩
  isplitr [HO]
  · isplitr [Hb]
    · isplitl [Ha]; · iexact Ha
      iexact Hr
    iexact Hb
  iexact HO

theorem arg_kept (c : Dev nD) (r : Ref sig .tc) (h : r ∉ ([main_v38] : List (Ref sig .tc))) : after (VV m) c (Proc.devRef .tc r) = V7 m c (Proc.devRef .tc r) := by
  unfold after
  exact Function.update_of_ne (StableHlo.devRef_ne_of_ne (List.ne_of_not_mem_cons h)) _ _

/-- Any result at all, for the library's statements about the arguments. -/
abbrev outs₀ : Outs (F := F) := fun _ r c => V7 m c r

theorem keep0 (c : Dev nD) : after (VV m) c main_arg0 = m ((c : Thread nD τ).loc main_arg0) :=
  (arg_kept m c main_arg0 (by decide)).trans ((V8_of m (outs₀ m) c main_arg0 (by decide)).symm.trans (V8_main_arg0 m (outs₀ m) c))
theorem keep1 (c : Dev nD) : after (VV m) c main_arg1 = m ((c : Thread nD τ).loc main_arg1) :=
  (arg_kept m c main_arg1 (by decide)).trans ((V8_of m (outs₀ m) c main_arg1 (by decide)).symm.trans (V8_main_arg1 m (outs₀ m) c))
theorem keep2 (c : Dev nD) : after (VV m) c main_arg2 = m ((c : Thread nD τ).loc main_arg2) :=
  (arg_kept m c main_arg2 (by decide)).trans ((V8_of m (outs₀ m) c main_arg2 (by decide)).symm.trans (V8_main_arg2 m (outs₀ m) c))
theorem keep3 (c : Dev nD) : after (VV m) c main_arg3 = m ((c : Thread nD τ).loc main_arg3) :=
  (arg_kept m c main_arg3 (by decide)).trans ((V8_of m (outs₀ m) c main_arg3 (by decide)).symm.trans (V8_main_arg3 m (outs₀ m) c))
theorem keep4 (c : Dev nD) : after (VV m) c main_arg4 = m ((c : Thread nD τ).loc main_arg4) :=
  (arg_kept m c main_arg4 (by decide)).trans ((V8_of m (outs₀ m) c main_arg4 (by decide)).symm.trans (V8_main_arg4 m (outs₀ m) c))
theorem made (c : Dev nD) : after (VV m) c main_v38 = outAt (VV m) := by
  unfold after
  exact Function.update_self (β := fun b : DevRef τ sig => b.ty.Contents (Elt F)) (Proc.devRef .tc main_v38) (outAt (VV m)) (VV m c)

/-- What the memory of one device is at the end. -/
def Ends (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_v38) = outAt (VV m)
  ∧ s.sem (barCell c) = 0

theorem uc (r : Ref sig .tc) (h : (Proc.devRef .tc r : DevRef τ sig).isScoped = false) : (Proc.devRef .tc r : DevRef τ sig) ∈ Pipeline.ucRefs τ sig :=
  Finset.mem_filter.mpr ⟨StableHlo.devRef_mem_tcRefs r, by simpa using h⟩

theorem read_end (c : Dev nD) (s : Phys nD τ sig (Elt F)) :
    iprop((StableHlo.held (c : Thread nD τ) (Pipeline.ucRefs τ sig) (after (VV m) c) ∗ semVal (barCell c) 0) ∗ SI s) ⊢ (|={Set.univ}=> iprop(⌜Ends m c s.mem⌝ ∗ SI s) : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (after (VV m) c) s) $$ [Hh HSI]
  · isplitl [Hh] <;> iassumption
  icases Hr with ⟨%h, HSI⟩
  imodintro
  isplitr
  · ipureintro
    exact ⟨(h _ (uc main_arg0 (by decide))).trans (keep0 m c), (h _ (uc main_arg1 (by decide))).trans (keep1 m c),
      (h _ (uc main_arg2 (by decide))).trans (keep2 m c), (h _ (uc main_arg3 (by decide))).trans (keep3 m c),
      (h _ (uc main_arg4 (by decide))).trans (keep4 m c), (h _ (uc main_v38 (by decide))).trans (made m c), by simpa using hb⟩
  iexact HSI

theorem begins : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c)) ∗ levAts L lv)
    ⊢ (|={Set.univ}=> bigSep Finset.univ fun c : Dev nD => iprop(StableHlo.held (c : Thread nD τ) (Pipeline.ucRefs τ sig) (V0 m c) ∗ E m 0 c) : sProp 𝕄) := by
  have hsplit : (bigSep Finset.univ fun c : Dev nD => iprop(unscopedBufs c (fun b => m ((c : Thread nD τ).loc b)) ∗ given ρ c))
      ⊢ (iprop((bigSep Finset.univ fun c : Dev nD => StableHlo.held (c : Thread nD τ) (Pipeline.ucRefs τ sig) (V0 m c)) ∗ bigSep Finset.univ fun c : Dev nD => given ρ c) : sProp 𝕄) := by
    rw [← bigSep_sep']
    exact bigSep_mono fun c _ => by rw [← Pipeline.unscopedBufs_held (Ix := Unit) (Name := ℕ) (U := UU) (Lvl := ℕ) c (V0 m c)]; exact BI.Entails.refl _
  iintro ⟨H, -⟩
  ihave H := hsplit $$ H
  icases H with ⟨Hh, Hr⟩
  imod (given_all m ρ) $$ Hr with HE
  imodintro
  rw [bigSep_sep']
  isplitl [Hh]; · iexact Hh
  iexact HE

set_option backward.isDefEq.respectTransparency.types false in
/-- The run of `@main` on the eight devices. -/
theorem main_run : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats (VV m)) () cellOf_inj EP defs₀ Variants.none L lv m ρ main
    (segs m Variants.none L lv (E m) () (pdats (VV m)) (call (VV m)))
    (fun c Q => by
      rewrite [main_chain c, Seg.run_eq_chain,
        show (segs m Variants.none L lv (E m) () (pdats (VV m)) (call (VV m)) c).map Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G u₀ start
    (T₀ := fun c => iprop(StableHlo.held (c : Thread nD τ) (Pipeline.ucRefs τ sig) (V0 m c) ∗ E m 0 c))
    (Tₙ := fun c => iprop(StableHlo.held (c : Thread nD τ) (Pipeline.ucRefs τ sig) (after (VV m) c) ∗ semVal (barCell c) 0))
    (hch := fun c => ⟨.rfl, .rfl, .rfl, .rfl, .rfl, .rfl, .rfl, pre_call m c, post_call m c⟩)
    (hinit := begins m ρ) (QY := Ends m) (hfin := read_end m)
    (hQ := fun s h hs => ⟨h, sem_eq_zero hs fun c sm hsm => by
      obtain rfl := unscoped_eq sm hsm
      exact (h c).2.2.2.2.2.2⟩)

end Cert.KernelIdeal.Talk

end
-- ==== Proof.Same.lean ====
module

public import proofs.«01_k».proof.Proof.Run
public import proofs.«01_k».proof.Proof.Gen.Kernel
public import proofs.«01_k».proof.Proof.Gen.KernelIdeal
public import proofs.«01_k».proof.Proof.Gen.Kernel.Launch
public import proofs.«01_k».proof.Proof.Gen.KernelIdeal.Launch
public import Idealize.ShloMosaic.Lib.StableHlo.RunHlo

/-!
The two printings of the kernel are one program, once the named constant is read as the word it is printed from.
-/

@[expose] public section

noncomputable section

namespace Cert.Same

open Idealize.ShloMosaic Idealize.ShloMosaic.TcCoe

variable {F : FTy → Type} [FloatOps F]

/-- A named constant read as its word. -/
@[reducible] def lit : Named F := ⟨fun _ _ _ b => Scalar.ofBits _ b⟩

attribute [local instance] lit

theorem ops0 (c) : Cert.KernelIdeal.Gen.hostOps0 (F := F) c = Cert.Kernel.Gen.hostOps0 (F := F) c := rfl
theorem ops1 : Cert.KernelIdeal.Gen.hostOps0_1 (F := F) = Cert.Kernel.Gen.hostOps0_1 (F := F) := rfl
theorem ops2 : Cert.KernelIdeal.Gen.hostOps0_2 (F := F) = Cert.Kernel.Gen.hostOps0_2 (F := F) := rfl
theorem ops3 : Cert.KernelIdeal.Gen.hostOps0_3 (F := F) = Cert.Kernel.Gen.hostOps0_3 (F := F) := rfl
theorem ops4 : Cert.KernelIdeal.Gen.hostOps0_4 (F := F) = Cert.Kernel.Gen.hostOps0_4 (F := F) := rfl
theorem ops5 : Cert.KernelIdeal.Gen.hostOps0_5 (F := F) = Cert.Kernel.Gen.hostOps0_5 (F := F) := rfl
theorem ops6 : Cert.KernelIdeal.Gen.hostOps0_6 (F := F) = Cert.Kernel.Gen.hostOps0_6 (F := F) := rfl

theorem pcfgs_same : Cert.KernelIdeal.pcfgs (F := F) = Cert.Kernel.pcfgs (F := F) := rfl

set_option maxRecDepth 65536 in
set_option maxHeartbeats 2000000 in
theorem main_same : Cert.KernelIdeal.main (F := F) = Cert.Kernel.main (F := F) := by
  funext c
  refine (Cert.KernelIdeal.Gen.main_chain (F := F) c).trans (Eq.trans ?_ (Cert.Kernel.Gen.main_chain (F := F) c).symm)
  rw [ops0, ops1, ops2, ops3, ops4, ops5, ops6]

set_option maxRecDepth 65536 in
set_option maxHeartbeats 2000000 in
theorem body_same : Cert.KernelIdeal.cc0_body (F := F) = Cert.Kernel.cc0_body (F := F) := rfl

set_option maxRecDepth 65536 in
set_option maxHeartbeats 2000000 in
theorem defs₀_same : Cert.KernelIdeal.defs₀ (F := F) = Cert.Kernel.defs₀ (F := F) := by
  unfold Cert.KernelIdeal.defs₀ Cert.Kernel.defs₀
  rw [body_same]
  refine congrArg Defs.onTc (funext fun l => funext fun a => ?_)
  obtain ⟨n, h⟩ := l
  cases n with
  | zero => obtain ⟨t, s⟩ := a; rfl
  | succ n => exact absurd h (Nat.not_lt.2 (Nat.le_add_left _ _))

set_option maxRecDepth 65536 in
set_option maxHeartbeats 2000000 in
theorem defs_same : Cert.KernelIdeal.defs (F := F) = Cert.Kernel.defs (F := F) := by
  unfold Cert.KernelIdeal.defs Cert.Kernel.defs
  rw [defs₀_same]
  rfl

open Cert.Kernel in
/-- The kernel as printed ends, its arguments as they were and every semaphore at zero. -/
theorem frame_run [∀ e, Nonempty (Elt F e)] (m : (ℓ : Loc nD τ sig) → Buf (Elt F) ℓ) (g : Dev nD → PrngReg) :
    θ_run (defs (F := F)) (onTc (τ := τ) (main (F := F))) ⟨m, fun _ => 0, g⟩ (fun r => (∀ c : Dev nD,
        r.2.mem (c.tc.loc main_arg0) = m (c.tc.loc main_arg0) ∧ r.2.mem (c.tc.loc main_arg1) = m (c.tc.loc main_arg1)
        ∧ r.2.mem (c.tc.loc main_arg2) = m (c.tc.loc main_arg2) ∧ r.2.mem (c.tc.loc main_arg3) = m (c.tc.loc main_arg3)
        ∧ r.2.mem (c.tc.loc main_arg4) = m (c.tc.loc main_arg4)) ∧ r.2.sem = fun _ => 0) := by
  have h := Cert.KernelIdeal.Talk.main_run (F := F) m g
  rw [main_same] at h
  rw [← defs_same]
  exact θ_run_mono h fun r h => ⟨fun c => ⟨(h.1 c).1, (h.1 c).2.1, (h.1 c).2.2.1, (h.1 c).2.2.2.1, (h.1 c).2.2.2.2.1⟩, h.2⟩

end Cert.Same

end
-- ==== Proof.RefRun.lean ====
module

public import proofs.«01_k».proof.Defs
public import proofs.«01_k».proof.Proof.Gen.ReferenceIdeal
public import Idealize.ShloMosaic.Lib.StableHlo.RunHlo
public import Idealize.ShloMosaic.Lib.StableHlo.RunRead
public import Idealize.ShloMosaic.Lib.Quiescent

/-!
The reference's run: a line of host operations, read off its printed text.
-/

@[expose] public section

noncomputable section

namespace Cert.ReferenceIdeal.Line

open Cert.ReferenceIdeal Cert.ReferenceIdeal.Gen
open Idealize.ShloMosaic Idealize.ShloMosaic.TcCoe Idealize.SL.Sem

variable {F : FTy → Type} [FloatOps F] [Named F]

set_option maxRecDepth 65536 in
set_option maxHeartbeats 8000000 in
theorem line : ∃ ops : List (HloOp τ sig (Elt F)), (∀ d, StableHlo.IsSeq (main (F := F) d) ops)
    ∧ (ops.Forall fun op => op.bufs ⊆ StableHlo.tcRefs τ sig) ∧ (∀ op ∈ ops, op.fresh = ∅)
    ∧ ∀ V : Valuation τ sig (Elt F), StableHlo.after ops V main_arg0 = V main_arg0 ∧ StableHlo.after ops V main_arg1 = V main_arg1
      ∧ StableHlo.after ops V main_arg2 = V main_arg2 ∧ StableHlo.after ops V main_arg3 = V main_arg3 ∧ StableHlo.after ops V main_arg4 = V main_arg4 := by
  refine ⟨_, by hlo_seq, by simp, ?_, ?_⟩
  · intro _ h; (repeat (cases h with | head => rfl | tail _ h => ?_)); exact nomatch h
  · intro V
    refine ⟨?_, ?_, ?_, ?_, ?_⟩ <;> after_reads_simp

theorem frame_run (m : (ℓ : Loc nD τ sig) → Buf (Elt F) ℓ) (g : Dev nD → PrngReg) :
    θ_run (defs (F := F)) (onTc (τ := τ) (main (F := F))) ⟨m, fun _ => 0, g⟩ (fun r => (∀ c : Dev nD,
        r.2.mem (c.tc.loc main_arg0) = m (c.tc.loc main_arg0) ∧ r.2.mem (c.tc.loc main_arg1) = m (c.tc.loc main_arg1)
        ∧ r.2.mem (c.tc.loc main_arg2) = m (c.tc.loc main_arg2) ∧ r.2.mem (c.tc.loc main_arg3) = m (c.tc.loc main_arg3)
        ∧ r.2.mem (c.tc.loc main_arg4) = m (c.tc.loc main_arg4)) ∧ r.2.sem = fun _ => 0) := by
  obtain ⟨ops, hmain, hS, hf, hV⟩ := line (F := F)
  refine θ_run_mono (StableHlo.run_hlo (defs (F := F)) main hmain (by decide) (by decide) hS hf m g) fun r h => ⟨fun c => ?_, sem_eq_zero_of_no_sems (by decide) r.2⟩
  obtain ⟨h0, h1, h2, h3, h4⟩ := hV (StableHlo.launchContents m c)
  exact ⟨(h c main_arg0).trans h0, (h c main_arg1).trans h1, (h c main_arg2).trans h2, (h c main_arg3).trans h3, (h c main_arg4).trans h4⟩

end Cert.ReferenceIdeal.Line

end
-- ==== Proof.Attn.lean ====
module

public import Idealize.ShloMosaic.Lib.Pointwise

/-!
The mathematics: attention with a mask, over the extended reals, and the sum over all heads cut into the devices' shares.
-/

@[expose] public section

noncomputable section

namespace Cert.Attn

open Idealize.ShloMosaic

/-- The greatest score of a row. -/
def rowMax (s : Fin 512 → EReal) : EReal := Finset.univ.fold max (Ideal.ofBits .f32 0xFF800000#32) s

/-- A key's weight. -/
def weight (s : Fin 512 → EReal) (j : Fin 512) : EReal := Ideal.exp (s j - rowMax s)

/-- A key's share of the row. -/
def chance (s : Fin 512 → EReal) (j : Fin 512) : EReal := Ideal.div (weight s j) (∑ k, weight s k)

/-- A score, kept where the mask says so. -/
def score (keep : BitVec 1) (a : EReal) : EReal := if keep = 1#1 then a * Ideal.ofBits .f32 0x3E000000#32 else ⊥

variable (mask : Fin 512 → Fin 512 → BitVec 1) (x : Fin 2 → Fin 512 → Fin 768 → EReal)

/-- One head's mix of values at row `i`, entry `d`: `wq` is the head's 64 columns of the query weights, `k` and `v` its keys and values. -/
def head (wq : Fin 768 → Fin 64 → EReal) (k v : Fin 2 → Fin 512 → Fin 64 → EReal) (b : Fin 2) (i : Fin 512) (d : Fin 64) : EReal :=
  ∑ j : Fin 512, chance (fun j => score (mask i j) (∑ e : Fin 64, (∑ a : Fin 768, x b i a * wq a e) * k b j e)) j * v b j d

/-- Head `h`'s entry `d`, among the 4096 columns. -/
def col (h d : Fin 64) : Fin 4096 := ⟨h.val * 64 + d.val, by omega⟩

/-- Device `c`'s head `h`, among the 64. -/
def hd (c h : Fin 8) : Fin 64 := ⟨8 * c.val + h.val, by omega⟩

/-- The sum over one device's columns, head by head. -/
theorem sum_heads (f : Fin 512 → EReal) : ∑ e, f e = ∑ h : Fin 8, ∑ d : Fin 64, f ⟨64 * h.val + d.val, by omega⟩ := by
  rw [← Fintype.sum_prod_type' (f := fun (h : Fin 8) (d : Fin 64) => f ⟨64 * h.val + d.val, by omega⟩)]
  refine (Fintype.sum_equiv (finProdFinEquiv (m := 8) (n := 64)) (fun p => f ⟨64 * p.1.val + p.2.val, by omega⟩) f fun p => congrArg f (Fin.ext ?_)).symm
  simp only [finProdFinEquiv_apply_val]; omega

/-- The sum over all columns, device by device, head by head. -/
theorem sum_cols (f : Fin 4096 → EReal) : ∑ e, f e = ∑ c : Fin 8, ∑ h : Fin 8, ∑ d : Fin 64, f (col (hd c h) d) := by
  have h1 : ∑ e : Fin (64 * 64), f e = ∑ p : Fin 64 × Fin 64, f (col p.1 p.2) := by
    refine (Fintype.sum_equiv (finProdFinEquiv (m := 64) (n := 64)) (fun p => f (col p.1 p.2)) f fun p => congrArg f (Fin.ext ?_)).symm
    simp only [col, finProdFinEquiv_apply_val]; omega
  have h2 : ∀ g : Fin 64 → EReal, ∑ p : Fin (8 * 8), g p = ∑ c : Fin 8, ∑ h : Fin 8, g (hd c h) := by
    intro g
    rw [← Fintype.sum_prod_type' (f := fun c h => g (hd c h))]
    refine (Fintype.sum_equiv (finProdFinEquiv (m := 8) (n := 8)) (fun p => g (hd p.1 p.2)) g fun p => congrArg g (Fin.ext ?_)).symm
    simp only [hd, finProdFinEquiv_apply_val]; omega
  rw [← h2 fun q => ∑ d : Fin 64, f (col q d), ← Fintype.sum_prod_type' (f := fun q d => f (col q d))]
  exact h1

end Cert.Attn

end
-- ==== Proof.Head.lean ====
module

public import proofs.«01_k».proof.Proof.Attn
public import proofs.«01_k».proof.Proof.State

/-!
One device's block over the extended reals: each head's mix, and their product with the output weights.
-/

@[expose] public section

noncomputable section

namespace Cert.KernelIdeal.Talk

open Cert.KernelIdeal Cert.KernelIdeal.Gen Cert.Attn
open Idealize.ShloMosaic Idealize.ShloMosaic.TcCoe

set_option maxRecDepth 16384 in
set_option maxHeartbeats 1000000 in
theorem prob_at (h : Fin 8) (bias qa : FVec Ideal S128x512 .f32) (k : Vec Ideal S1x1x512x64 .bf16) (hs) (r : Fin 128) (j : Fin 512) :
    probOf h bias qa k hs (ix2 r j) = chance (fun j => (∑ d : Fin 64, qa (ix2 r ⟨64 * h.val + d.val, by omega⟩) * k (ix4 0 0 j d))
      * Ideal.ofBits .f32 0x3E000000#32 + bias (ix2 r j)) j := by
  pointwise [probOf, chance, weight, rowMax]

set_option maxRecDepth 16384 in
set_option maxHeartbeats 1000000 in
theorem ctx_at (h : Fin 8) (bias qa : FVec Ideal S128x512 .f32) (k v : Vec Ideal S1x1x512x64 .bf16) (r : Fin 128) (d : Fin 64) :
    ctxOf bias qa k v h (ix2 r d) = ∑ j : Fin 512, probOf h bias qa k (head_inb h) (ix2 r j) * v (ix4 0 0 j d) := by
  pointwise [ctxOf]

set_option maxRecDepth 16384 in
set_option maxHeartbeats 1000000 in
theorem merge_at (wo : FVec Ideal S512x768 .bf16) (c : Fin 8 → FVec Ideal S128x64 .f32) (r : Fin 128) (n : Fin 768) :
    mergeOf wo c (ix2 r n) = ∑ h : Fin 8, ∑ d : Fin 64, c h (ix2 r d) * wo (ix2 ⟨64 * h.val + d.val, by omega⟩ n) := by
  pointwise [mergeOf]
  rw [sum_heads]
  refine Finset.sum_congr rfl fun h _ => Finset.sum_congr rfl fun d _ => ?_
  obtain ⟨h, hh⟩ := h
  obtain ⟨d, hd⟩ := d
  interval_cases h <;> dsimp only <;> congr 1 <;>
    (split_ifs <;> first | omega | exact congrArg (fun z => c _ (ix2 r z)) (Fin.ext (by dsimp only; omega)))

end Cert.KernelIdeal.Talk

end
-- ==== Proof.Part.lean ====
module

public import proofs.«01_k».proof.Proof.Head
public import proofs.«01_k».proof.Proof.Region

/-!
One device's partial sums over the extended reals, as a sum over its heads, and what the devices' sums come to together.
-/

@[expose] public section

noncomputable section

namespace Cert.KernelIdeal.Talk

open Cert.KernelIdeal Cert.KernelIdeal.Gen Cert.Attn
open Idealize.ShloMosaic Idealize.ShloMosaic.TcCoe

/-- Row `r` of quarter `qt`. -/
def row (qt : Fin 4) (r : Fin 128) : Fin 512 := ⟨128 * qt.val + r.val, by omega⟩

section
variable (I : Ins Ideal)

theorem kL_at (b : Fin 2) (h : Fin 8) (j : Fin 512) (d : Fin 64) : I.kL b h (ix4 0 0 j d) = I.kt (ix4 b h j d) := by
  refine congrArg I.kt (funext fun a => Fin.ext ?_)
  match a with
  | 0 => exact (show b.val + 1 * 0 = b.val by omega)
  | 1 => exact (show h.val + 1 * 0 = h.val by omega)
  | 2 => exact (show 0 + 1 * j.val = j.val by omega)
  | 3 => exact (show 0 + 1 * d.val = d.val by omega)

theorem vL_at (b : Fin 2) (h : Fin 8) (j : Fin 512) (d : Fin 64) : I.vL b h (ix4 0 0 j d) = I.vt (ix4 b h j d) := by
  refine congrArg I.vt (funext fun a => Fin.ext ?_)
  match a with
  | 0 => exact (show b.val + 1 * 0 = b.val by omega)
  | 1 => exact (show h.val + 1 * 0 = h.val by omega)
  | 2 => exact (show 0 + 1 * j.val = j.val by omega)
  | 3 => exact (show 0 + 1 * d.val = d.val by omega)

theorem xL_at (b : Fin 2) (qt : Fin 4) (r : Fin 128) (a : Fin 768) : I.xL b qt (ix3 0 r a) = I.x (ix3 b (row qt r) a) := by
  refine congrArg I.x (funext fun i => Fin.ext ?_)
  match i with
  | 0 => exact (show b.val + 1 * 0 = b.val by omega)
  | 1 => exact (show 128 * qt.val + 1 * r.val = 128 * qt.val + r.val by omega)
  | 2 => exact (show 0 + 1 * a.val = a.val by omega)

theorem wqL_at (a : Fin 768) (e : Fin 512) : I.wqL (ix2 a e) = I.wq (ix2 a e) := by
  have h : cutR I.wq (Rect.unit ![0, 0] S768x512.size wq_inb) (ix2 a e) = I.wq (ix2 a e) := by
    refine congrArg I.wq (funext fun i => Fin.ext ?_)
    match i with
    | 0 => exact (show 0 + 1 * a.val = a.val by omega)
    | 1 => exact (show 0 + 1 * e.val = e.val by omega)
  rw [← h]
  unfold Ins.wqL
  generalize cutR I.wq _ = g
  pointwise [k0_pay1]

theorem woL_at (e : Fin 512) (n : Fin 768) : I.woL (ix2 e n) = I.wo (ix2 e n) := by
  have h : cutR I.wo (Rect.unit ![0, 0] S512x768.size wo_inb) (ix2 e n) = I.wo (ix2 e n) := by
    refine congrArg I.wo (funext fun i => Fin.ext ?_)
    match i with
    | 0 => exact (show 0 + 1 * e.val = e.val by omega)
    | 1 => exact (show 0 + 1 * n.val = n.val by omega)
  rw [← h]
  unfold Ins.woL
  generalize cutR I.wo _ = g
  pointwise [k0_pay2]

theorem named_mask : Named.named (F := Ideal) κ "mask" (φ := .f32) 0xCE6E6B28#32 = (⊥ : EReal) :=
  IdealRules.named_const.ideal_named_scalar _ _ _ _ rfl

theorem bias_at (keep : Fin 512 → Fin 512 → BitVec 1) (hm : ∀ i j, I.mask (ix2 i j) = if keep i j = 1#1 then (1 : EReal) else 0)
    (qt : Fin 4) (r : Fin 128) (j : Fin 512) : I.bias qt (ix2 r j) = if keep (row qt r) j = 1#1 then (0 : EReal) else ⊥ := by
  have h : cutR I.mask (Rect.unit ![128 * qt.val, 0] S128x512.size (mask_inb qt)) (ix2 r j) = I.mask (ix2 (row qt r) j) := by
    refine congrArg I.mask (funext fun i => Fin.ext ?_)
    match i with
    | 0 => exact (show 128 * qt.val + 1 * r.val = 128 * qt.val + r.val by omega)
    | 1 => exact (show 0 + 1 * j.val = j.val by omega)
  rw [hm] at h
  have hx : ∀ g : Vec Ideal S128x512 .f32, k0_pay3 g (ix2 r j) = if g (ix2 r j) ≠ (0 : EReal) then (0 : EReal) else ⊥ := by
    intro g
    pointwise [k0_pay3, named_mask]
  unfold Ins.bias
  rw [hx, h]
  split <;> simp

theorem q_at (b : Fin 2) (qt : Fin 4) (r : Fin 128) (e : Fin 512) :
    k0_pay18 I.wqL (I.xL b qt) (ix2 r e) = ∑ a : Fin 768, I.x (ix3 b (row qt r) a) * I.wq (ix2 a e) := by
  simp only [← xL_at, ← wqL_at]
  generalize I.xL b qt = x
  generalize I.wqL = w
  pointwise [k0_pay18]

/-- One device's partial sums: its heads' mixes times their rows of the output weights. -/
theorem acc_value (keep : Fin 512 → Fin 512 → BitVec 1) (hm : ∀ i j, I.mask (ix2 i j) = if keep i j = 1#1 then (1 : EReal) else 0)
    (b : Fin 2) (i : Fin 512) (n : Fin 768) :
    I.acc (ix3 b i n) = ∑ h : Fin 8, ∑ d : Fin 64,
      head keep (fun b i a => I.x (ix3 b i a)) (fun a e => I.wq (ix2 a ⟨64 * h.val + e.val, by omega⟩))
        (fun b j e => I.kt (ix4 b h j e)) (fun b j e => I.vt (ix4 b h j e)) b i d * I.wo (ix2 ⟨64 * h.val + d.val, by omega⟩ n) := by
  have h1 : I.acc (ix3 b i n) = I.blk b ⟨i.val / 128, by omega⟩ (ix2 ⟨i.val % 128, by omega⟩ n) := by
    have h2 : ∀ (g : FVec Ideal S128x768 .f32) (r : Fin 128), k0_pay30 g (ix3 0 r n) = g (ix2 r n) := by
      intro g r
      pointwise [k0_pay30]
    refine Eq.trans ?_ (h2 (I.blk b ⟨i.val / 128, by omega⟩) ⟨i.val % 128, by omega⟩)
    refine congrArg (I.blk3 b _) (funext fun a => ?_)
    match a with
    | 0 => rfl
    | 1 => rfl
    | 2 => rfl
  have hr : row ⟨i.val / 128, by omega⟩ ⟨i.val % 128, by omega⟩ = i := Fin.ext (by simp only [row]; omega)
  have hs : ∀ (k : BitVec 1) (a : EReal), a * Ideal.ofBits .f32 0x3E000000#32 + (if k = 1#1 then (0 : EReal) else ⊥) = score k a := by
    intro k a
    unfold score
    split <;> simp
  rw [h1]
  unfold Ins.blk
  rw [merge_at]
  refine Finset.sum_congr rfl fun h _ => Finset.sum_congr rfl fun d _ => ?_
  simp only [ctx_at, prob_at, q_at, kL_at, vL_at, woL_at, bias_at I keep hm, hr, hs]
  rfl

/-- A row block's sums. -/
theorem chunk_value (ch : Fin 8) (b : Fin 2) (r : Fin 64) (n : Fin 768) :
    I.chunk ch (ix3 b r n) = I.acc (ix3 b ⟨64 * ch.val + r.val, by omega⟩ n) := by
  refine congrArg I.acc (funext fun a => Fin.ext ?_)
  match a with
  | 0 => exact (show 0 + 1 * b.val = b.val by omega)
  | 1 => exact (show 64 * ch.val + 1 * r.val = 64 * ch.val + r.val by omega)
  | 2 => exact (show 0 + 1 * n.val = n.val by omega)

end

theorem peers (c : Dev nD) : (Finset.univ : Finset (Dev nD)).erase c = Finset.univ.map ⟨pr c, fun _ _ => pr_inj c _ _⟩ := by revert c; decide

/-- A sum over the devices is a device's own term and its partners'. -/
theorem sum_devices (c : Dev nD) (f : Dev nD → EReal) : ∑ o, f o = f c + ∑ k, f (pr c k) := by
  rw [← Finset.add_sum_erase _ f (Finset.mem_univ c), peers, Finset.sum_map]; rfl

/-- The total of a row block: the sum of all devices' partial sums. -/
theorem total_value (J : Dev nD → Ins Ideal) (c : Dev nD) (ch : Fin 8) (b : Fin 2) (r : Fin 64) (n : Fin 768) :
    totalOf ((J c).chunk ch) (fun k => (J (pr c k)).part ch) (ix3 b r n) = ∑ o, (J o).acc (ix3 b ⟨64 * ch.val + r.val, by omega⟩ n) := by
  have h31 : ∀ g : Vec Ideal S2x64x768 .f32, k0_pay31 g (ix4 0 b r n) = g (ix3 b r n) := by
    intro g
    pointwise [k0_pay31]
  have hsum : ∀ (own : FVec Ideal S2x64x768 .f32) (g : Fin 7 → Vec Ideal S1x2x64x768 .bf16),
      k0_pay134 (k0_pay133 own (g 0) (g 1) (g 2) (g 3) (g 4)) (g 5) (g 6) (ix3 b r n) = own (ix3 b r n) + ∑ k, g k (ix4 0 b r n) := by
    intro own g
    rw [Fin.sum_univ_seven]
    pointwise! [k0_pay134, k0_pay133]
  rw [sum_devices c]
  simp only [← chunk_value]
  unfold totalOf Ins.part
  simp only [unsq_sq]
  exact (hsum _ fun k => k0_pay31 ((J (pr c k)).chunk ch)).trans (by simp only [h31])

/-- The result: everywhere the sum of all devices' partial sums. -/
theorem out_value (V : Vals Ideal) (b : Fin 2) (i : Fin 512) (n : Fin 768) :
    outAt V (ix3 b i n) = ∑ o, (insAt V o).acc (ix3 b i n) := by
  have h := total_value (insAt V) (rev ⟨i.val / 64, by omega⟩) ⟨i.val / 64, by omega⟩ b ⟨i.val % 64, by omega⟩ n
  have hi : (⟨64 * (i.val / 64) + i.val % 64, by omega⟩ : Fin 512) = i := Fin.ext (by simp only; omega)
  rw [hi] at h
  rw [← h]
  unfold outAt result stack TT PP
  simp only [rev_rev]
  rfl

end Cert.KernelIdeal.Talk

end
-- ==== Proof.RefMask.lean ====
module

public import proofs.«01_k».proof.Proof.Gen.ReferenceIdeal
public import Idealize.ShloMosaic.Lib.Pointwise
public import Idealize.ShloMosaic.PureOps.Reduce
public import Idealize.ShloMosaic.Lib.Routing.OpsOrder

/-!
The mask: which keys a row attends to. Every row keeps the first key, so no row is empty.
-/

@[expose] public section

noncomputable section

namespace Cert.ReferenceIdeal.Math

open Cert.ReferenceIdeal Cert.ReferenceIdeal.Gen Idealize.ShloMosaic Idealize.ShloMosaic.TcCoe

/-- The block of each position: its number divided by 64, rounded down. -/
def blockOf : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32)))) (broadcastInDim S512 ![] bcast_S_S512 (constantI S_ 32 0#32))))
    (subi (Host.divsi (iotaInDim S512 32 0) (broadcastInDim S512 ![] bcast_S_S512 (id (constantI S_ 32 64#32)))) (broadcastInDim S512 ![] bcast_S_S512 (constantI S_ 32 1#32)))
    (Host.divsi (iotaInDim S512 32 0) (broadcastInDim S512 ![] bcast_S_S512 (id (constantI S_ 32 64#32))))

def rowBlock : IVec S512x512 32 := broadcastInDim S512x512 ![0, 1] bcast_S512x1_S512x512_0_1 (broadcastInDim S512x1 ![0] bcast_S512_S512x1_0 blockOf)
def colLine : IVec S1x512 32 := broadcastInDim S1x512 ![1] bcast_S512_S1x512_1 blockOf
def colBlock : IVec S512x512 32 := broadcastInDim S512x512 ![0, 1] bcast_S1x512_S512x512_0_1 colLine

/-- The divisor three, as it is guarded against zero. -/
def three : IVec S_ 32 := select (cmpi .eq (id (constantI S_ 32 3#32)) (constantI S_ 32 0#32)) (constantI S_ 32 1#32) (id (constantI S_ 32 3#32))

/-- The remainder by three, of the divisor's sign. -/
def modThree (x : IVec S512x512 32) : IVec S512x512 32 :=
  select (andi (cmpi .ne (cmpi .slt (Host.remsi x (broadcastInDim S512x512 ![] bcast_S_S512x512 three)) (broadcastInDim S512x512 ![] bcast_S_S512x512 (constantI S_ 32 0#32)))
        (broadcastInDim S512x512 ![] bcast_S_S512x512 (cmpi .slt three (constantI S_ 32 0#32))))
      (cmpi .ne (Host.remsi x (broadcastInDim S512x512 ![] bcast_S_S512x512 three)) (broadcastInDim S512x512 ![] bcast_S_S512x512 (constantI S_ 32 0#32))))
    (addi (Host.remsi x (broadcastInDim S512x512 ![] bcast_S_S512x512 three)) (broadcastInDim S512x512 ![] bcast_S_S512x512 three))
    (Host.remsi x (broadcastInDim S512x512 ![] bcast_S_S512x512 three))

/-- A key of the row's own block, or of the first one. -/
def near : IVec S512x512 1 :=
  ori (cmpi .eq rowBlock colBlock) (broadcastInDim S512x512 ![0, 1] bcast_S1x512_S512x512_0_1 (cmpi .eq colLine (broadcastInDim S1x512 ![] bcast_S_S1x512 (constantI S_ 32 0#32))))

/-- The mask: a near key, or one whose block's number and the row's add to a multiple of three. -/
def mask : IVec S512x512 1 :=
  ori near (cmpi .eq (modThree (addi rowBlock colBlock)) (broadcastInDim S512x512 ![] bcast_S_S512x512 (constantI S_ 32 0#32)))

/-- Whether row `i` keeps key `j`. -/
def keep (i j : Fin 512) : BitVec 1 := mask (ix2 i j)

theorem near_zero (i : Fin 512) : near (ix2 i 0) = 1#1 := by
  pointwise [near, colLine, blockOf]
  generalize IntOp.cmpi _ _ _ = b
  have h : ∀ b : BitVec 1, IntOp.ori b 1#1 = 1#1 := by decide
  exact h b

/-- Whether a row keeps any key. -/
def anyOf : IVec S512 1 := Host.reduce IntOp.ori mask (constantI S_ 1 0#1) reducesTo_S512x512_S512_d1 h_S_

/-- Every row keeps the first key. -/
theorem any_row (i : Fin 512) : anyOf (ix1 i) = 1#1 := by
  have hm : mask (ix2 i 0) = 1#1 := by
    show IntOp.ori (near (ix2 i 0)) _ = 1#1
    rw [near_zero]
    generalize cmpi _ _ _ _ = b
    revert b; decide
  unfold anyOf
  rw [Host.reduce_eq_fold]
  refine (Routing.fold_ori _ _).mpr ⟨ix2 i 0, Finset.mem_filter.mpr ⟨Finset.mem_univ _, ?_⟩, hm⟩
  funext a
  match a with
  | 0 => rfl

end Cert.ReferenceIdeal.Math

end
-- ==== Proof.Host.lean ====
module

public import proofs.«01_k».proof.Proof.Part
public import proofs.«01_k».proof.Proof.RefMask
public import proofs.«01_k».proof.Proof.Gen.KernelIdeal.Regions
public import Idealize.ShloMosaic.Lib.StableHlo.RunRead
public import Idealize.ShloMosaic.Lib.Layout
public import Idealize.ShloMosaic.Lib.DynamicIndex

/-!
What each device's kernel is given: its own columns and rows of the weights, its heads' keys and values, and the mask.
-/

@[expose] public section

noncomputable section

namespace Cert.KernelIdeal.Talk

open Cert.KernelIdeal Cert.KernelIdeal.Gen Cert.Attn
open Idealize.ShloMosaic Idealize.ShloMosaic.TcCoe

section
variable (V : Vals Ideal) (c : Dev nD)

theorem x_in : (insAt V c).x = V c main_arg0 := by
  funext i
  refine congrArg (V c main_arg0) (funext fun a => Fin.ext ?_)
  match a with
  | 0 => exact (show 0 + 1 * (i 0).val = _ by omega)
  | 1 => exact (show 0 + 1 * (i 1).val = _ by omega)
  | 2 => exact (show 0 + 1 * (i 2).val = _ by omega)

theorem wq_in : (insAt V c).wq = V c main_v9 := by
  funext i
  refine congrArg (V c main_v9) (funext fun a => Fin.ext ?_)
  match a with
  | 0 => exact (show 0 + 1 * (i 0).val = _ by omega)
  | 1 => exact (show 0 + 1 * (i 1).val = _ by omega)

theorem kt_in : (insAt V c).kt = V c main_v15 := by
  funext i
  refine congrArg (V c main_v15) (funext fun a => Fin.ext ?_)
  match a with
  | 0 => exact (show 0 + 1 * (i 0).val = _ by omega)
  | 1 => exact (show 0 + 1 * (i 1).val = _ by omega)
  | 2 => exact (show 0 + 1 * (i 2).val = _ by omega)
  | 3 => exact (show 0 + 1 * (i 3).val = _ by omega)

theorem vt_in : (insAt V c).vt = V c main_v16 := by
  funext i
  refine congrArg (V c main_v16) (funext fun a => Fin.ext ?_)
  match a with
  | 0 => exact (show 0 + 1 * (i 0).val = _ by omega)
  | 1 => exact (show 0 + 1 * (i 1).val = _ by omega)
  | 2 => exact (show 0 + 1 * (i 2).val = _ by omega)
  | 3 => exact (show 0 + 1 * (i 3).val = _ by omega)

theorem wo_in : (insAt V c).wo = V c main_v14 := by
  funext i
  refine congrArg (V c main_v14) (funext fun a => Fin.ext ?_)
  match a with
  | 0 => exact (show 0 + 1 * (i 0).val = _ by omega)
  | 1 => exact (show 0 + 1 * (i 1).val = _ by omega)

theorem mask_in : (insAt V c).mask = V c main_v37 := by
  funext i
  refine congrArg (V c main_v37) (funext fun a => Fin.ext ?_)
  match a with
  | 0 => exact (show 0 + 1 * (i 0).val = _ by omega)
  | 1 => exact (show 0 + 1 * (i 1).val = _ by omega)

end

variable (m : (ℓ : Loc nD τ sig) → Buf (Elt Ideal) ℓ) (c : Dev nD)

theorem x_host : V7 m c main_arg0 = m ((c : Thread nD τ).loc main_arg0) := by
  rw [V7_of _ _ _ (by decide), V6_of _ _ _ (by decide), V5_of _ _ _ (by decide), V4_of _ _ _ (by decide), V3_of _ _ _ (by decide), V2_of _ _ _ (by decide), V1_of _ _ _ (by decide)]

/-- A buffer that only the first stretch writes. -/
theorem first_host (r : Ref sig .tc) (h1 : r ∉ hostOps0_1_W) (h2 : r ∉ hostOps0_2_W) (h3 : r ∉ hostOps0_3_W) (h4 : r ∉ hostOps0_4_W) (h5 : r ∉ hostOps0_5_W)
    (h6 : r ∉ hostOps0_6_W) : V7 m c r = V1 m c r := by
  rw [V7_of _ _ _ h6, V6_of _ _ _ h5, V5_of _ _ _ h4, V4_of _ _ _ h3, V3_of _ _ _ h2, V2_of _ _ _ h1]

theorem k_host : V7 m c main_v15 = transpose S2x8x512x64 [0, 2, 1, 3] (m ((c : Thread nD τ).loc main_arg2)) transposes_S2x512x8x64_S2x8x512x64_0_2_1_3 := by
  rw [first_host _ _ _ (by decide) (by decide) (by decide) (by decide) (by decide) (by decide)]
  after_reads_simp

theorem v_host : V7 m c main_v16 = transpose S2x8x512x64 [0, 2, 1, 3] (m ((c : Thread nD τ).loc main_arg3)) transposes_S2x512x8x64_S2x8x512x64_0_2_1_3 := by
  rw [first_host _ _ _ (by decide) (by decide) (by decide) (by decide) (by decide) (by decide)]
  after_reads_simp

theorem wq_fits : ∀ c : Dev nD, S768x4096.Slices ![0, 512 * c.val] S768x512 := by decide
theorem wo_fits : ∀ c : Dev nD, S4096x768.Slices ![512 * c.val, 0] S512x768 := by decide

theorem wq_host : V7 m c main_v9 = extractStridedSlice S768x512 ![0, 512 * c.val] (m ((c : Thread nD τ).loc main_arg1) : FVec Ideal S768x4096 .bf16) (wq_fits c) := by
  rw [first_host _ _ _ (by decide) (by decide) (by decide) (by decide) (by decide) (by decide)]
  after_reads_simp
  refine Host.dynamicSlice_eq_extractStridedSlice _ _ _ _ _ _ fun a => ?_
  match a with
  | 0 =>
    show BitVec.toInt (StableHlo.upto (hostOps0 c) (V0 m c) 14 (Proc.tc.devRef main_c_4) (Shape.Idx.first h_S_) : BitVec 32) = 0
    after_reads_simp
    rfl
  | 1 =>
    show BitVec.toInt (StableHlo.upto (hostOps0 c) (V0 m c) 14 (Proc.tc.devRef main_v8) (Shape.Idx.first h_S_) : BitVec 32) = ((512 * c.val : ℕ) : Int)
    after_reads_simp
    revert c; decide

theorem wo_host : V7 m c main_v14 = extractStridedSlice S512x768 ![512 * c.val, 0] (m ((c : Thread nD τ).loc main_arg4) : FVec Ideal S4096x768 .bf16) (wo_fits c) := by
  rw [first_host _ _ _ (by decide) (by decide) (by decide) (by decide) (by decide) (by decide)]
  after_reads_simp
  refine Host.dynamicSlice_eq_extractStridedSlice _ _ _ _ _ _ fun a => ?_
  match a with
  | 0 =>
    show BitVec.toInt (StableHlo.upto (hostOps0 c) (V0 m c) 23 (Proc.tc.devRef main_v13) (Shape.Idx.first h_S_) : BitVec 32) = ((512 * c.val : ℕ) : Int)
    after_reads_simp
    revert c; decide
  | 1 =>
    show BitVec.toInt (StableHlo.upto (hostOps0 c) (V0 m c) 23 (Proc.tc.devRef main_c_8) (Shape.Idx.first h_S_) : BitVec 32) = 0
    after_reads_simp
    rfl

section
open Cert.ReferenceIdeal.Math (blockOf rowBlock colLine colBlock three modThree near keep)
variable (W : Valuation τ sig (Elt Ideal))

theorem div_row (hc : W main_c_9 = constantI S_ 32 64#32) (hv : W main_v17 = iotaInDim S512 32 0) : StableHlo.after hostOps0_1 W main_v18 = blockOf := by
  rw [hostOps0_1]
  simp only [StableHlo.TRef.binary, StableHlo.TRef.nullary, StableHlo.TRef.ternary, StableHlo.TRef.unary, StableHlo.TRef.toBuf, StableHlo.TRef.ofBuf, cast_eq]
  after_reads_simp
  rw [hc, hv]
  rfl

theorem div_col (hc : W main_c_10 = constantI S_ 32 64#32) (hv : W main_v20 = iotaInDim S512 32 0) : StableHlo.after hostOps0_3 W main_v21 = blockOf := by
  rw [hostOps0_3]
  simp only [StableHlo.TRef.binary, StableHlo.TRef.nullary, StableHlo.TRef.ternary, StableHlo.TRef.unary, StableHlo.TRef.toBuf, StableHlo.TRef.ofBuf, cast_eq]
  after_reads_simp
  rw [hc, hv]
  rfl

theorem rem_three (hc : W main_c_12 = constantI S_ 32 3#32) : StableHlo.after hostOps0_5 W main_v33 = modThree (W main_v32) := by
  rw [hostOps0_5]
  simp only [StableHlo.TRef.binary, StableHlo.TRef.nullary, StableHlo.TRef.ternary, StableHlo.TRef.unary, StableHlo.TRef.toBuf, StableHlo.TRef.ofBuf, cast_eq]
  after_reads_simp
  rw [hc]
  rfl

theorem near_after (h1 : W main_v19 = broadcastInDim S512x1 ![0] bcast_S512_S512x1_0 blockOf) (h2 : W main_v21 = blockOf) :
    StableHlo.after hostOps0_4 W main_v29 = near ∧ StableHlo.after hostOps0_4 W main_v32 = addi rowBlock colBlock
      ∧ StableHlo.after hostOps0_4 W main_c_12 = constantI S_ 32 3#32 := by
  refine ⟨?_, ?_, ?_⟩
  · after_reads_simp
    rw [h1, h2]
    rfl
  · after_reads_simp
    rw [h1, h2]
    rfl
  · after_reads_simp

theorem mask_after : StableHlo.after hostOps0_6 W main_v37 = uitofp (F := Ideal) .f32 (ori (W main_v29 : IVec S512x512 1)
    (cmpi .eq (W main_v33 : IVec S512x512 32) (broadcastInDim S512x512 ![] bcast_S_S512x512 (constantI S_ 32 0#32)))) := by
  after_reads_simp

end

theorem mask_host : V7 m c main_v37 = uitofp (F := Ideal) .f32 Cert.ReferenceIdeal.Math.mask := by
  have a1 : V1 m c main_c_9 = constantI S_ 32 64#32 := by after_reads_simp
  have a2 : V1 m c main_v17 = iotaInDim S512 32 0 := by after_reads_simp
  have b := div_row (V1 m c) a1 a2
  have c1 : V3 m c main_c_10 = constantI S_ 32 64#32 := by after_reads_simp
  have c2 : V3 m c main_v20 = iotaInDim S512 32 0 := by after_reads_simp
  have c3 : V3 m c main_v19 = broadcastInDim S512x1 ![0] bcast_S512_S512x1_0 (V2 m c main_v18) := by after_reads_simp
  have d := div_col (V3 m c) c1 c2
  obtain ⟨e1, e2, e3⟩ := near_after (V4 m c) ((V4_of _ _ _ (by decide)).trans (c3.trans (congrArg _ b))) d
  have f := rem_three (V5 m c) e3
  refine (mask_after (V6 m c)).trans ?_
  rw [show V6 m c main_v29 = _ from (V6_of _ _ _ (by decide)).trans e1, show V6 m c main_v33 = _ from f.trans (congrArg _ e2)]
  rfl

theorem mask_at (i j : Fin 512) : (insAt (V7 m) c).mask (ix2 i j) = if Cert.ReferenceIdeal.Math.keep i j = 1#1 then (1 : EReal) else 0 := by
  rw [mask_in, mask_host]
  unfold Cert.ReferenceIdeal.Math.keep
  generalize Cert.ReferenceIdeal.Math.mask = w
  show FloatOps.uitofp (F := Ideal) .f32 (w (ix2 i j)) = _
  generalize w (ix2 i j) = b
  rcases BitVec.eq_zero_or_eq_one b with rfl | rfl
  · rw [if_neg (by decide)]
    show (((0#1 : BitVec 1).toNat : ℝ) : EReal) = 0
    simp
  · rw [if_pos rfl]
    show (((1#1 : BitVec 1).toNat : ℝ) : EReal) = 1
    simp

end Cert.KernelIdeal.Talk

end
-- ==== Proof.RefValue.lean ====
module

public import proofs.«01_k».proof.Proof.Attn
public import proofs.«01_k».proof.Proof.RefMask
public import proofs.«01_k».proof.Proof.Gen.ReferenceIdeal.Run

/-!
The reference's result over the extended reals: a sum over all heads of their mixes times the output weights.
-/

@[expose] public section

noncomputable section

namespace Cert.ReferenceIdeal.Math

open Cert.ReferenceIdeal Cert.ReferenceIdeal.Gen Cert.Attn Idealize.ShloMosaic Idealize.ShloMosaic.TcCoe

section
variable {F : FTy → Type} [FloatOps F]
variable (x : FVec F S2x512x768 .bf16) (wq : FVec F S768x4096 .bf16) (k v : FVec F S2x512x64x64 .bf16) (wo : FVec F S4096x768 .bf16)

/-- The queries. -/
def query : FVec F S2x512x64x64 .f32 :=
  shapeCast S2x512x64x64 (extf .f32 (truncf .bf16 (Host.dotGeneral dot_S2x512x768_S768x4096_S2x512x4096_2_0_01_1_n_n none (extf .f32 x bitsLt_bf16_f32) (extf .f32 wq bitsLt_bf16_f32)) bitsLt_bf16_f32) bitsLt_bf16_f32)
    shapeCasts_S2x512x4096_S2x512x64x64

/-- The scores, masked. -/
def scores (q : FVec F S2x512x64x64 .f32) : FVec F S2x64x512x512 .f32 :=
  select (broadcastInDim S2x64x512x512 ![0, 1, 2, 3] bcast_S1x1x512x512_S2x64x512x512_0_1_2_3 (broadcastInDim S1x1x512x512 ![2, 3] bcast_S512x512_S1x1x512x512_2_3 mask))
    (mulf (extf .f32 (truncf .bf16 (Host.dotGeneral dot_S2x512x64x64_S2x512x64x64_S2x64x512x512_3_3_1_1_02_02 none q (extf .f32 k bitsLt_bf16_f32)) bitsLt_bf16_f32) bitsLt_bf16_f32)
      (broadcastInDim S2x64x512x512 ![] bcast_S_S2x64x512x512 (constant S_ .f32 0x3E000000#32)))
    (broadcastInDim S2x64x512x512 ![] bcast_S_S2x64x512x512 (id (constant S_ .f32 0xFF800000#32)))

/-- Each row's greatest score. -/
def tops (s : FVec F S2x64x512x512 .f32) : FVec F S2x64x512 .f32 :=
  Host.reduce FloatOps.maximumf s (constant S_ .f32 0xFF800000#32) reducesTo_S2x64x512x512_S2x64x512_d3 h_S_

/-- The weights. -/
def weights (s : FVec F S2x64x512x512 .f32) : FVec F S2x64x512x512 .f32 :=
  Host.exp (subf s (broadcastInDim S2x64x512x512 ![0, 1, 2, 3] bcast_S2x64x512x1_S2x64x512x512_0_1_2_3
    (broadcastInDim S2x64x512x1 ![0, 1, 2] bcast_S2x64x512_S2x64x512x1_0_1_2 (tops s))))

/-- The shares: weights over their row's sum, where the row keeps any key. -/
def chances (w : FVec F S2x64x512x512 .f32) : FVec F S2x64x512x512 .f32 :=
  select (broadcastInDim S2x64x512x512 ![0, 1, 2, 3] bcast_S1x1x512x1_S2x64x512x512_0_1_2_3 (broadcastInDim S1x1x512x1 ![2] bcast_S512_S1x1x512x1_2 anyOf))
    (Host.divf w (broadcastInDim S2x64x512x512 ![0, 1, 2, 3] bcast_S2x64x512x1_S2x64x512x512_0_1_2_3
      (select (broadcastInDim S2x64x512x1 ![0, 1, 2, 3] bcast_S1x1x512x1_S2x64x512x1_0_1_2_3 (broadcastInDim S1x1x512x1 ![2] bcast_S512_S1x1x512x1_2 anyOf))
        (broadcastInDim S2x64x512x1 ![0, 1, 2] bcast_S2x64x512_S2x64x512x1_0_1_2 (Host.reduceAdd w (constant S_ .f32 0x00000000#32) reducesTo_S2x64x512x512_S2x64x512_d3 h_S_))
        (broadcastInDim S2x64x512x1 ![] bcast_S_S2x64x512x1 (id (constant S_ .f32 0x3F800000#32))))))
    (broadcastInDim S2x64x512x512 ![] bcast_S_S2x64x512x512 (id (constant S_ .f32 0x00000000#32)))

/-- The mixes of all heads, side by side. -/
def mixes (p : FVec F S2x64x512x512 .f32) : FVec F S2x512x4096 .f32 :=
  shapeCast S2x512x4096 (transpose S2x512x64x64 [0, 3, 1, 2] (Host.dotGeneral dot_S2x512x64x64_S2x64x512x512_S2x64x64x512_1_3_3_2_02_01 none (extf .f32 v bitsLt_bf16_f32) p)
    transposes_S2x64x64x512_S2x512x64x64_0_3_1_2) shapeCasts_S2x512x64x64_S2x512x4096

/-- The result. -/
def out (c : FVec F S2x512x4096 .f32) : FVec F S2x512x768 .bf16 :=
  truncf .bf16 (Host.dotGeneral dot_S2x512x4096_S4096x768_S2x512x768_2_0_01_1_n_n none c (extf .f32 wo bitsLt_bf16_f32)) bitsLt_bf16_f32

def whole : FVec F S2x512x768 .bf16 := out wo (mixes v (chances (weights (scores k (query x wq)))))

set_option maxRecDepth 65536 in
set_option maxHeartbeats 4000000 in
theorem res_eq (m : (ℓ : Loc nD τ sig) → Buf (Elt F) ℓ) (c : Dev nD) : Value.res_main_v54 m c
    = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end

section
variable (x : FVec Ideal S2x512x768 .bf16) (wq : FVec Ideal S768x4096 .bf16) (k v : FVec Ideal S2x512x64x64 .bf16) (wo : FVec Ideal S4096x768 .bf16)

theorem query_at (b : Fin 2) (i : Fin 512) (h d : Fin 64) :
    query x wq (ix4 b i h d) = ∑ a : Fin 768, x (ix3 b i a) * wq (ix2 a (col h d)) := by
  pointwise [query, col]

theorem ninf : (Ideal.ofBits .f32 0xFF800000#32 : EReal) = ⊥ := by simp [Ideal.ofBits, Ideal.ieee]

theorem scores_at (q : FVec Ideal S2x512x64x64 .f32) (b : Fin 2) (h : Fin 64) (i j : Fin 512) :
    scores k q (ix4 b h i j) = score (keep i j) (∑ e : Fin 64, q (ix4 b i h e) * k (ix4 b j h e)) := by
  pointwise [scores, score, keep]
  exact congrArg (fun z : EReal => Scalar.select _ _ z) ninf

theorem tops_at (s : FVec Ideal S2x64x512x512 .f32) (b : Fin 2) (h : Fin 64) (i : Fin 512) :
    tops s (ix3 b h i) = rowMax fun j => s (ix4 b h i j) := by
  pointwise [tops, rowMax]

theorem weights_at (s : FVec Ideal S2x64x512x512 .f32) (b : Fin 2) (h : Fin 64) (i j : Fin 512) :
    weights s (ix4 b h i j) = weight (fun j => s (ix4 b h i j)) j := by
  unfold weight
  rw [← tops_at]
  pointwise [weights]

theorem chances_at (w : FVec Ideal S2x64x512x512 .f32) (b : Fin 2) (h : Fin 64) (i j : Fin 512) :
    chances w (ix4 b h i j) = Ideal.div (w (ix4 b h i j)) (∑ j, w (ix4 b h i j)) := by
  pointwise [chances, any_row]

theorem mixes_at (p : FVec Ideal S2x64x512x512 .f32) (b : Fin 2) (i : Fin 512) (h d : Fin 64) :
    mixes v p (ix3 b i (col h d)) = ∑ j : Fin 512, p (ix4 b h i j) * v (ix4 b j h d) := by
  simp only [mul_comm (p _)]
  pointwise [mixes, col]

theorem out_at (c : FVec Ideal S2x512x4096 .f32) (b : Fin 2) (i : Fin 512) (n : Fin 768) :
    out wo c (ix3 b i n) = ∑ e : Fin 4096, c (ix3 b i e) * wo (ix2 e n) := by
  pointwise [out]

/-- The result, entry by entry. -/
theorem whole_at (b : Fin 2) (i : Fin 512) (n : Fin 768) :
    whole x wq k v wo (ix3 b i n) = ∑ c : Fin 8, ∑ h : Fin 8, ∑ d : Fin 64,
      head keep (fun b i a => x (ix3 b i a)) (fun a e => wq (ix2 a (col (hd c h) e)))
        (fun b j e => k (ix4 b j (hd c h) e)) (fun b j e => v (ix4 b j (hd c h) e)) b i d * wo (ix2 (col (hd c h) d) n) := by
  unfold whole
  rw [out_at, sum_cols]
  refine Finset.sum_congr rfl fun c _ => Finset.sum_congr rfl fun h _ => Finset.sum_congr rfl fun d _ => ?_
  simp only [mixes_at, chances_at, weights_at, scores_at, query_at]
  rfl

end

end Cert.ReferenceIdeal.Math

end
-- ==== Proof.Equation.lean ====
module

public import proofs.«01_k».proof.Proof.Host
public import proofs.«01_k».proof.Proof.RefValue

/-!
The equation: the devices' partial sums, added up, are the reference's result.
-/

@[expose] public section

noncomputable section

namespace Cert.KernelIdeal.Talk

open Cert.KernelIdeal Cert.KernelIdeal.Gen Cert.Attn
open Idealize.ShloMosaic Idealize.ShloMosaic.TcCoe

variable (m : (ℓ : Loc nD τ sig) → Buf (Elt Ideal) ℓ) (c : Dev nD)

theorem wq_at (wq : FVec Ideal S768x4096 .bf16) (hw : m ((c : Thread nD τ).loc main_arg1) = wq) (h : Fin 8) (e : Fin 64) (a : Fin 768) :
    (insAt (V7 m) c).wq (ix2 a ⟨64 * h.val + e.val, by omega⟩) = wq (ix2 a (col (hd c h) e)) := by
  rw [wq_in, wq_host, hw]
  refine congrArg wq (funext fun i => Fin.ext ?_)
  match i with
  | 0 => exact (show 0 + a.val = a.val by omega)
  | 1 => exact (show 512 * c.val + (64 * h.val + e.val) = (8 * c.val + h.val) * 64 + e.val by omega)

theorem wo_at (wo : FVec Ideal S4096x768 .bf16) (hw : m ((c : Thread nD τ).loc main_arg4) = wo) (h : Fin 8) (d : Fin 64) (n : Fin 768) :
    (insAt (V7 m) c).wo (ix2 ⟨64 * h.val + d.val, by omega⟩ n) = wo (ix2 (col (hd c h) d) n) := by
  rw [wo_in, wo_host, hw]
  refine congrArg wo (funext fun i => Fin.ext ?_)
  match i with
  | 0 => exact (show 512 * c.val + (64 * h.val + d.val) = (8 * c.val + h.val) * 64 + d.val by omega)
  | 1 => exact (show 0 + n.val = n.val by omega)

/-- A device's heads, moved in front of the positions. -/
theorem heads_at (k : (⟨4, ![2, 512, 64, 64]⟩ : Shape).Idx → EReal) (b : Fin 2) (h : Fin 8) (j : Fin 512) (e : Fin 64) :
    transpose S2x8x512x64 [0, 2, 1, 3] (Layout.block ⟨4, ![2, 512, 8, 64]⟩ ⟨4, ![2, 512, 64, 64]⟩ 2 8 c k : S2x512x8x64.Idx → EReal)
      transposes_S2x512x8x64_S2x8x512x64_0_2_1_3 (ix4 b h j e) = k (ix4 b j (hd c h) e) := by
  refine congrArg k (funext fun i => Fin.ext ?_)
  match i with
  | 0 => rfl
  | 1 => rfl
  | 2 => exact (show c.val * 8 + h.val = 8 * c.val + h.val by omega)
  | 3 => rfl

/-- The kernel's result is the reference's. -/
theorem equation (x : FVec Ideal S2x512x768 .bf16) (wq : FVec Ideal S768x4096 .bf16) (k v : FVec Ideal ⟨4, ![2, 512, 64, 64]⟩ .bf16) (wo : FVec Ideal S4096x768 .bf16)
    (hx : ∀ c : Dev nD, m ((c : Thread nD τ).loc main_arg0) = x) (hq : ∀ c : Dev nD, m ((c : Thread nD τ).loc main_arg1) = wq)
    (hk : ∀ c : Dev nD, m ((c : Thread nD τ).loc main_arg2) = Layout.block ⟨4, ![2, 512, 8, 64]⟩ ⟨4, ![2, 512, 64, 64]⟩ 2 8 c k)
    (hv : ∀ c : Dev nD, m ((c : Thread nD τ).loc main_arg3) = Layout.block ⟨4, ![2, 512, 8, 64]⟩ ⟨4, ![2, 512, 64, 64]⟩ 2 8 c v)
    (ho : ∀ c : Dev nD, m ((c : Thread nD τ).loc main_arg4) = wo) :
    outAt (V7 m) = Cert.ReferenceIdeal.Math.whole x wq k v wo := by
  suffices H : ∀ (b : Fin 2) (i : Fin 512) (n : Fin 768), outAt (V7 m) (ix3 b i n) = Cert.ReferenceIdeal.Math.whole x wq k v wo (ix3 b i n) by
    refine funext fun (j : S2x512x768.Idx) => ?_
    have hj : j = ix3 (n0 := 2) (n1 := 512) (n2 := 768) (j 0) (j 1) (j 2) := by
      funext a
      match a with
      | 0 => rfl
      | 1 => rfl
      | 2 => rfl
    rw [hj]
    exact H _ _ _
  intro b i n
  refine (out_value (V7 m) b i n).trans (Eq.trans ?_ (Cert.ReferenceIdeal.Math.whole_at x wq k v wo b i n).symm)
  refine Finset.sum_congr rfl fun c _ => ?_
  rw [acc_value _ _ (mask_at m c)]
  refine Finset.sum_congr rfl fun h _ => Finset.sum_congr rfl fun d _ => ?_
  rw [wo_at m c wo (ho c)]
  refine congrArg (· * wo (ix2 (col (hd c h) d) n)) ?_
  have h1 : (insAt (V7 m) c).x = x := by rw [x_in, x_host, hx]
  have h2 : ∀ b j e, (insAt (V7 m) c).kt (ix4 b h j e) = k (ix4 b j (hd c h) e) := fun b j e => by rw [kt_in, k_host, hk]; exact heads_at c k b h j e
  have h3 : ∀ b j e, (insAt (V7 m) c).vt (ix4 b h j e) = v (ix4 b j (hd c h) e) := fun b j e => by rw [vt_in, v_host, hv]; exact heads_at c v b h j e
  simp only [wq_at m c wq (hq c), h1, h2, h3]

end Cert.KernelIdeal.Talk

end
-- ==== Proof.lean ====
/- The claims, assembled: each is proved in a module of its own under proof/Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.RefRun
public import proofs.«01_k».proof.Proof.Equation

@[expose] public section

noncomputable section

namespace Cert.Proof

open Idealize.ShloMosaic Idealize.ShloMosaic.TcCoe Idealize.SL.Sem

theorem frame_kernel [Cert.Kernel.Facts] : Cert.quiescent_Kernel := fun m g _ => Cert.Same.frame_run m g

theorem frame_ideal [Cert.KernelIdeal.Facts] : Cert.quiescent_KernelIdeal := fun m g _ =>
  θ_run_mono (Cert.KernelIdeal.Talk.main_run m g) fun _ h =>
    ⟨fun c => ⟨(h.1 c).1, (h.1 c).2.1, (h.1 c).2.2.1, (h.1 c).2.2.2.1, (h.1 c).2.2.2.2.1⟩, h.2⟩

theorem frame_reference [Cert.ReferenceIdeal.Facts] : Cert.quiescent_ReferenceIdeal := fun m g _ => Cert.ReferenceIdeal.Line.frame_run m g

theorem preserves : Cert.preserves_Kernel_KernelIdeal :=
  IdealRules.named_const.statement Cert.KernelIdeal.κ "mask" .f32 0xCE6E6B28#32 ⊥ rfl

theorem algebraic [hK : Cert.KernelIdeal.Facts] [hR : Cert.ReferenceIdeal.Facts] : Cert.algebraic_KernelIdeal_ReferenceIdeal := by
  intro m g m' g' _ h
  have he := Cert.KernelIdeal.Talk.equation m _ _ _ _ _ (fun c => (h c).1) (fun c => (h c).2.1) (fun c => (h c).2.2.1) (fun c => (h c).2.2.2.1) (fun c => (h c).2.2.2.2)
  refine ⟨Cert.ReferenceIdeal.Value.res_main_v54 m' 0, ?_, ?_⟩
  · exact θ_run_mono (Cert.KernelIdeal.Talk.main_run m g) fun _ hr c =>
      ⟨(hr.1 c).2.2.2.2.2.1.trans (he.trans (Cert.ReferenceIdeal.Math.res_eq m' 0).symm),
        (hr.1 c).1, (hr.1 c).2.1, (hr.1 c).2.2.1, (hr.1 c).2.2.2.1, (hr.1 c).2.2.2.2.1⟩
  · exact θ_run_mono (Cert.ReferenceIdeal.Value.run m' g') fun _ hr => hr 0

theorem claim : Cert.Claim :=
  ⟨Cert.Kernel.Gen.facts, Cert.KernelIdeal.Gen.facts, Cert.ReferenceIdeal.Gen.facts, frame_kernel, frame_ideal, frame_reference, preserves, algebraic⟩

end Cert.Proof

end
